-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S2x128x3072 : Shape := ⟨3, ![2, 128, 3072]⟩
abbrev S14336x3072 : Shape := ⟨2, ![14336, 3072]⟩
abbrev S14336 : Shape := ⟨1, ![14336]⟩
abbrev S28x16 : Shape := ⟨2, ![28, 16]⟩
abbrev S40x192 : Shape := ⟨2, ![40, 192]⟩
abbrev S512x40 : Shape := ⟨2, ![512, 40]⟩
abbrev S_ : Shape := ⟨0, ![]⟩

class Facts : Prop where
  bcast_S_S2x128x3072 : S_.BroadcastsInDim S2x128x3072 (![] : Fin 0 → Fin S2x128x3072.rank)
  reducesTo_S2x128x3072_S_d0_1_2 : S2x128x3072.ReducesTo [0, 1, 2] S_
  h_S_ : 0 < S_.numel

variable [Facts]

def fn {F : FTy → Type} [FloatOps F] (main_arg0 : FVec F S2x128x3072 .bf16) (main_arg1 : FVec F S14336x3072 .fp8e4m3) (main_arg2 : FVec F S14336 .f32) (main_arg3 : FVec F S28x16 .bf16) (main_arg4 : FVec F S40x192 .bf16) (main_arg5 : FVec F S512x40 .bf16) : IVec S_ 1 :=
  let main_v0 : FVec F S2x128x3072 .bf16 := Host.absf main_arg0
  let main_cst : FVec F S_ .bf16 := constant S_ .bf16 0x7F7F#16
  let main_v1 : FVec F S2x128x3072 .bf16 := broadcastInDim S2x128x3072 ![] bcast_S_S2x128x3072 main_cst
  let main_v2 : IVec S2x128x3072 1 := cmpf .ole main_v0 main_v1
  let main_c : IVec S_ 1 := constantI S_ 1 1#1
  let main_v3 : IVec S_ 1 := (fun x v => Host.reduce IntOp.andi x v reducesTo_S2x128x3072_S_d0_1_2 h_S_) main_v2 main_c
  main_v3
-- ==== Kernel.lean ====
abbrev S2x128x3072 : Shape := ⟨3, ![2, 128, 3072]⟩
abbrev S14336x3072 : Shape := ⟨2, ![14336, 3072]⟩
abbrev S14336 : Shape := ⟨1, ![14336]⟩
abbrev S28x16 : Shape := ⟨2, ![28, 16]⟩
abbrev S40x192 : Shape := ⟨2, ![40, 192]⟩
abbrev S512x40 : Shape := ⟨2, ![512, 40]⟩
abbrev S256x3072 : Shape := ⟨2, ![256, 3072]⟩
abbrev S1x14336 : Shape := ⟨2, ![1, 14336]⟩
abbrev S16x28 : Shape := ⟨2, ![16, 28]⟩
abbrev S40x512 : Shape := ⟨2, ![40, 512]⟩
abbrev S256x14336 : Shape := ⟨2, ![256, 14336]⟩
abbrev S2x128 : Shape := ⟨2, ![2, 128]⟩
abbrev S20x512x3072 : Shape := ⟨3, ![20, 512, 3072]⟩
abbrev S256x768 : Shape := ⟨2, ![256, 768]⟩
abbrev S2x128x512 : Shape := ⟨3, ![2, 128, 512]⟩
abbrev S448x256 : Shape := ⟨2, ![448, 256]⟩
abbrev S256x1024 : Shape := ⟨2, ![256, 1024]⟩
abbrev S16x256x512 : Shape := ⟨3, ![16, 256, 512]⟩
abbrev S28x256x512 : Shape := ⟨3, ![28, 256, 512]⟩
abbrev S256x128 : Shape := ⟨2, ![256, 128]⟩
abbrev S3x256x512 : Shape := ⟨3, ![3, 256, 512]⟩
abbrev S_ : Shape := ⟨0, ![]⟩
abbrev S4 : Shape := ⟨1, ![4]⟩
abbrev S20 : Shape := ⟨1, ![20]⟩
abbrev S3 : Shape := ⟨1, ![3]⟩
abbrev S2 : Shape := ⟨1, ![2]⟩
abbrev S1 : Shape := ⟨1, ![1]⟩
abbrev S1x512x3072 : Shape := ⟨3, ![1, 512, 3072]⟩
abbrev S512x3072 : Shape := ⟨2, ![512, 3072]⟩
abbrev S1x40x512 : Shape := ⟨3, ![1, 40, 512]⟩
abbrev S16x256 : Shape := ⟨2, ![16, 256]⟩
abbrev S28x256 : Shape := ⟨2, ![28, 256]⟩
abbrev S1x256 : Shape := ⟨2, ![1, 256]⟩
abbrev S256 : Shape := ⟨1, ![256]⟩
abbrev S256x1 : Shape := ⟨2, ![256, 1]⟩
abbrev S128x128 : Shape := ⟨2, ![128, 128]⟩
abbrev S1x128 : Shape := ⟨2, ![1, 128]⟩
abbrev S256x256 : Shape := ⟨2, ![256, 256]⟩
abbrev S1x128x512 : Shape := ⟨3, ![1, 128, 512]⟩
abbrev S128x512 : Shape := ⟨2, ![128, 512]⟩
abbrev S256x512 : Shape := ⟨2, ![256, 512]⟩
abbrev S1x256x512 : Shape := ⟨3, ![1, 256, 512]⟩
abbrev S16x16x512 : Shape := ⟨3, ![16, 16, 512]⟩
abbrev S448x512 : Shape := ⟨2, ![448, 512]⟩
abbrev S28x16x512 : Shape := ⟨3, ![28, 16, 512]⟩
abbrev S1x512 : Shape := ⟨2, ![1, 512]⟩
abbrev S2x128x14336 : Shape := ⟨3, ![2, 128, 14336]⟩

abbrev nBuf : Space → Nat
  | .hbm => 15
  | .vmem => 16
  | .smem => 0
  | _ => 0

abbrev bufTy : (tb : Table) → Fin (tcTables nBuf tb) → BufTy
  | .hbm, ⟨0, _⟩ => ⟨S2x128x3072, .bf16⟩
  | .hbm, ⟨1, _⟩ => ⟨S14336x3072, .fp8e4m3⟩
  | .hbm, ⟨2, _⟩ => ⟨S14336, .f32⟩
  | .hbm, ⟨3, _⟩ => ⟨S28x16, .bf16⟩
  | .hbm, ⟨4, _⟩ => ⟨S40x192, .bf16⟩
  | .hbm, ⟨5, _⟩ => ⟨S512x40, .bf16⟩
  | .hbm, ⟨6, _⟩ => ⟨S256x3072, .bf16⟩
  | .hbm, ⟨7, _⟩ => ⟨S1x14336, .f32⟩
  | .hbm, ⟨8, _⟩ => ⟨S16x28, .bf16⟩
  | .hbm, ⟨9, _⟩ => ⟨S40x512, .bf16⟩
  | .hbm, ⟨10, _⟩ => ⟨S256x14336, .bf16⟩
  | .hbm, ⟨11, _⟩ => ⟨S256x3072, .fp8e4m3⟩
  | .hbm, ⟨12, _⟩ => ⟨S2x128, .f32⟩
  | .hbm, ⟨13, _⟩ => ⟨S2x128x14336, .bf16⟩
  | .hbm, ⟨14, _⟩ => ⟨S2x128x3072, .fp8e4m3⟩
  | .local _ .vmem, ⟨0, _⟩ => ⟨S256x3072, .bf16⟩
  | .local _ .vmem, ⟨1, _⟩ => ⟨S256x3072, .fp8e4m3⟩
  | .local _ .vmem, ⟨2, _⟩ => ⟨S20x512x3072, .fp8e4m3⟩
  | .local _ .vmem, ⟨3, _⟩ => ⟨S1x14336, .f32⟩
  | .local _ .vmem, ⟨4, _⟩ => ⟨S16x28, .bf16⟩
  | .local _ .vmem, ⟨5, _⟩ => ⟨S40x192, .bf16⟩
  | .local _ .vmem, ⟨6, _⟩ => ⟨S40x512, .bf16⟩
  | .local _ .vmem, ⟨7, _⟩ => ⟨S256x768, .bf16⟩
  | .local _ .vmem, ⟨8, _⟩ => ⟨S2x128x512, .bf16⟩
  | .local _ .vmem, ⟨9, _⟩ => ⟨S448x256, .bf16⟩
  | .local _ .vmem, ⟨10, _⟩ => ⟨S256x1024, .bf16⟩
  | .local _ .vmem, ⟨11, _⟩ => ⟨S16x256x512, .bf16⟩
  | .local _ .vmem, ⟨12, _⟩ => ⟨S28x256x512, .f32⟩
  | .local _ .vmem, ⟨13, _⟩ => ⟨S256x128, .f32⟩
  | .local _ .vmem, ⟨14, _⟩ => ⟨S2x128, .f32⟩
  | .local _ .vmem, ⟨15, _⟩ => ⟨S3x256x512, .bf16⟩
  | _, _ => ⟨S2x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c20_i32 : BitVec 32 := 20#32
  let v8 : BitVec 32 := Scalar.addi c0_i32_0 c20_i32
  let c1_i32_1 : BitVec 32 := 1#32
  ⟨c0_i32_0, v8, c1_i32_1⟩
def k0_mult1 (k0_t1 : Fin k0_t1_loop.trips) : BitVec 32 :=
  let c0_i32_0 : BitVec 32 := 0#32
  let c1_i32_1 : BitVec 32 := 1#32
  let arg30 : BitVec 32 := Scf.iv c0_i32_0 c1_i32_1 k0_t1
  let c512_i32 : BitVec 32 := 512#32
  let v664 : BitVec 32 := Scalar.muli arg30 c512_i32
  v664
def k0_off1 (k0_t1 : Fin k0_t1_loop.trips) : Fin 1 → Nat :=
  let c0_i32_0 : BitVec 32 := 0#32
  let c1_i32_1 : BitVec 32 := 1#32
  let arg30 : BitVec 32 := Scf.iv c0_i32_0 c1_i32_1 k0_t1
  let c20_i32_319 : BitVec 32 := 20#32
  let v663 : BitVec 32 := Scalar.remsi arg30 c20_i32_319
  ![v663.toNat]
def k0_off2 (k0_t1 : Fin k0_t1_loop.trips) : Fin 3 → Nat :=
  let c0_i32_0 : BitVec 32 := 0#32
  let c1_i32_1 : BitVec 32 := 1#32
  let arg30 : BitVec 32 := Scf.iv c0_i32_0 c1_i32_1 k0_t1
  let c20_i32_319 : BitVec 32 := 20#32
  let v663 : BitVec 32 := Scalar.remsi arg30 c20_i32_319
  let c0_i32_320 : BitVec 32 := 0#32
  let c0_i32_321 : BitVec 32 := 0#32
  ![v663.toNat, 0, 0]
def k0_off3 (k0_t1 : Fin k0_t1_loop.trips) : Fin 2 → Nat :=
  let c0_i32_0 : BitVec 32 := 0#32
  let c1_i32_1 : BitVec 32 := 1#32
  let arg30 : BitVec 32 := Scf.iv c0_i32_0 c1_i32_1 k0_t1
  let c512_i32 : BitVec 32 := 512#32
  let v664 : BitVec 32 := Scalar.muli arg30 c512_i32
  let v665 : BitVec 32 := v664
  let c0_i32_322 : BitVec 32 := 0#32
  ![v665.toNat, 0]
@[reducible] def k0_t2_loop : Scf.Loop 32 :=
  let c0_i32_296 : BitVec 32 := 0#32
  let c16_i32_297 : BitVec 32 := 16#32
  let v634 : BitVec 32 := Scalar.addi c0_i32_296 c16_i32_297
  let c1_i32_298 : BitVec 32 := 1#32
  ⟨c0_i32_296, v634, c1_i32_298⟩
def k0_mult2 (k0_t2 : Fin k0_t2_loop.trips) : BitVec 32 :=
  let c0_i32_296 : BitVec 32 := 0#32
  let c1_i32_298 : BitVec 32 := 1#32
  let arg30 : BitVec 32 := Scf.iv c0_i32_296 c1_i32_298 k0_t2
  let c16_i32_319 : BitVec 32 := 16#32
  let v663 : BitVec 32 := Scalar.muli arg30 c16_i32_319
  v663
def k0_off4 (k0_t2 : Fin k0_t2_loop.trips) : Fin 3 → Nat :=
  let c0_320 : Index := 0#32
  let c0_i32_296 : BitVec 32 := 0#32
  let c1_i32_298 : BitVec 32 := 1#32
  let arg30 : BitVec 32 := Scf.iv c0_i32_296 c1_i32_298 k0_t2
  let c16_i32_319 : BitVec 32 := 16#32
  let v663 : BitVec 32 := Scalar.muli arg30 c16_i32_319
  let v664 : BitVec 32 := v663
  let v665 : Index := Scalar.indexCast v664
  let c0_321 : Index := 0#32
  ![0, v665.toNat, 0]
def k0_off5 (k0_t2 : Fin k0_t2_loop.trips) : Fin 3 → Nat :=
  let c0_326 : Index := 0#32
  let c0_i32_296 : BitVec 32 := 0#32
  let c1_i32_298 : BitVec 32 := 1#32
  let arg30 : BitVec 32 := Scf.iv c0_i32_296 c1_i32_298 k0_t2
  let c16_i32_319 : BitVec 32 := 16#32
  let v663 : BitVec 32 := Scalar.muli arg30 c16_i32_319
  let v664 : BitVec 32 := v663
  let v673 : Index := Scalar.indexCast v664
  let c0_327 : Index := 0#32
  ![0, v673.toNat, 0]
@[reducible] def k0_t3_loop : Scf.Loop 32 :=
  let c0_i32_302 : BitVec 32 := 0#32
  let c28_i32 : BitVec 32 := 28#32
  let v637 : BitVec 32 := Scalar.addi c0_i32_302 c28_i32
  let c1_i32_303 : BitVec 32 := 1#32
  ⟨c0_i32_302, v637, c1_i32_303⟩
def k0_mult3 (k0_t3 : Fin k0_t3_loop.trips) : BitVec 32 :=
  let c0_i32_302 : BitVec 32 := 0#32
  let c1_i32_303 : BitVec 32 := 1#32
  let arg30 : BitVec 32 := Scf.iv c0_i32_302 c1_i32_303 k0_t3
  let c512_i32 : BitVec 32 := 512#32
  let v664 : BitVec 32 := Scalar.muli arg30 c512_i32
  v664
def k0_off6 (k0_t3 : Fin k0_t3_loop.trips) : Fin 1 → Nat :=
  let c0_i32_302 : BitVec 32 := 0#32
  let c1_i32_303 : BitVec 32 := 1#32
  let arg30 : BitVec 32 := Scf.iv c0_i32_302 c1_i32_303 k0_t3
  let c20_i32_319 : BitVec 32 := 20#32
  let v663 : BitVec 32 := Scalar.remsi arg30 c20_i32_319
  ![v663.toNat]
def k0_off7 (k0_t3 : Fin k0_t3_loop.trips) : Fin 3 → Nat :=
  let c0_i32_302 : BitVec 32 := 0#32
  let c1_i32_303 : BitVec 32 := 1#32
  let arg30 : BitVec 32 := Scf.iv c0_i32_302 c1_i32_303 k0_t3
  let c20_i32_319 : BitVec 32 := 20#32
  let v663 : BitVec 32 := Scalar.remsi arg30 c20_i32_319
  let c0_i32_320 : BitVec 32 := 0#32
  let c0_i32_321 : BitVec 32 := 0#32
  ![v663.toNat, 0, 0]
def k0_off8 (k0_t3 : Fin k0_t3_loop.trips) : Fin 2 → Nat :=
  let c0_i32_302 : BitVec 32 := 0#32
  let c1_i32_303 : BitVec 32 := 1#32
  let arg30 : BitVec 32 := Scf.iv c0_i32_302 c1_i32_303 k0_t3
  let c512_i32 : BitVec 32 := 512#32
  let v664 : BitVec 32 := Scalar.muli arg30 c512_i32
  let v665 : BitVec 32 := v664
  let c0_i32_322 : BitVec 32 := 0#32
  ![v665.toNat, 0]
def k0_off9 (k0_t3 : Fin k0_t3_loop.trips) : Fin 3 → Nat :=
  let c0_i32_302 : BitVec 32 := 0#32
  let c1_i32_303 : BitVec 32 := 1#32
  let arg30 : BitVec 32 := Scf.iv c0_i32_302 c1_i32_303 k0_t3
  let c20_i32_325 : BitVec 32 := 20#32
  let v672 : BitVec 32 := Scalar.remsi arg30 c20_i32_325
  let v673 : Index := Scalar.indexCast v672
  let c0_326 : Index := 0#32
  let c0_327 : Index := 0#32
  ![v673.toNat, 0, 0]
def k0_cond1 (k0_t3 : Fin k0_t3_loop.trips) : BitVec 1 :=
  let c0_i32_302 : BitVec 32 := 0#32
  let c1_i32_303 : BitVec 32 := 1#32
  let arg30 : BitVec 32 := Scf.iv c0_i32_302 c1_i32_303 k0_t3
  let c3_i32_329 : BitVec 32 := 3#32
  let v677 : BitVec 1 := Scalar.cmpi .sge arg30 c3_i32_329
  let v678 : BitVec 32 := Scalar.extui v677
  let c0_i32_330 : BitVec 32 := 0#32
  let v679 : BitVec 1 := Scalar.cmpi .ne v678 c0_i32_330
  v679

def k0_mult4 (k0_t3 : Fin k0_t3_loop.trips) : BitVec 32 :=
  let c0_i32_302 : BitVec 32 := 0#32
  let c1_i32_303 : BitVec 32 := 1#32
  let arg30 : BitVec 32 := Scf.iv c0_i32_302 c1_i32_303 k0_t3
  let c3_i32_346 : BitVec 32 := 3#32
  let v709 : BitVec 32 := Scalar.subi arg30 c3_i32_346
  let c512_i32_348 : BitVec 32 := 512#32
  let v711 : BitVec 32 := Scalar.muli v709 c512_i32_348
  v711
def k0_off10 (k0_t3 : Fin k0_t3_loop.trips) : Fin 1 → Nat :=
  let c0_i32_302 : BitVec 32 := 0#32
  let c1_i32_303 : BitVec 32 := 1#32
  let arg30 : BitVec 32 := Scf.iv c0_i32_302 c1_i32_303 k0_t3
  let c3_i32_346 : BitVec 32 := 3#32
  let v709 : BitVec 32 := Scalar.subi arg30 c3_i32_346
  let c3_i32_347 : BitVec 32 := 3#32
  let v710 : BitVec 32 := Scalar.remsi v709 c3_i32_347
  ![v710.toNat]
def k0_off11 (k0_t3 : Fin k0_t3_loop.trips) : Fin 2 → Nat :=
  let c0_i32_349 : BitVec 32 := 0#32
  let c0_i32_302 : BitVec 32 := 0#32
  let c1_i32_303 : BitVec 32 := 1#32
  let arg30 : BitVec 32 := Scf.iv c0_i32_302 c1_i32_303 k0_t3
  let c3_i32_346 : BitVec 32 := 3#32
  let v709 : BitVec 32 := Scalar.subi arg30 c3_i32_346
  let c512_i32_348 : BitVec 32 := 512#32
  let v711 : BitVec 32 := Scalar.muli v709 c512_i32_348
  let v712 : BitVec 32 := v711
  ![0, v712.toNat]
def k0_off12 (k0_t3 : Fin k0_t3_loop.trips) : Fin 3 → Nat :=
  let c0_i32_302 : BitVec 32 := 0#32
  let c1_i32_303 : BitVec 32 := 1#32
  let arg30 : BitVec 32 := Scf.iv c0_i32_302 c1_i32_303 k0_t3
  let c3_i32_346 : BitVec 32 := 3#32
  let v709 : BitVec 32 := Scalar.subi arg30 c3_i32_346
  let c3_i32_347 : BitVec 32 := 3#32
  let v710 : BitVec 32 := Scalar.remsi v709 c3_i32_347
  let c0_i32_350 : BitVec 32 := 0#32
  let c0_i32_351 : BitVec 32 := 0#32
  ![v710.toNat, 0, 0]
def k0_mult5 (k0_t3 : Fin k0_t3_loop.trips) : BitVec 32 :=
  let c0_i32_302 : BitVec 32 := 0#32
  let c1_i32_303 : BitVec 32 := 1#32
  let arg30 : BitVec 32 := Scf.iv c0_i32_302 c1_i32_303 k0_t3
  let c512_i32_331 : BitVec 32 := 512#32
  let v681 : BitVec 32 := Scalar.muli arg30 c512_i32_331
  v681
def k0_off13 (k0_t3 : Fin k0_t3_loop.trips) : Fin 2 → Nat :=
  let c0_332 : Index := 0#32
  let c0_i32_302 : BitVec 32 := 0#32
  let c1_i32_303 : BitVec 32 := 1#32
  let arg30 : BitVec 32 := Scf.iv c0_i32_302 c1_i32_303 k0_t3
  let c512_i32_331 : BitVec 32 := 512#32
  let v681 : BitVec 32 := Scalar.muli arg30 c512_i32_331
  let v682 : BitVec 32 := v681
  let v683 : Index := Scalar.indexCast v682
  ![0, v683.toNat]
def k0_off14 (k0_t3 : Fin k0_t3_loop.trips) : Fin 3 → Nat :=
  let c0_i32_302 : BitVec 32 := 0#32
  let c1_i32_303 : BitVec 32 := 1#32
  let arg30 : BitVec 32 := Scf.iv c0_i32_302 c1_i32_303 k0_t3
  let v687 : Index := Scalar.indexCast arg30
  let c0_333 : Index := 0#32
  let c0_334 : Index := 0#32
  ![v687.toNat, 0, 0]
def k0_off15 (k0_t3 : Fin k0_t3_loop.trips) : Fin 3 → Nat :=
  let c0_i32_302 : BitVec 32 := 0#32
  let c1_i32_303 : BitVec 32 := 1#32
  let arg30 : BitVec 32 := Scf.iv c0_i32_302 c1_i32_303 k0_t3
  let c3_i32_335 : BitVec 32 := 3#32
  let v692 : BitVec 32 := Scalar.remsi arg30 c3_i32_335
  let v693 : Index := Scalar.indexCast v692
  let c0_336 : Index := 0#32
  let c0_337 : Index := 0#32
  ![v693.toNat, 0, 0]
def k0_mult6 (k0_t3 : Fin k0_t3_loop.trips) : BitVec 32 :=
  let c0_i32_302 : BitVec 32 := 0#32
  let c1_i32_303 : BitVec 32 := 1#32
  let arg30 : BitVec 32 := Scf.iv c0_i32_302 c1_i32_303 k0_t3
  let c512_i32_339 : BitVec 32 := 512#32
  let v698 : BitVec 32 := Scalar.muli arg30 c512_i32_339
  v698
def k0_off16 (k0_t3 : Fin k0_t3_loop.trips) : Fin 1 → Nat :=
  let c0_i32_302 : BitVec 32 := 0#32
  let c1_i32_303 : BitVec 32 := 1#32
  let arg30 : BitVec 32 := Scf.iv c0_i32_302 c1_i32_303 k0_t3
  let c3_i32_338 : BitVec 32 := 3#32
  let v697 : BitVec 32 := Scalar.remsi arg30 c3_i32_338
  ![v697.toNat]
def k0_off17 (k0_t3 : Fin k0_t3_loop.trips) : Fin 2 → Nat :=
  let c0_i32_340 : BitVec 32 := 0#32
  let c0_i32_302 : BitVec 32 := 0#32
  let c1_i32_303 : BitVec 32 := 1#32
  let arg30 : BitVec 32 := Scf.iv c0_i32_302 c1_i32_303 k0_t3
  let c512_i32_339 : BitVec 32 := 512#32
  let v698 : BitVec 32 := Scalar.muli arg30 c512_i32_339
  let v699 : BitVec 32 := v698
  ![0, v699.toNat]
def k0_off18 (k0_t3 : Fin k0_t3_loop.trips) : Fin 3 → Nat :=
  let c0_i32_302 : BitVec 32 := 0#32
  let c1_i32_303 : BitVec 32 := 1#32
  let arg30 : BitVec 32 := Scf.iv c0_i32_302 c1_i32_303 k0_t3
  let c3_i32_338 : BitVec 32 := 3#32
  let v697 : BitVec 32 := Scalar.remsi arg30 c3_i32_338
  let c0_i32_341 : BitVec 32 := 0#32
  let c0_i32_342 : BitVec 32 := 0#32
  ![v697.toNat, 0, 0]
def k0_cond2 (k0_t3 : Fin k0_t3_loop.trips) : BitVec 1 :=
  let c0_i32_302 : BitVec 32 := 0#32
  let c1_i32_303 : BitVec 32 := 1#32
  let arg30 : BitVec 32 := Scf.iv c0_i32_302 c1_i32_303 k0_t3
  let c20_i32_343 : BitVec 32 := 20#32
  let v705 : BitVec 32 := Scalar.addi arg30 c20_i32_343
  let c28_i32_344 : BitVec 32 := 28#32
  let v706 : BitVec 1 := Scalar.cmpi .slt v705 c28_i32_344
  let v707 : BitVec 32 := Scalar.extui v706
  let c0_i32_345 : BitVec 32 := 0#32
  let v708 : BitVec 1 := Scalar.cmpi .ne v707 c0_i32_345
  v708

def k0_mult7 (k0_t3 : Fin k0_t3_loop.trips) : BitVec 32 :=
  let c0_i32_302 : BitVec 32 := 0#32
  let c1_i32_303 : BitVec 32 := 1#32
  let arg30 : BitVec 32 := Scf.iv c0_i32_302 c1_i32_303 k0_t3
  let c20_i32_346 : BitVec 32 := 20#32
  let v709 : BitVec 32 := Scalar.addi arg30 c20_i32_346
  let c512_i32_348 : BitVec 32 := 512#32
  let v711 : BitVec 32 := Scalar.muli v709 c512_i32_348
  v711
def k0_off19 (k0_t3 : Fin k0_t3_loop.trips) : Fin 1 → Nat :=
  let c0_i32_302 : BitVec 32 := 0#32
  let c1_i32_303 : BitVec 32 := 1#32
  let arg30 : BitVec 32 := Scf.iv c0_i32_302 c1_i32_303 k0_t3
  let c20_i32_346 : BitVec 32 := 20#32
  let v709 : BitVec 32 := Scalar.addi arg30 c20_i32_346
  let c20_i32_347 : BitVec 32 := 20#32
  let v710 : BitVec 32 := Scalar.remsi v709 c20_i32_347
  ![v710.toNat]
def k0_off20 (k0_t3 : Fin k0_t3_loop.trips) : Fin 3 → Nat :=
  let c0_i32_302 : BitVec 32 := 0#32
  let c1_i32_303 : BitVec 32 := 1#32
  let arg30 : BitVec 32 := Scf.iv c0_i32_302 c1_i32_303 k0_t3
  let c20_i32_346 : BitVec 32 := 20#32
  let v709 : BitVec 32 := Scalar.addi arg30 c20_i32_346
  let c20_i32_347 : BitVec 32 := 20#32
  let v710 : BitVec 32 := Scalar.remsi v709 c20_i32_347
  let c0_i32_349 : BitVec 32 := 0#32
  let c0_i32_350 : BitVec 32 := 0#32
  ![v710.toNat, 0, 0]
def k0_off21 (k0_t3 : Fin k0_t3_loop.trips) : Fin 2 → Nat :=
  let c0_i32_302 : BitVec 32 := 0#32
  let c1_i32_303 : BitVec 32 := 1#32
  let arg30 : BitVec 32 := Scf.iv c0_i32_302 c1_i32_303 k0_t3
  let c20_i32_346 : BitVec 32 := 20#32
  let v709 : BitVec 32 := Scalar.addi arg30 c20_i32_346
  let c512_i32_348 : BitVec 32 := 512#32
  let v711 : BitVec 32 := Scalar.muli v709 c512_i32_348
  let v712 : BitVec 32 := v711
  let c0_i32_351 : BitVec 32 := 0#32
  ![v712.toNat, 0]
def k0_mult8 : BitVec 32 :=
  let c12800_i32 : BitVec 32 := 12800#32
  c12800_i32
def k0_off22 (c25_i32 : BitVec 32) : Fin 1 → Nat :=
  let c3_i32_305 : BitVec 32 := 3#32
  let v638 : BitVec 32 := Scalar.remsi c25_i32 c3_i32_305
  ![v638.toNat]
def k0_off23 (c25_i32 : BitVec 32) : Fin 3 → Nat :=
  let c3_i32_305 : BitVec 32 := 3#32
  let v638 : BitVec 32 := Scalar.remsi c25_i32 c3_i32_305
  let c0_i32_307 : BitVec 32 := 0#32
  let c0_i32_308 : BitVec 32 := 0#32
  ![v638.toNat, 0, 0]
def k0_mult9 : BitVec 32 :=
  let c13312_i32 : BitVec 32 := 13312#32
  c13312_i32
def k0_mult10 : BitVec 32 :=
  let c13824_i32 : BitVec 32 := 13824#32
  c13824_i32
-- ==== ReferenceIdeal.lean ====
abbrev S2x128x3072 : Shape := ⟨3, ![2, 128, 3072]⟩
abbrev S14336x3072 : Shape := ⟨2, ![14336, 3072]⟩
abbrev S14336 : Shape := ⟨1, ![14336]⟩
abbrev S28x16 : Shape := ⟨2, ![28, 16]⟩
abbrev S40x192 : Shape := ⟨2, ![40, 192]⟩
abbrev S512x40 : Shape := ⟨2, ![512, 40]⟩
abbrev S_ : Shape := ⟨0, ![]⟩
abbrev S2x128 : Shape := ⟨2, ![2, 128]⟩
abbrev S2x128x1 : Shape := ⟨3, ![2, 128, 1]⟩
abbrev S2x128x16x192 : Shape := ⟨4, ![2, 128, 16, 192]⟩
abbrev S2x128x16x40 : Shape := ⟨4, ![2, 128, 16, 40]⟩
abbrev S2x128x16x512 : Shape := ⟨4, ![2, 128, 16, 512]⟩
abbrev S2x128x512x28 : Shape := ⟨4, ![2, 128, 512, 28]⟩
abbrev S2x128x28x512 : Shape := ⟨4, ![2, 128, 28, 512]⟩
abbrev S256x14336 : Shape := ⟨2, ![256, 14336]⟩
abbrev S256x3072 : Shape := ⟨2, ![256, 3072]⟩
abbrev S256x1 : Shape := ⟨2, ![256, 1]⟩
abbrev S1x14336 : Shape := ⟨2, ![1, 14336]⟩
abbrev S2x128x14336 : Shape := ⟨3, ![2, 128, 14336]⟩

abbrev nBuf : Space → Nat
  | .hbm => 73
  | .vmem => 7
  | .smem => 0
  | _ => 0

abbrev bufTy : (tb : Table) → Fin (tcTables nBuf tb) → BufTy
  | .hbm, ⟨0, _⟩ => ⟨S2x128x3072, .bf16⟩
  | .hbm, ⟨1, _⟩ => ⟨S14336x3072, .fp8e4m3⟩
  | .hbm, ⟨2, _⟩ => ⟨S14336, .f32⟩
  | .hbm, ⟨3, _⟩ => ⟨S28x16, .bf16⟩
  | .hbm, ⟨4, _⟩ => ⟨S40x192, .bf16⟩
  | .hbm, ⟨5, _⟩ => ⟨S512x40, .bf16⟩
  | .hbm, ⟨6, _⟩ => ⟨S2x128x3072, .f32⟩
  | .hbm, ⟨7, _⟩ => ⟨S2x128x3072, .f32⟩
  | .hbm, ⟨8, _⟩ => ⟨S_, .f32⟩
  | .hbm, ⟨9, _⟩ => ⟨S2x128, .f32⟩
  | .hbm, ⟨10, _⟩ => ⟨S_, .f32⟩
  | .hbm, ⟨11, _⟩ => ⟨S2x128, .f32⟩
  | .hbm, ⟨12, _⟩ => ⟨S2x128, .f32⟩
  | .hbm, ⟨13, _⟩ => ⟨S_, .f32⟩
  | .hbm, ⟨14, _⟩ => ⟨S2x128, .f32⟩
  | .hbm, ⟨15, _⟩ => ⟨S2x128, .i1⟩
  | .hbm, ⟨16, _⟩ => ⟨S2x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S2x128, .f32⟩
  | .hbm, ⟨23, _⟩ => ⟨S_, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S_, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .i1⟩
  | .hbm, ⟨33, _⟩ => ⟨S_, .f32⟩
  | .hbm, ⟨34, _⟩ => ⟨S_, .f32⟩
  | .hbm, ⟨35, _⟩ => ⟨S2x128, .f32⟩
  | .hbm, ⟨36, _⟩ => ⟨S2x128, .f32⟩
  | .hbm, ⟨37, _⟩ => ⟨S_, .f32⟩
  | .hbm, ⟨38, _⟩ => ⟨S2x128, .f32⟩
  | .hbm, ⟨39, _⟩ => ⟨S2x128, .f32⟩
  | .hbm, ⟨40, _⟩ => ⟨S2x128, .f32⟩
  | .hbm, ⟨41, _⟩ => ⟨S_, .f32⟩
  | .hbm, ⟨42, _⟩ => ⟨S2x128, .f32⟩
  | .hbm, ⟨43, _⟩ => ⟨S2x128, .f32⟩
  | .hbm, ⟨44, _⟩ => ⟨S2x128x1, .f32⟩
  | .hbm, ⟨45, _⟩ => ⟨S2x128x3072, .f32⟩
  | .hbm, ⟨46, _⟩ => ⟨S2x128x3072, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2x128x3072, .f32⟩
  | .hbm, ⟨51, _⟩ => ⟨S2x128x3072, .f32⟩
  | .hbm, ⟨52, _⟩ => ⟨S_, .f32⟩
  | .hbm, ⟨53, _⟩ => ⟨S2x128x3072, .f32⟩
  | .hbm, ⟨54, _⟩ => ⟨S2x128x3072, .f32⟩
  | .hbm, ⟨55, _⟩ => ⟨S2x128x16x192, .bf16⟩
  | .hbm, ⟨56, _⟩ => ⟨S2x128x16x40, .f32⟩
  | .hbm, ⟨57, _⟩ => ⟨S2x128x16x40, .bf16⟩
  | .hbm, ⟨58, _⟩ => ⟨S2x128x16x512, .f32⟩
  | .hbm, ⟨59, _⟩ => ⟨S2x128x16x512, .bf16⟩
  | .hbm, ⟨60, _⟩ => ⟨S2x128x512x28, .f32⟩
  | .hbm, ⟨61, _⟩ => ⟨S2x128x28x512, .f32⟩
  | .hbm, ⟨62, _⟩ => ⟨S256x14336, .f32⟩
  | .hbm, ⟨63, _⟩ => ⟨S256x3072, .f32⟩
  | .hbm, ⟨64, _⟩ => ⟨S256x1, .f32⟩
  | .hbm, ⟨65, _⟩ => ⟨S1x14336, .f32⟩
  | .hbm, ⟨66, _⟩ => ⟨S_, .f32⟩
  | .hbm, ⟨67, _⟩ => ⟨S256x14336, .f32⟩
  | .hbm, ⟨68, _⟩ => ⟨S256x14336, .f32⟩
  | .hbm, ⟨69, _⟩ => ⟨S256x14336, .bf16⟩
  | .hbm, ⟨70, _⟩ => ⟨S256x3072, .fp8e4m3⟩
  | .hbm, ⟨71, _⟩ => ⟨S2x128x14336, .bf16⟩
  | .hbm, ⟨72, _⟩ => ⟨S2x128x3072, .fp8e4m3⟩
  | .local _ .vmem, ⟨0, _⟩ => ⟨S256x3072, .f32⟩
  | .local _ .vmem, ⟨1, _⟩ => ⟨S256x1, .f32⟩
  | .local _ .vmem, ⟨2, _⟩ => ⟨S14336x3072, .fp8e4m3⟩
  | .local _ .vmem, ⟨3, _⟩ => ⟨S1x14336, .f32⟩
  | .local _ .vmem, ⟨4, _⟩ => ⟨S256x14336, .f32⟩
  | .local _ .vmem, ⟨5, _⟩ => ⟨S256x14336, .bf16⟩
  | .local _ .vmem, ⟨6, _⟩ => ⟨S256x3072, .fp8e4m3⟩
  | _, _ => ⟨S2x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v18 : Ref sig .tc := ⟨.hbm, 36, rfl⟩
abbrev main_cst_7 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_8 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_9 : Ref sig .tc := ⟨.hbm, 47, rfl⟩
abbrev main_cst_10 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_11 : Ref sig .tc := ⟨.hbm, 66, rfl⟩
abbrev main_v39 : Ref sig .tc := ⟨.hbm, 67, rfl⟩
abbrev main_v40 : Ref sig .tc := ⟨.hbm, 68, rfl⟩
abbrev main_v41_0 : Ref sig .tc := ⟨.hbm, 69, rfl⟩
abbrev main_v41_1 : Ref sig .tc := ⟨.hbm, 70, rfl⟩
abbrev main_v42 : Ref sig .tc := ⟨.hbm, 71, rfl⟩
abbrev main_v43 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x14336 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Ideal.Names.lean ====
/-
  Names for what the kernel slices: the twenty slots of the weight ring and their semaphores, the twenty-eight weight
  tiles, the three slots of the output ring and their semaphores, the twenty-eight output tiles. Each is a function of a
  plain number (reduced modulo the number of slots or tiles), and the printed slices are shown to be these.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameSuffixV
public import Idealize.ShloMosaic.Lib.Ring
public import Idealize.ShloMosaic.Lib.Ring.Trips
public import Idealize.ShloMosaic.Lib.Affine
public import Idealize.ShloMosaic.Lib.Tactic

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters the kernel's own transfers ride on. -/
abbrev UU (nD : Nat) (τ : Topo) : Type := UR sig nD τ × Counters
abbrev 𝒱₀ : Variants := Variants.none

/-! ## The memrefs the kernel is called on -/

abbrev wM : Memref sig .tc .hbm S14336x3072 .fp8e4m3 := Memref.whole main_arg1
abbrev yM : Memref sig .tc .hbm S256x14336 .bf16 := Memref.whole main_v4_0
abbrev ringM : Memref sig .tc .vmem S20x512x3072 .fp8e4m3 := Memref.whole cc0_scratch2
abbrev yrM : Memref sig .tc .vmem S3x256x512 .bf16 := Memref.whole cc0_scratch15

/-! ## Offsets -/

abbrev wTileOff (p : ℕ) : Fin 2 → Nat := ![512 * (p % 28), 0]
theorem wTileOff_inb (p : ℕ) : ∀ a, wTileOff p a + S512x3072.size a ≤ S14336x3072.size a := by
  have := Nat.mod_lt p (show 0 < 28 by decide); intro a; fin_cases a
  · show 512 * (p % 28) + 512 ≤ 14336; omega
  · show 0 + 3072 ≤ 3072; omega
abbrev wSlotOff (p : ℕ) : Fin 3 → Nat := ![p % 20, 0, 0]
theorem wSlotOff_inb (p : ℕ) : ∀ a, wSlotOff p a + S1x512x3072.size a ≤ S20x512x3072.size a := by
  have := Nat.mod_lt p (show 0 < 20 by decide); intro a; fin_cases a
  · show p % 20 + 1 ≤ 20; omega
  · show 0 + 512 ≤ 512; omega
  · show 0 + 3072 ≤ 3072; omega
abbrev wSemOff (p : ℕ) : Fin 1 → Nat := ![p % 20]
theorem wSemOff_inb (p : ℕ) : ∀ a, wSemOff p a + S1.size a ≤ S20.size a := by
  have := Nat.mod_lt p (show 0 < 20 by decide); intro a; fin_cases a; show p % 20 + 1 ≤ 20; omega
abbrev yTileOff (p : ℕ) : Fin 2 → Nat := ![0, 512 * (p % 28)]
theorem yTileOff_inb (p : ℕ) : ∀ a, yTileOff p a + S256x512.size a ≤ S256x14336.size a := by
  have := Nat.mod_lt p (show 0 < 28 by decide); intro a; fin_cases a
  · show 0 + 256 ≤ 256; omega
  · show 512 * (p % 28) + 512 ≤ 14336; omega
abbrev ySlotOff (p : ℕ) : Fin 3 → Nat := ![p % 3, 0, 0]
theorem ySlotOff_inb (p : ℕ) : ∀ a, ySlotOff p a + S1x256x512.size a ≤ S3x256x512.size a := by
  have := Nat.mod_lt p (show 0 < 3 by decide); intro a; fin_cases a
  · show p % 3 + 1 ≤ 3; omega
  · show 0 + 256 ≤ 256; omega
  · show 0 + 512 ≤ 512; omega
abbrev ySemOff (p : ℕ) : Fin 1 → Nat := ![p % 3]
theorem ySemOff_inb (p : ℕ) : ∀ a, ySemOff p a + S1.size a ≤ S3.size a := by
  have := Nat.mod_lt p (show 0 < 3 by decide); intro a; fin_cases a; show p % 3 + 1 ≤ 3; omega
abbrev uRowOff (p : ℕ) : Fin 3 → Nat := ![p % 28, 0, 0]
theorem uRowOff_inb (p : ℕ) : ∀ a, uRowOff p a + S1x256x512.size a ≤ S28x256x512.size a := by
  have := Nat.mod_lt p (show 0 < 28 by decide); intro a; fin_cases a
  · show p % 28 + 1 ≤ 28; omega
  · show 0 + 256 ≤ 256; omega
  · show 0 + 512 ≤ 512; omega
abbrev wsColOff (p : ℕ) : Fin 2 → Nat := ![0, 512 * (p % 28)]
theorem wsColOff_inb (p : ℕ) : ∀ a, wsColOff p a + S1x512.size a ≤ S1x14336.size a := by
  have := Nat.mod_lt p (show 0 < 28 by decide); intro a; fin_cases a
  · show 0 + 1 ≤ 1; omega
  · show 512 * (p % 28) + 512 ≤ 14336; omega

/-! ## Slots, tiles, semaphores -/

/-- Rows `512 p … 512 p + 511` of the weight. -/
def wTile (p : ℕ) : Memref sig .tc .hbm S512x3072 .fp8e4m3 :=
  wM.slice (Rect.unit (s := S14336x3072) (wTileOff p) S512x3072.size (wTileOff_inb p)) (fun _ => rfl)
/-- Slot `p % 20` of the weight ring. -/
def wSlot (p : ℕ) : Memref sig .tc .vmem S512x3072 .fp8e4m3 :=
  (ringM.slice (Rect.unit (s := S20x512x3072) (wSlotOff p) S1x512x3072.size (wSlotOff_inb p)) (fun _ => rfl)).squeeze S512x3072 squeezes_S1x512x3072_S512x3072
/-- Its semaphore. -/
def wSem (p : ℕ) : DmaSems sig S_ := (cc0_scratch18.slice (Rect.unit (s := S20) (wSemOff p) S1.size (wSemOff_inb p))).squeeze S_ squeezes_S1_S_
/-- Columns `512 p … 512 p + 511` of the output. -/
def yTile (p : ℕ) : Memref sig .tc .hbm S256x512 .bf16 :=
  yM.slice (Rect.unit (s := S256x14336) (yTileOff p) S256x512.size (yTileOff_inb p)) (fun _ => rfl)
/-- Slot `p % 3` of the output ring. -/
def ySlot (p : ℕ) : Memref sig .tc .vmem S256x512 .bf16 :=
  (yrM.slice (Rect.unit (s := S3x256x512) (ySlotOff p) S1x256x512.size (ySlotOff_inb p)) (fun _ => rfl)).squeeze S256x512 squeezes_S1x256x512_S256x512
/-- Its semaphore. -/
def ySem (p : ℕ) : DmaSems sig S_ := (cc0_scratch19.slice (Rect.unit (s := S3) (ySemOff p) S1.size (ySemOff_inb p))).squeeze S_ squeezes_S1_S_

theorem sSemOff_inb (s : Fin 4) : ∀ a, (![s.val] : Fin 1 → Nat) a + S1.size a ≤ S4.size a := by
  have := s.isLt; intro a; fin_cases a; show s.val + 1 ≤ 4; omega
/-- The semaphore of small input `s`. -/
def sSem (s : Fin 4) : DmaSems sig S_ := (cc0_scratch17.slice (Rect.unit (s := S4) ![s.val] S1.size (sSemOff_inb s))).squeeze S_ squeezes_S1_S_
theorem oSemOff_inb (s : Fin 2) : ∀ a, (![s.val] : Fin 1 → Nat) a + S1.size a ≤ S2.size a := by
  have := s.isLt; intro a; fin_cases a; show s.val + 1 ≤ 2; omega
/-- The semaphore of small output `s` (the codes, the scales). -/
def oSem (s : Fin 2) : DmaSems sig S_ := (cc0_scratch20.slice (Rect.unit (s := S2) ![s.val] S1.size (oSemOff_inb s))).squeeze S_ squeezes_S1_S_

instance (p : ℕ) : ClosedOff (wTileOff p) := ⟨wTileOff p, rfl⟩
instance (p : ℕ) : ClosedOff (wSlotOff p) := ⟨wSlotOff p, rfl⟩
instance (p : ℕ) : ClosedOff (yTileOff p) := ⟨yTileOff p, rfl⟩
instance (p : ℕ) : ClosedOff (ySlotOff p) := ⟨ySlotOff p, rfl⟩

/-! ## The printed offsets in closed form -/

theorem off1_eq : ∀ k : Fin k0_t1_loop.trips, k0_off1 k = wSemOff k.val := by decide +kernel
theorem off2_eq : ∀ k : Fin k0_t1_loop.trips, k0_off2 k = wSlotOff k.val := by decide +kernel
theorem off3_eq : ∀ k : Fin k0_t1_loop.trips, k0_off3 k = wTileOff k.val := by decide +kernel
theorem off6_eq : ∀ k : Fin k0_t3_loop.trips, k0_off6 k = wSemOff k.val := by decide +kernel
theorem off7_eq : ∀ k : Fin k0_t3_loop.trips, k0_off7 k = wSlotOff k.val := by decide +kernel
theorem off8_eq : ∀ k : Fin k0_t3_loop.trips, k0_off8 k = wTileOff k.val := by decide +kernel
theorem off9_eq : ∀ k : Fin k0_t3_loop.trips, k0_off9 k = wSlotOff k.val := by decide +kernel
theorem cond1_iff : ∀ k : Fin k0_t3_loop.trips, k0_cond1 k = 1#1 ↔ 3 ≤ k.val := by decide +kernel
theorem cond2_iff : ∀ k : Fin k0_t3_loop.trips, k0_cond2 k = 1#1 ↔ k.val + 20 < 28 := by decide +kernel
theorem off10_eq : ∀ k : Fin k0_t3_loop.trips, 3 ≤ k.val → k0_off10 k = ySemOff k.val := by decide +kernel
theorem off11_eq : ∀ k : Fin k0_t3_loop.trips, 3 ≤ k.val → k0_off11 k = yTileOff (k.val - 3) := by decide +kernel
theorem off12_eq : ∀ k : Fin k0_t3_loop.trips, 3 ≤ k.val → k0_off12 k = ySlotOff k.val := by decide +kernel
theorem off13_eq : ∀ k : Fin k0_t3_loop.trips, k0_off13 k = wsColOff k.val := by decide +kernel
theorem off14_eq : ∀ k : Fin k0_t3_loop.trips, k0_off14 k = uRowOff k.val := by decide +kernel
theorem off15_eq : ∀ k : Fin k0_t3_loop.trips, k0_off15 k = ySlotOff k.val := by decide +kernel
theorem off16_eq : ∀ k : Fin k0_t3_loop.trips, k0_off16 k = ySemOff k.val := by decide +kernel
theorem off17_eq : ∀ k : Fin k0_t3_loop.trips, k0_off17 k = yTileOff k.val := by decide +kernel
theorem off18_eq : ∀ k : Fin k0_t3_loop.trips, k0_off18 k = ySlotOff k.val := by decide +kernel
theorem off19_eq : ∀ k : Fin k0_t3_loop.trips, k.val + 20 < 28 → k0_off19 k = wSemOff k.val := by decide +kernel
theorem off20_eq : ∀ k : Fin k0_t3_loop.trips, k.val + 20 < 28 → k0_off20 k = wSlotOff k.val := by decide +kernel
theorem off21_eq : ∀ k : Fin k0_t3_loop.trips, k.val + 20 < 28 → k0_off21 k = wTileOff (k.val + 20) := by decide +kernel

instance (k : Fin k0_t3_loop.trips) : ClosedOff (k0_off7 k) := ⟨wSlotOff k.val, off7_eq k⟩
instance (k : Fin k0_t3_loop.trips) : ClosedOff (k0_off9 k) := ⟨wSlotOff k.val, off9_eq k⟩
instance (k : Fin k0_t3_loop.trips) : ClosedOff (k0_off15 k) := ⟨ySlotOff k.val, off15_eq k⟩
instance (k : Fin k0_t3_loop.trips) : ClosedOff (k0_off18 k) := ⟨ySlotOff k.val, off18_eq k⟩

/-! ## The printed slices are the named ones -/

theorem wSem_congr {off : Fin 1 → Nat} {p : ℕ} (e : off = wSemOff p) (hh) :
    (cc0_scratch18.slice (Rect.unit (s := S20) off S1.size hh)).squeeze S_ squeezes_S1_S_ = wSem p :=
  congrArg (fun A : DmaSems sig S1 => A.squeeze S_ squeezes_S1_S_) (SemArray.slice_unit_congr _ e _ _)
theorem ySem_congr {off : Fin 1 → Nat} {p : ℕ} (e : off = ySemOff p) (hh) :
    (cc0_scratch19.slice (Rect.unit (s := S3) off S1.size hh)).squeeze S_ squeezes_S1_S_ = ySem p :=
  congrArg (fun A : DmaSems sig S1 => A.squeeze S_ squeezes_S1_S_) (SemArray.slice_unit_congr _ e _ _)
theorem wSlot_congr {off : Fin 3 → Nat} {p : ℕ} (e : off = wSlotOff p) (hh hs) :
    (ringM.slice (Rect.unit (s := S20x512x3072) off S1x512x3072.size hh) hs).squeeze S512x3072 squeezes_S1x512x3072_S512x3072 = wSlot p :=
  congrArg (fun M : Memref sig .tc .vmem S1x512x3072 .fp8e4m3 => M.squeeze S512x3072 squeezes_S1x512x3072_S512x3072) (Memref.slice_unit_congr _ e _ _ _ _)
theorem ySlot_congr {off : Fin 3 → Nat} {p : ℕ} (e : off = ySlotOff p) (hh hs) :
    (yrM.slice (Rect.unit (s := S3x256x512) off S1x256x512.size hh) hs).squeeze S256x512 squeezes_S1x256x512_S256x512 = ySlot p :=
  congrArg (fun M : Memref sig .tc .vmem S1x256x512 .bf16 => M.squeeze S256x512 squeezes_S1x256x512_S256x512) (Memref.slice_unit_congr _ e _ _ _ _)
theorem wTile_congr {off : Fin 2 → Nat} {p : ℕ} (e : off = wTileOff p) (hh hs) :
    wM.slice (Rect.unit (s := S14336x3072) off S512x3072.size hh) hs = wTile p := Memref.slice_unit_congr _ e _ _ _ (fun _ => rfl)
theorem yTile_congr {off : Fin 2 → Nat} {p : ℕ} (e : off = yTileOff p) (hh hs) :
    yM.slice (Rect.unit (s := S256x14336) off S256x512.size hh) hs = yTile p := Memref.slice_unit_congr _ e _ _ _ (fun _ => rfl)

@[sl_canon] theorem sSem0 (hh) : (cc0_scratch17.slice (Rect.unit (s := S4) ![0] S1.size hh)).squeeze S_ squeezes_S1_S_ = sSem 0 := rfl
@[sl_canon] theorem sSem1 (hh) : (cc0_scratch17.slice (Rect.unit (s := S4) ![1] S1.size hh)).squeeze S_ squeezes_S1_S_ = sSem 1 := rfl
@[sl_canon] theorem sSem2 (hh) : (cc0_scratch17.slice (Rect.unit (s := S4) ![2] S1.size hh)).squeeze S_ squeezes_S1_S_ = sSem 2 := rfl
@[sl_canon] theorem sSem3 (hh) : (cc0_scratch17.slice (Rect.unit (s := S4) ![3] S1.size hh)).squeeze S_ squeezes_S1_S_ = sSem 3 := rfl
@[sl_canon] theorem oSem0 (hh) : (cc0_scratch20.slice (Rect.unit (s := S2) ![0] S1.size hh)).squeeze S_ squeezes_S1_S_ = oSem 0 := rfl
@[sl_canon] theorem oSem1 (hh) : (cc0_scratch20.slice (Rect.unit (s := S2) ![1] S1.size hh)).squeeze S_ squeezes_S1_S_ = oSem 1 := rfl

/-- The filling loop's trip `k`. -/
@[sl_canon] theorem wSemA (k : Fin k0_t1_loop.trips) (hh) :
    (cc0_scratch18.slice (Rect.unit (s := S20) (k0_off1 k) S1.size hh)).squeeze S_ squeezes_S1_S_ = wSem k.val := wSem_congr (off1_eq k) _
@[sl_canon] theorem wSlotA (k : Fin k0_t1_loop.trips) (hh hs) :
    (ringM.slice (Rect.unit (s := S20x512x3072) (k0_off2 k) S1x512x3072.size hh) hs).squeeze S512x3072 squeezes_S1x512x3072_S512x3072 = wSlot k.val := wSlot_congr (off2_eq k) _ _
@[sl_canon] theorem wTileA (k : Fin k0_t1_loop.trips) (hh hs) :
    wM.slice (Rect.unit (s := S14336x3072) (k0_off3 k) S512x3072.size hh) hs = wTile k.val := wTile_congr (off3_eq k) _ _

/-- The main loop's trip `k`: the tile waited for, … -/
@[sl_canon] theorem wSemB (k : Fin k0_t3_loop.trips) (hh) :
    (cc0_scratch18.slice (Rect.unit (s := S20) (k0_off6 k) S1.size hh)).squeeze S_ squeezes_S1_S_ = wSem k.val := wSem_congr (off6_eq k) _
@[sl_canon] theorem wSlotB (k : Fin k0_t3_loop.trips) (hh hs) :
    (ringM.slice (Rect.unit (s := S20x512x3072) (k0_off7 k) S1x512x3072.size hh) hs).squeeze S512x3072 squeezes_S1x512x3072_S512x3072 = wSlot k.val := wSlot_congr (off7_eq k) _ _
@[sl_canon] theorem wTileB (k : Fin k0_t3_loop.trips) (hh hs) :
    wM.slice (Rect.unit (s := S14336x3072) (k0_off8 k) S512x3072.size hh) hs = wTile k.val := wTile_congr (off8_eq k) _ _
/-- … the output tile of three trips earlier, … -/
@[sl_canon] theorem ySemB (k : Fin k0_t3_loop.trips) (h3 : 3 ≤ k.val) (hh) :
    (cc0_scratch19.slice (Rect.unit (s := S3) (k0_off10 k) S1.size hh)).squeeze S_ squeezes_S1_S_ = ySem k.val := ySem_congr (off10_eq k h3) _
@[sl_canon] theorem yTileB (k : Fin k0_t3_loop.trips) (h3 : 3 ≤ k.val) (hh hs) :
    yM.slice (Rect.unit (s := S256x14336) (k0_off11 k) S256x512.size hh) hs = yTile (k.val - 3) := yTile_congr (off11_eq k h3) _ _
@[sl_canon] theorem ySlotB (k : Fin k0_t3_loop.trips) (h3 : 3 ≤ k.val) (hh hs) :
    (yrM.slice (Rect.unit (s := S3x256x512) (k0_off12 k) S1x256x512.size hh) hs).squeeze S256x512 squeezes_S1x256x512_S256x512 = ySlot k.val := ySlot_congr (off12_eq k h3) _ _
/-- … the output tile issued, … -/
@[sl_canon] theorem ySemC (k : Fin k0_t3_loop.trips) (hh) :
    (cc0_scratch19.slice (Rect.unit (s := S3) (k0_off16 k) S1.size hh)).squeeze S_ squeezes_S1_S_ = ySem k.val := ySem_congr (off16_eq k) _
@[sl_canon] theorem yTileC (k : Fin k0_t3_loop.trips) (hh hs) :
    yM.slice (Rect.unit (s := S256x14336) (k0_off17 k) S256x512.size hh) hs = yTile k.val := yTile_congr (off17_eq k) _ _
@[sl_canon] theorem ySlotC (k : Fin k0_t3_loop.trips) (hh hs) :
    (yrM.slice (Rect.unit (s := S3x256x512) (k0_off18 k) S1x256x512.size hh) hs).squeeze S256x512 squeezes_S1x256x512_S256x512 = ySlot k.val := ySlot_congr (off18_eq k) _ _
/-- … and the weight tile issued twenty trips ahead. -/
@[sl_canon] theorem wSemD (k : Fin k0_t3_loop.trips) (h2 : k.val + 20 < 28) (hh) :
    (cc0_scratch18.slice (Rect.unit (s := S20) (k0_off19 k) S1.size hh)).squeeze S_ squeezes_S1_S_ = wSem k.val := wSem_congr (off19_eq k h2) _
@[sl_canon] theorem wSlotD (k : Fin k0_t3_loop.trips) (h2 : k.val + 20 < 28) (hh hs) :
    (ringM.slice (Rect.unit (s := S20x512x3072) (k0_off20 k) S1x512x3072.size hh) hs).squeeze S512x3072 squeezes_S1x512x3072_S512x3072 = wSlot k.val := wSlot_congr (off20_eq k h2) _ _
@[sl_canon] theorem wTileD (k : Fin k0_t3_loop.trips) (h2 : k.val + 20 < 28) (hh hs) :
    wM.slice (Rect.unit (s := S14336x3072) (k0_off21 k) S512x3072.size hh) hs = wTile (k.val + 20) := wTile_congr (off21_eq k h2) _ _

/-- The last three waits. -/
@[sl_canon] theorem ySem25 (hh) : (cc0_scratch19.slice (Rect.unit (s := S3) (k0_off22 25#32) S1.size hh)).squeeze S_ squeezes_S1_S_ = ySem 25 := ySem_congr (by decide +kernel) _
@[sl_canon] theorem ySem26 (hh) : (cc0_scratch19.slice (Rect.unit (s := S3) (k0_off22 26#32) S1.size hh)).squeeze S_ squeezes_S1_S_ = ySem 26 := ySem_congr (by decide +kernel) _
@[sl_canon] theorem ySem27 (hh) : (cc0_scratch19.slice (Rect.unit (s := S3) (k0_off22 27#32) S1.size hh)).squeeze S_ squeezes_S1_S_ = ySem 27 := ySem_congr (by decide +kernel) _
@[sl_canon] theorem ySlot25 (hh hs) : (yrM.slice (Rect.unit (s := S3x256x512) (k0_off23 25#32) S1x256x512.size hh) hs).squeeze S256x512 squeezes_S1x256x512_S256x512 = ySlot 25 := ySlot_congr (by decide +kernel) _ _
@[sl_canon] theorem ySlot26 (hh hs) : (yrM.slice (Rect.unit (s := S3x256x512) (k0_off23 26#32) S1x256x512.size hh) hs).squeeze S256x512 squeezes_S1x256x512_S256x512 = ySlot 26 := ySlot_congr (by decide +kernel) _ _
@[sl_canon] theorem ySlot27 (hh hs) : (yrM.slice (Rect.unit (s := S3x256x512) (k0_off23 27#32) S1x256x512.size hh) hs).squeeze S256x512 squeezes_S1x256x512_S256x512 = ySlot 27 := ySlot_congr (by decide +kernel) _ _
@[sl_canon] theorem yTile25 (hh hs) : yM.slice (Rect.unit (s := S256x14336) ![0, 12800] S256x512.size hh) hs = yTile 25 := yTile_congr (by decide +kernel) _ _
@[sl_canon] theorem yTile26 (hh hs) : yM.slice (Rect.unit (s := S256x14336) ![0, 13312] S256x512.size hh) hs = yTile 26 := yTile_congr (by decide +kernel) _ _
@[sl_canon] theorem yTile27 (hh hs) : yM.slice (Rect.unit (s := S256x14336) ![0, 13824] S256x512.size hh) hs = yTile 27 := yTile_congr (by decide +kernel) _ _

/-! ## One turn of a ring comes back to the same slot -/

theorem wSlot_turn (p : ℕ) : wSlot (p + 20) = wSlot p := (wSlot_congr (by simp [wSlotOff]) (wSlotOff_inb (p + 20)) (fun _ => rfl))
theorem wSem_turn (p : ℕ) : wSem (p + 20) = wSem p := (wSem_congr (by simp [wSemOff]) (wSemOff_inb (p + 20)))
theorem ySlot_turn (p : ℕ) : ySlot (p + 3) = ySlot p := (ySlot_congr (by simp [ySlotOff]) (ySlotOff_inb (p + 3)) (fun _ => rfl))
theorem ySem_turn (p : ℕ) : ySem (p + 3) = ySem p := (ySem_congr (by simp [ySemOff]) (ySemOff_inb (p + 3)))

end Cert.Proof.Ideal

end
-- ==== Proof.Ideal.Pieces.lean ====
/-
  What the kernel holds at any time, piece by piece: a weight tile at home or in flight into its slot, an output slot free
  or in flight to its tile, a semaphore at zero. Then two rules that move one member in or out of a family over an
  interval of numbers.
-/
module

public import proofs.«01_k».proof.Proof.Ideal.Names

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Families over an interval -/

theorem bigSep_Ico_take (a b : ℕ) (h : a < b) (Φ : ℕ → sProp 𝕄) :
    bigSep (Finset.Ico a b) Φ = iprop(Φ a ∗ bigSep (Finset.Ico (a + 1) b) Φ) := by
  have e : Finset.Ico a b = insert a (Finset.Ico (a + 1) b) := by
    ext x; simp only [Finset.mem_insert, Finset.mem_Ico]; omega
  rw [e, bigSep_insert (by simp)]; rfl
theorem bigSep_Ico_put (a b : ℕ) (h : a ≤ b) (Φ : ℕ → sProp 𝕄) :
    bigSep (Finset.Ico a (b + 1)) Φ = iprop(Φ b ∗ bigSep (Finset.Ico a b) Φ) := by
  have e : Finset.Ico a (b + 1) = insert b (Finset.Ico a b) := by
    ext x; simp only [Finset.mem_insert, Finset.mem_Ico]; omega
  rw [e, bigSep_insert (by simp)]; rfl
theorem bigSep_Ico_empty (a b : ℕ) (h : b ≤ a) (Φ : ℕ → sProp 𝕄) : bigSep (Finset.Ico a b) Φ = (BI.emp : sProp 𝕄) := by
  rw [Finset.Ico_eq_empty (by omega)]; rfl

/-! ## The pieces -/

section
variable (c : Dev nD) (XW : Buf (Elt F) ((c : Thread nD τ).loc main_arg1)) (Y0 : Buf (Elt F) ((c : Thread nD τ).loc main_v4_0))

abbrev wCellP (p : ℕ) : sProp 𝕄 := semVal ((c : Thread nD τ), SemLoc.dma (wSem p).sem) 0
abbrev wSlotP (p : ℕ) (f : Buf (Elt F) ((wSlot p).view.loc (c : Thread nD τ))) : sProp 𝕄 :=
  (wSlot p).view.loc (c : Thread nD τ) ↦[(wSlot p).view.set]{fullShare} f
/-- Weight tile `p` at home. -/
abbrev wHomeP (p : ℕ) : sProp 𝕄 := (wTile p).view.loc (c : Thread nD τ) ↦[(wTile p).view.set]{fullShare} XW
/-- What tile `p`'s transfer leaves in its slot over prior contents `f`. -/
abbrev wLanded (p : ℕ) (f : Buf (Elt F) ((wSlot p).view.loc (c : Thread nD τ))) : Buf (Elt F) ((wSlot p).view.loc (c : Thread nD τ)) :=
  (wSlot p).view.writes (Elt F) f [⟨Rect.whole S512x3072, ReadAs.same.apply ((wTile p).view.read (Elt F) XW)⟩]
/-- Tile `p` in flight into its slot, issued over `f`. -/
abbrev wFlightP (p : ℕ) (f : Buf (Elt F) ((wSlot p).view.loc (c : Thread nD τ))) : sProp 𝕄 :=
  Transfers.Flight countersEmb (c : Thread nD τ) (SemLoc.dma (wSem p).sem) () 49152 iprop(wSlotP c p (wLanded c XW p f) ∗ wHomeP c XW p)
/-- Slot `p` free: held at some contents, its semaphore at zero. -/
abbrev wFreeP (p : ℕ) : sProp 𝕄 := iprop((∃ f, wSlotP c p f) ∗ wCellP c p)

/-- What slot `p % 20` does before main trip `p` or later: tile `p` in flight if there is a tile `p`, else free. -/
def wRole (p : ℕ) : sProp 𝕄 := if p < 28 then iprop(∃ f, wFlightP c XW p f) else wFreeP c p
theorem wRole_lt (p : ℕ) (h : p < 28) : wRole c XW p = iprop(∃ f, wFlightP c XW p f) := if_pos h
theorem wRole_ge (p : ℕ) (h : 28 ≤ p) : wRole c XW p = wFreeP c p := if_neg (by omega)

abbrev yCellP (p : ℕ) : sProp 𝕄 := semVal ((c : Thread nD τ), SemLoc.dma (ySem p).sem) 0
abbrev ySlotP (p : ℕ) (f : Buf (Elt F) ((ySlot p).view.loc (c : Thread nD τ))) : sProp 𝕄 :=
  (ySlot p).view.loc (c : Thread nD τ) ↦[(ySlot p).view.set]{fullShare} f
abbrev yTileP (p : ℕ) (f : Buf (Elt F) ((yTile p).view.loc (c : Thread nD τ))) : sProp 𝕄 :=
  (yTile p).view.loc (c : Thread nD τ) ↦[(yTile p).view.set]{fullShare} f
abbrev yLanded (s p : ℕ) (f : Buf (Elt F) ((ySlot s).view.loc (c : Thread nD τ))) : Buf (Elt F) ((yTile p).view.loc (c : Thread nD τ)) :=
  (yTile p).view.writes (Elt F) Y0 [⟨Rect.whole S256x512, ReadAs.same.apply ((ySlot s).view.read (Elt F) f)⟩]
/-- Output slot `s` in flight to tile `p`, the slot at contents `f`. -/
abbrev yFlightP (s p : ℕ) (f : Buf (Elt F) ((ySlot s).view.loc (c : Thread nD τ))) : sProp 𝕄 :=
  Transfers.Flight countersEmb (c : Thread nD τ) (SemLoc.dma (ySem s).sem) () 8192 iprop(yTileP c p (yLanded c Y0 s p f) ∗ ySlotP c s f)
abbrev yFreeP (p : ℕ) : sProp 𝕄 := iprop((∃ f, ySlotP c p f) ∗ yCellP c p)

/-- The pure value an output tile is to hold: a function of the tile's number. -/
abbrev TileVal (F : FTy → Type) [FloatOps F] : Type := ℕ → S256x512.Idx → Elt F .bf16

variable (T : TileVal F)

/-- What output slot `p % 3` does before main trip `p`: free at the first three trips, then tile `p - 3` in flight from it. -/
def yRole (p : ℕ) : sProp 𝕄 :=
  if p < 3 then yFreeP c p else iprop(∃ f, ⌜(ySlot p).view.read (Elt F) f = T (p - 3)⌝ ∗ yFlightP c Y0 p (p - 3) f)
theorem yRole_lt (p : ℕ) (h : p < 3) : yRole c Y0 T p = yFreeP c p := if_pos h
theorem yRole_ge (p : ℕ) (h : 3 ≤ p) : yRole c Y0 T p = iprop(∃ f, ⌜(ySlot p).view.read (Elt F) f = T (p - 3)⌝ ∗ yFlightP c Y0 p (p - 3) f) := if_neg (by omega)

/-- Output tile `p` written. -/
def yDoneP (p : ℕ) : sProp 𝕄 := iprop(∃ g, ⌜(yTile p).view.read (Elt F) g = T p⌝ ∗ yTileP c p g)

end

end Cert.Proof.Ideal

end
-- ==== Proof.Ideal.Loop2.lean ====
/-
  The low-rank correction, sixteen tokens a trip: trip `k` reads the sixteen rows of each of the sixteen middle blocks,
  multiplies them by the spread-out mixing matrix and stores the twenty-eight blocks of those rows.
-/
module

public import proofs.«01_k».proof.Proof.Ideal.Pieces
public import Idealize.ShloMosaic.Lib.WritesUnit
public import Idealize.ShloMosaic.Lib.ValueIdx

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

open Idealize.ShloMosaic.ValueIdx

abbrev tM : Memref sig .tc .vmem S16x256x512 .bf16 := Memref.whole cc0_scratch11
abbrev kcM : Memref sig .tc .vmem S448x256 .bf16 := Memref.whole cc0_scratch9
abbrev uM : Memref sig .tc .vmem S28x256x512 .f32 := Memref.whole cc0_scratch12

/-- Rows `16 k … 16 k + 15` of every middle block. -/
def tRows (tv : S16x256x512.Idx → Elt F .bf16) (k : ℕ) : S16x16x512.Idx → Elt F .bf16 := fun j =>
  tv (ix3 (n0 := 16) (n1 := 256) (n2 := 512) (j 0) ⟨16 * (k % 16) + (j 1).val, by have h : (j 1).val < 16 := (j 1).isLt; omega⟩ (j 2))

/-- The correction as the loop computes it from the middle blocks `tv` and the mixing matrix `kv`. -/
def uVal (tv : S16x256x512.Idx → Elt F .bf16) (kv : S448x256.Idx → Elt F .bf16) : S28x256x512.Idx → Elt F .f32 := fun i =>
  k0_pay79 (F := F) (tRows tv ((i 1).val / 16)) kv
    (ix3 (n0 := 28) (n1 := 16) (n2 := 512) (i 0) ⟨(i 1).val % 16, Nat.mod_lt _ (by decide)⟩ (i 2))

abbrev rowOff (k : ℕ) : Fin 3 → Nat := ![0, 16 * k, 0]
theorem off4_eq : ∀ k : Fin k0_t2_loop.trips, k0_off4 k = rowOff k.val := by decide +kernel
theorem off5_eq : ∀ k : Fin k0_t2_loop.trips, k0_off5 k = rowOff k.val := by decide +kernel
theorem trips2 : k0_t2_loop.trips = 16 := by decide +kernel
instance (k : Fin k0_t2_loop.trips) : ClosedOff (k0_off4 k) := ⟨rowOff k.val, off4_eq k⟩
instance (k : Fin k0_t2_loop.trips) : ClosedOff (k0_off5 k) := ⟨rowOff k.val, off5_eq k⟩

variable (c : Dev nD)
  (ft : Buf (Elt F) (tM.view.loc (c : Thread nD τ))) (fk : Buf (Elt F) (kcM.view.loc (c : Thread nD τ)))

/-- Before trip `k` the rows below `16 k` are done. -/
def inv2 (k : ℕ) : sProp 𝕄 :=
  iprop(((Memref.whole cc0_scratch11).view.loc (c : Thread nD τ) ↦[(Memref.whole cc0_scratch11).view.set]{fullShare} ft) ∗ ((Memref.whole cc0_scratch9).view.loc (c : Thread nD τ) ↦[(Memref.whole cc0_scratch9).view.set]{fullShare} fk)
    ∗ ∃ fu, ⌜∀ i : S28x256x512.Idx, (i 1).val < 16 * k →
        uM.view.read (Elt F) fu i = uVal (tM.view.read (Elt F) ft) (kcM.view.read (Elt F) fk) i⌝
      ∗ ((Memref.whole cc0_scratch12).view.loc (c : Thread nD τ) ↦[(Memref.whole cc0_scratch12).view.set]{fullShare} fu))

abbrev trip2 (v610 : Vec F S256x128 .bf16) (k : Fin k0_t2_loop.trips) : Prog (TpuEff nD τ sig (Elt F) Λ₀ .tc) Unit :=
  k0_t2_body (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 v610 k ()

/-- Storing trip `k`'s block extends what is done by its sixteen rows. -/
theorem done_step (k : Fin k0_t2_loop.trips) (fu : Buf (Elt F) (uM.view.loc (c : Thread nD τ)))
    (h : ∀ i : S28x256x512.Idx, (i 1).val < 16 * k.val →
        uM.view.read (Elt F) fu i = uVal (tM.view.read (Elt F) ft) (kcM.view.read (Elt F) fk) i) :
    ∀ i : S28x256x512.Idx, (i 1).val < 16 * (k.val + 1) →
      uM.view.read (Elt F) (uM.view.writes (Elt F) fu [⟨Rect.unit (s := S28x256x512) (k0_off5 k) S28x16x512.size (k0_off5_inb k),
        k0_pay79 (F := F)
          (tM.view.readAt (Elt F) (Rect.unit (s := S16x256x512) (k0_off4 k) S16x16x512.size (k0_off4_inb k)).toLoadRect ft)
          (kcM.view.readAt (Elt F) (Rect.unit (s := S448x256) ![0, 0] S448x256.size inb_S448x256_S448x256_0_0).toLoadRect fk)⟩]) i
        = uVal (tM.view.read (Elt F) ft) (kcM.view.read (Elt F) fk) i := by
  intro i hi
  have hk : k.val < 16 := lt_of_lt_of_eq k.isLt trips2
  by_cases hd : (i 1).val < 16 * k.val
  · rw [View.read_writes_cons_unit_of_not_mem (off' := rowOff k.val) _ _ _ _ _ _ (off5_eq k) (1 : Fin 3) (Or.inl hd)]
    exact h i hd
  · have hq : (i 1).val / 16 = k.val := by omega
    rw [View.read_writes_cons_unit_of_mem (off' := rowOff k.val) _ _ _ _ _ _
      (ix3 (n0 := 28) (n1 := 16) (n2 := 512) (i 0) ⟨(i 1).val % 16, Nat.mod_lt _ (by decide)⟩ (i 2)) (off5_eq k)
      (by
        intro a; fin_cases a
        · show (i 0).val = 0 + (i 0).val; omega
        · show (i 1).val = 16 * k.val + (i 1).val % 16; omega
        · show (i 2).val = 0 + (i 2).val; omega)]
    unfold uVal
    congr 1
    · funext j
      rw [View.readAt_apply]
      unfold tRows
      refine congrArg _ (funext fun a => Fin.ext ?_)
      rw [LoadRect.idx_apply]
      fin_cases a
      · show k0_off4 k 0 + 1 * (j 0).val = (j 0).val
        have e : k0_off4 k 0 = 0 := congrFun (off4_eq k) 0
        omega
      · show k0_off4 k 1 + 1 * (j 1).val = 16 * ((i 1).val / 16 % 16) + (j 1).val
        have e : k0_off4 k 1 = 16 * k.val := congrFun (off4_eq k) 1
        omega
      · show k0_off4 k 2 + 1 * (j 2).val = (j 2).val
        have e : k0_off4 k 2 = 0 := congrFun (off4_eq k) 2
        omega
    · funext j
      rw [View.readAt_apply]
      refine congrArg _ (funext fun a => Fin.ext ?_)
      rw [LoadRect.idx_apply]
      fin_cases a
      · show 0 + 1 * (j 0).val = (j 0).val; omega
      · show 0 + 1 * (j 1).val = (j 1).val; omega

theorem trip2_run (v610 : Vec F S256x128 .bf16) (k : Fin k0_t2_loop.trips) :
    inv2 c ft fk k.val ⊢ wp frame (wpE (defs₀ (F := F)) 𝒱₀ (c : Thread nD τ) none) Set.univ (trip2 v610 k) (fun _ => inv2 c ft fk (k.val + 1)) := by
  unfold inv2
  iintro ⟨Ht, Hk, ⟨%fu, %hu, Hu⟩⟩
  delta trip2
  sl_unfold [k0_t2_body]
  sl_exec
  sl_step
  isplitl [Ht]; · iexact Ht
  isplitl [Hk]; · iexact Hk
  iexists _
  isplitr
  · ipureintro; exact done_step c ft fk k fu hu
  iexact Hu

set_option warn.classDefReducibility false in
@[sl_loop] def loopInv2 (v610 : Vec F S256x128 .bf16) :
    LoopInvTy_k0_t2 (F := F) Unit ℕ (UU nD τ) ℕ 𝒱₀ c none Set.univ (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 v610 where
  inv k _ := inv2 c ft fk k
  step k _ := trip2_run c ft fk v610 k

end Cert.Proof.Ideal

end
-- ==== Proof.Ideal.Loop3.lean ====
/-
  The main loop: trip `k` waits for weight tile `k`, multiplies the codes by it, adds the correction, stores the tile in its
  slot of the output ring and starts the transfer of that slot to output tile `k`; it starts weight tile `k + 20` too.
-/
module

public import proofs.«01_k».proof.Proof.Ideal.Loop2

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

open Idealize.ShloMosaic.ValueIdx

abbrev xqM : Memref sig .tc .vmem S256x3072 .fp8e4m3 := Memref.whole cc0_scratch1
abbrev wsM : Memref sig .tc .vmem S1x14336 .f32 := Memref.whole cc0_scratch3

/-! ## An output tile's value -/

/-- Tile `p` of the weight, as the kernel reads it. -/
def wBlk (w : S14336x3072.Idx → Elt F .fp8e4m3) (p : ℕ) : S1x512x3072.Idx → Elt F .fp8e4m3 := fun i =>
  w (ix2 (n0 := 14336) (n1 := 3072) ⟨512 * (p % 28) + (i 1).val, by have h : (i 1).val < 512 := (i 1).isLt; omega⟩ (i 2))
/-- Its scales. -/
def wsBlk (ws : S1x14336.Idx → Elt F .f32) (p : ℕ) : S1x512.Idx → Elt F .f32 := fun i =>
  ws (ix2 (n0 := 1) (n1 := 14336) (i 0) ⟨512 * (p % 28) + (i 1).val, by have h : (i 1).val < 512 := (i 1).isLt; omega⟩)
/-- Its correction. -/
def uBlk (u : S28x256x512.Idx → Elt F .f32) (p : ℕ) : S1x256x512.Idx → Elt F .f32 := fun i =>
  u (ix3 (n0 := 28) (n1 := 256) (n2 := 512) ⟨p % 28, Nat.mod_lt _ (by decide)⟩ (i 1) (i 2))

/-- Output tile `p` from the codes, the weight, its scales, the correction and the spread-out token scales. -/
def tileVal (xq : S256x3072.Idx → Elt F .fp8e4m3) (w : S14336x3072.Idx → Elt F .fp8e4m3) (ws : S1x14336.Idx → Elt F .f32)
    (u : S28x256x512.Idx → Elt F .f32) (v636 : FVec F S256x512 .f32) : TileVal F := fun p j =>
  k0_pay1 (F := F) v636 xq (wBlk w p) (wsBlk ws p) (uBlk u p) (ix3 (n0 := 1) (n1 := 256) (n2 := 512) 0 (j 0) (j 1))

theorem trips3 : k0_t3_loop.trips = 28 := by decide +kernel
instance (k : Fin k0_t3_loop.trips) : ClosedOff (k0_off13 k) := ⟨wsColOff k.val, off13_eq k⟩
instance (k : Fin k0_t3_loop.trips) : ClosedOff (k0_off14 k) := ⟨uRowOff k.val, off14_eq k⟩

variable (c : Dev nD) (XW : Buf (Elt F) ((c : Thread nD τ).loc main_arg1)) (Y0 : Buf (Elt F) ((c : Thread nD τ).loc main_v4_0))
  (q : PosShare TreeShare) (fq : Buf (Elt F) (xqM.view.loc (c : Thread nD τ))) (fw : Buf (Elt F) (wsM.view.loc (c : Thread nD τ)))
  (fu : Buf (Elt F) (uM.view.loc (c : Thread nD τ))) (v636 : FVec F S256x512 .f32)

/-- The output tiles' values, read off the buffers' contents. -/
abbrev T3 : TileVal F := tileVal (F := F) (xqM.view.read (Elt F) fq) (wM.view.read (Elt F) XW) (wsM.view.read (Elt F) fw) (uM.view.read (Elt F) fu) v636

/-! ## One turn later -/

theorem wRole_turn_lt (n : ℕ) (h : n + 20 < 28) : wRole c XW (n + 20) = iprop(∃ f, Transfers.Flight countersEmb (c : Thread nD τ) (SemLoc.dma (wSem n).sem) () 49152
    iprop(((wSlot n).view.loc (c : Thread nD τ) ↦[(wSlot n).view.set]{fullShare} (wSlot n).view.writes (Elt F) f [⟨Rect.whole S512x3072, ReadAs.same.apply ((wTile (n + 20)).view.read (Elt F) XW)⟩])
      ∗ wHomeP c XW (n + 20))) := by
  rw [wRole_lt c XW _ h]
  simp only [wFlightP, wSlotP, wLanded]
  rw [wSlot_turn, wSem_turn]
theorem wRole_turn_ge (n : ℕ) (h : 28 ≤ n + 20) : wRole c XW (n + 20) = wFreeP c n := by
  rw [wRole_ge c XW _ h]
  simp only [wFreeP, wSlotP, wCellP]
  rw [wSlot_turn, wSem_turn]
theorem yRole_turn (T : TileVal F) (n : ℕ) :
    yRole c Y0 T (n + 3) = iprop(∃ f, ⌜(ySlot n).view.read (Elt F) f = T n⌝ ∗ yFlightP c Y0 n n f) := by
  rw [yRole_ge c Y0 T _ (by omega)]
  simp only [yFlightP, ySlotP, yTileP, yLanded]
  rw [ySlot_turn, ySem_turn, show n + 3 - 3 = n by omega]

/-- Output tile `p` before it is written. -/
abbrev yStartP (p : ℕ) : sProp 𝕄 := yTileP c p Y0

/-- Before trip `n`. -/
def inv3 (n : ℕ) : sProp 𝕄 :=
  iprop(bigSep (Finset.Ico n (n + 20)) (wRole c XW) ∗ bigSep (Finset.Ico 0 n) (wHomeP c XW) ∗ bigSep (Finset.Ico (n + 20) 28) (wHomeP c XW)
    ∗ bigSep (Finset.Ico n 28) (yStartP c Y0) ∗ bigSep (Finset.Ico 0 (n - 3)) (yDoneP c (T3 c XW fq fw fu v636))
    ∗ bigSep (Finset.Ico n (n + 3)) (yRole c Y0 (T3 c XW fq fw fu v636))
    ∗ ((Memref.whole cc0_scratch1).view.loc (c : Thread nD τ) ↦[(Memref.whole cc0_scratch1).view.set]{q} fq)
    ∗ ((Memref.whole cc0_scratch3).view.loc (c : Thread nD τ) ↦[(Memref.whole cc0_scratch3).view.set]{fullShare} fw)
    ∗ ((Memref.whole cc0_scratch12).view.loc (c : Thread nD τ) ↦[(Memref.whole cc0_scratch12).view.set]{fullShare} fu)
    ∗ ∃ W, owes (c : Thread nD τ) 0 W)

/-! ## What a trip stores -/

/-- A leading axis of extent one added to an index. -/
theorem addUnit_idx {n : Nat} (d : Fin n → Nat) (h : (⟨n, d⟩ : Shape).numel = (⟨n + 1, Matrix.vecCons 1 d⟩ : Shape).numel) (j : (⟨n, d⟩ : Shape).Idx) :
    Shape.reshapeEquiv (s := ⟨n + 1, Matrix.vecCons 1 d⟩) (s' := ⟨n, d⟩) h j = Fin.cons ⟨0, Nat.one_pos⟩ j := by
  apply Shape.reshapeEquiv_eq_of_rowMajor
  show (Shape.rowMajorPi (Matrix.vecCons 1 d) (Fin.cons ⟨0, Nat.one_pos⟩ j)).val = (Shape.rowMajorPi d j).val
  rw [Shape.rowMajorPi_succ_val]
  show 0 * _ + (Shape.rowMajorPi d j).val = (Shape.rowMajorPi d j).val
  simp

/-- The weight tile a slot's transfer left there, read through the whole ring. -/
theorem ring_read (p : ℕ) (off : Fin 3 → ℕ) (e : off = wSlotOff p) (inb) (f : Buf (Elt F) ((wSlot p).view.loc (c : Thread nD τ)))
    (x : S512x3072.Idx → Elt F .fp8e4m3) :
    ringM.view.readAt (Elt F) (Rect.unit (s := S20x512x3072) off S1x512x3072.size inb).toLoadRect
      ((wSlot p).view.writes (Elt F) f [⟨Rect.whole S512x3072, x⟩])
      = fun i => x (ix2 (n0 := 512) (n1 := 3072) (i 1) (i 2)) := by
  subst e
  funext i
  have hi : i = Shape.reshapeEquiv (s := S1x512x3072) (s' := S512x3072) squeezes_S1x512x3072_S512x3072.numel_eq (ix2 (n0 := 512) (n1 := 3072) (i 1) (i 2)) := by
    rw [addUnit_idx]
    funext a; fin_cases a
    · exact Fin.ext (by have h : (i 0).val < 1 := (i 0).isLt; show (i 0).val = 0; omega)
    · rfl
    · rfl
  have hw := congrFun (View.read_writes_whole (Val := Elt F) (wSlot p).view f x) (ix2 (n0 := 512) (n1 := 3072) (i 1) (i 2))
  rw [← hw]
  conv_lhs => rw [hi]
  rfl

/-- What is read of an output slot just stored. -/
theorem slot_read (p : ℕ) (off : Fin 3 → ℕ) (e : off = ySlotOff p) (inb) (f : Buf (Elt F) ((ySlot p).view.loc (c : Thread nD τ)))
    (x : S1x256x512.Idx → Elt F .bf16) :
    (ySlot p).view.read (Elt F) (View.write (Elt F) ((Memref.whole cc0_scratch15).access (Rect.unit (s := S3x256x512) off S1x256x512.size inb)) f x Finset.univ)
      = fun j => x (ix3 (n0 := 1) (n1 := 256) (n2 := 512) 0 (j 0) (j 1)) := by
  subst e
  funext j
  have hj : Shape.reshapeEquiv (s := S1x256x512) (s' := S256x512) squeezes_S1x256x512_S256x512.numel_eq j = ix3 (n0 := 1) (n1 := 256) (n2 := 512) 0 (j 0) (j 1) := by
    rw [addUnit_idx]
    funext a; fin_cases a <;> rfl
  rw [← hj]
  exact congrFun (View.read_write_univ (Val := Elt F) (v := (Memref.whole cc0_scratch15).access (Rect.unit (s := S3x256x512) (ySlotOff p) S1x256x512.size inb)) f x)
    (Shape.reshapeEquiv (s := S1x256x512) (s' := S256x512) squeezes_S1x256x512_S256x512.numel_eq j)

/-- A weight tile read off the whole weight. -/
theorem wTile_read (p : ℕ) (j : S512x3072.Idx) :
    (wTile p).view.read (Elt F) XW j = wM.view.read (Elt F) XW (ix2 (n0 := 14336) (n1 := 3072) ⟨512 * (p % 28) + (j 0).val, by have h : (j 0).val < 512 := (j 0).isLt; omega⟩ (j 1)) := by
  show wM.view.read (Elt F) XW ((Rect.unit (s := S14336x3072) (wTileOff p) S512x3072.size (wTileOff_inb p)).emb j) = _
  refine congrArg _ (funext fun a => Fin.ext ?_)
  fin_cases a
  · show 512 * (p % 28) + 1 * (j 0).val = 512 * (p % 28) + (j 0).val; omega
  · show 0 + 1 * (j 1).val = (j 1).val; omega

/-- Trip `k` leaves tile `k`'s value in its slot. -/
theorem tile_stored (k : Fin k0_t3_loop.trips) (f : Buf (Elt F) ((wSlot k.val).view.loc (c : Thread nD τ))) (fs : Buf (Elt F) ((ySlot k.val).view.loc (c : Thread nD τ))) :
    (ySlot k.val).view.read (Elt F) (View.write (Elt F) ((Memref.whole cc0_scratch15).access (Rect.unit (s := S3x256x512) (k0_off15 k) S1x256x512.size (k0_off15_inb k))) fs
      (k0_pay1 (F := F) v636
        (xqM.view.readAt (Elt F) (Rect.unit (s := S256x3072) ![0, 0] S256x3072.size inb_S256x3072_S256x3072_0_0).toLoadRect fq)
        (ringM.view.readAt (Elt F) (Rect.unit (s := S20x512x3072) (k0_off9 k) S1x512x3072.size (k0_off9_inb k)).toLoadRect (wLanded c XW k.val f))
        (wsM.view.readAt (Elt F) (Rect.unit (s := S1x14336) (k0_off13 k) S1x512.size (k0_off13_inb k)).toLoadRect fw)
        (uM.view.readAt (Elt F) (Rect.unit (s := S28x256x512) (k0_off14 k) S1x256x512.size (k0_off14_inb k)).toLoadRect fu)) Finset.univ)
      = T3 c XW fq fw fu v636 k.val := by
  rw [slot_read c k.val _ (off15_eq k)]
  have e1 : xqM.view.readAt (Elt F) (Rect.unit (s := S256x3072) ![0, 0] S256x3072.size inb_S256x3072_S256x3072_0_0).toLoadRect fq = xqM.view.read (Elt F) fq := by
    funext i
    rw [View.readAt_apply]
    refine congrArg _ (funext fun a => Fin.ext ?_)
    rw [LoadRect.idx_apply]
    fin_cases a
    · show 0 + 1 * (i 0).val = (i 0).val; omega
    · show 0 + 1 * (i 1).val = (i 1).val; omega
  have e2 : ringM.view.readAt (Elt F) (Rect.unit (s := S20x512x3072) (k0_off9 k) S1x512x3072.size (k0_off9_inb k)).toLoadRect (wLanded c XW k.val f)
      = wBlk (wM.view.read (Elt F) XW) k.val := by
    unfold wLanded
    rw [ring_read c k.val _ (off9_eq k)]
    funext i
    exact wTile_read c XW k.val _
  have e3 : wsM.view.readAt (Elt F) (Rect.unit (s := S1x14336) (k0_off13 k) S1x512.size (k0_off13_inb k)).toLoadRect fw = wsBlk (wsM.view.read (Elt F) fw) k.val := by
    funext i
    rw [View.readAt_apply]
    refine congrArg _ (funext fun a => Fin.ext ?_)
    rw [LoadRect.idx_apply]
    fin_cases a
    · have e : k0_off13 k 0 = 0 := congrFun (off13_eq k) 0
      show k0_off13 k 0 + 1 * (i 0).val = (i 0).val; omega
    · have e : k0_off13 k 1 = 512 * (k.val % 28) := congrFun (off13_eq k) 1
      show k0_off13 k 1 + 1 * (i 1).val = 512 * (k.val % 28) + (i 1).val; omega
  have e4 : uM.view.readAt (Elt F) (Rect.unit (s := S28x256x512) (k0_off14 k) S1x256x512.size (k0_off14_inb k)).toLoadRect fu = uBlk (uM.view.read (Elt F) fu) k.val := by
    funext i
    rw [View.readAt_apply]
    refine congrArg _ (funext fun a => Fin.ext ?_)
    rw [LoadRect.idx_apply]
    fin_cases a
    · have e : k0_off14 k 0 = k.val % 28 := congrFun (off14_eq k) 0
      have h : (i 0).val < 1 := (i 0).isLt
      show k0_off14 k 0 + 1 * (i 0).val = k.val % 28; omega
    · have e : k0_off14 k 1 = 0 := congrFun (off14_eq k) 1
      show k0_off14 k 1 + 1 * (i 1).val = (i 1).val; omega
    · have e : k0_off14 k 2 = 0 := congrFun (off14_eq k) 2
      show k0_off14 k 2 + 1 * (i 2).val = (i 2).val; omega
  rw [e1, e2, e3, e4]
  rfl

/-- An output tile that has landed. -/
theorem yTile_landed (s p : ℕ) (f : Buf (Elt F) ((ySlot s).view.loc (c : Thread nD τ))) :
    (yTile p).view.read (Elt F) (yLanded c Y0 s p f) = (ySlot s).view.read (Elt F) f := View.read_writes_whole _ _ _

abbrev trip3 (c0 : BitVec 32) (k : Fin k0_t3_loop.trips) : Prog (TpuEff nD τ sig (Elt F) Λ₀ .tc) Unit :=
  k0_t3_body (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 v636 c0 k ()

theorem trip3_run_lo (k : Fin k0_t3_loop.trips) (h : k.val < 3) :
    inv3 c XW Y0 q fq fw fu v636 k.val ⊢ wp frame (wpE (defs₀ (F := F)) 𝒱₀ (c : Thread nD τ) none) Set.univ (trip3 v636 0#32 k) (fun _ => inv3 c XW Y0 q fq fw fu v636 (k.val + 1)) := by
  have hk : k.val < 28 := lt_of_lt_of_eq k.isLt trips3
  have h1 : ¬ k0_cond1 k = 1#1 := fun e => absurd ((cond1_iff k).mp e) (by omega)
  have h2 : k0_cond2 k = 1#1 := (cond2_iff k).mpr (by omega)
  have h2' : k.val + 20 < 28 := by omega
  unfold inv3
  rw [show k.val + 1 + 20 = k.val + 20 + 1 by omega, show k.val + 1 + 3 = k.val + 3 + 1 by omega]
  rw [bigSep_Ico_take k.val (k.val + 20) (by omega), bigSep_Ico_put (k.val + 1) (k.val + 20) (by omega), bigSep_Ico_put 0 k.val (by omega),
    bigSep_Ico_take k.val 28 hk, bigSep_Ico_take k.val (k.val + 3) (by omega), bigSep_Ico_put (k.val + 1) (k.val + 3) (by omega),
    wRole_lt c XW k.val hk, yRole_turn]
  rw [bigSep_Ico_take (k.val + 20) 28 (by omega), wRole_turn_lt c XW k.val (by omega), yRole_lt c Y0 _ k.val h]
  iintro ⟨⟨⟨%f, Hfl⟩, Hfly⟩, Hhome, ⟨Hh, Hnext⟩, ⟨Ht, Hts⟩, Hdone, ⟨⟨⟨%fs, Hs⟩, Hc⟩, Hyr⟩, Hq, Hw, Hu, ⟨%W, HW⟩⟩
  delta trip3
  sl_unfold [k0_t3_body, k0_part1]
  sl_exec
  sl_step
  isplitl [Hfl Hfly]
  · isplitl [Hfl]
    · iexists _; iexact Hfl
    iexact Hfly
  isplitl [Hfl_src Hhome]
  · isplitl [Hfl_src]; · iexact Hfl_src
    iexact Hhome
  isplitl [Hnext]; · iexact Hnext
  isplitl [Hts]; · iexact Hts
  isplitl [Hdone]
  · rw [show k.val + 1 - 3 = k.val - 3 by omega]; iexact Hdone
  isplitl [Hc Hyr]
  · isplitl [Hc]
    · iexists _
      isplitr
      swap
      · iexact Hc
      ipureintro
      exact tile_stored c XW fq fw fu v636 k _ fs
    iexact Hyr
  isplitl [Hq]; · iexact Hq
  isplitl [Hw]; · iexact Hw
  isplitl [Hu]; · iexact Hu
  iexists _; iexact HW

theorem trip3_run_mid (k : Fin k0_t3_loop.trips) (h : 3 ≤ k.val) (h' : k.val + 20 < 28) :
    inv3 c XW Y0 q fq fw fu v636 k.val ⊢ wp frame (wpE (defs₀ (F := F)) 𝒱₀ (c : Thread nD τ) none) Set.univ (trip3 v636 0#32 k) (fun _ => inv3 c XW Y0 q fq fw fu v636 (k.val + 1)) := by
  have hk : k.val < 28 := lt_of_lt_of_eq k.isLt trips3
  have h1 : k0_cond1 k = 1#1 := (cond1_iff k).mpr h
  have h2 : k0_cond2 k = 1#1 := (cond2_iff k).mpr (by omega)
  have h2' : k.val + 20 < 28 := by omega
  unfold inv3
  rw [show k.val + 1 + 20 = k.val + 20 + 1 by omega, show k.val + 1 + 3 = k.val + 3 + 1 by omega]
  rw [bigSep_Ico_take k.val (k.val + 20) (by omega), bigSep_Ico_put (k.val + 1) (k.val + 20) (by omega), bigSep_Ico_put 0 k.val (by omega),
    bigSep_Ico_take k.val 28 hk, bigSep_Ico_take k.val (k.val + 3) (by omega), bigSep_Ico_put (k.val + 1) (k.val + 3) (by omega),
    wRole_lt c XW k.val hk, yRole_turn]
  rw [bigSep_Ico_take (k.val + 20) 28 (by omega), wRole_turn_lt c XW k.val (by omega), yRole_ge c Y0 _ k.val h]
  iintro ⟨⟨⟨%f, Hfl⟩, Hfly⟩, Hhome, ⟨Hh, Hnext⟩, ⟨Ht, Hts⟩, Hdone, ⟨⟨%fs, %hfs, Hy⟩, Hyr⟩, Hq, Hw, Hu, ⟨%W, HW⟩⟩
  delta trip3
  sl_unfold [k0_t3_body, k0_part1]
  sl_exec
  sl_step
  isplitl [Hfl Hfly]
  · isplitl [Hfl]
    · iexists _; iexact Hfl
    iexact Hfly
  isplitl [Hfl_src Hhome]
  · isplitl [Hfl_src]; · iexact Hfl_src
    iexact Hhome
  isplitl [Hnext]; · iexact Hnext
  isplitl [Hts]; · iexact Hts
  isplitl [Hdone Hy_dst]
  · rw [show k.val + 1 - 3 = k.val - 3 + 1 by omega, bigSep_Ico_put 0 (k.val - 3) (by omega)]
    isplitl [Hy_dst]
    · unfold yDoneP
      iexists _
      isplitr
      swap
      · iexact Hy_dst
      ipureintro
      exact (View.read_writes_whole _ _ _).trans hfs
    iexact Hdone
  isplitl [Hy Hyr]
  · isplitl [Hy]
    · iexists _
      isplitr
      swap
      · iexact Hy
      ipureintro
      exact tile_stored c XW fq fw fu v636 k _ fs
    iexact Hyr
  isplitl [Hq]; · iexact Hq
  isplitl [Hw]; · iexact Hw
  isplitl [Hu]; · iexact Hu
  iexists _; iexact HW

theorem trip3_run_hi (k : Fin k0_t3_loop.trips) (h' : 28 ≤ k.val + 20) :
    inv3 c XW Y0 q fq fw fu v636 k.val ⊢ wp frame (wpE (defs₀ (F := F)) 𝒱₀ (c : Thread nD τ) none) Set.univ (trip3 v636 0#32 k) (fun _ => inv3 c XW Y0 q fq fw fu v636 (k.val + 1)) := by
  have hk : k.val < 28 := lt_of_lt_of_eq k.isLt trips3
  have h : 3 ≤ k.val := by omega
  have h1 : k0_cond1 k = 1#1 := (cond1_iff k).mpr h
  have h2 : ¬ k0_cond2 k = 1#1 := fun e => absurd ((cond2_iff k).mp e) (by omega)
  unfold inv3
  rw [show k.val + 1 + 20 = k.val + 20 + 1 by omega, show k.val + 1 + 3 = k.val + 3 + 1 by omega]
  rw [bigSep_Ico_take k.val (k.val + 20) (by omega), bigSep_Ico_put (k.val + 1) (k.val + 20) (by omega), bigSep_Ico_put 0 k.val (by omega),
    bigSep_Ico_take k.val 28 hk, bigSep_Ico_take k.val (k.val + 3) (by omega), bigSep_Ico_put (k.val + 1) (k.val + 3) (by omega),
    wRole_lt c XW k.val hk, yRole_turn]
  rw [bigSep_Ico_empty (k.val + 20) 28 (by omega), bigSep_Ico_empty (k.val + 20 + 1) 28 (by omega), wRole_turn_ge c XW k.val (by omega), yRole_ge c Y0 _ k.val h]
  iintro ⟨⟨⟨%f, Hfl⟩, Hfly⟩, Hhome, Hnext, ⟨Ht, Hts⟩, Hdone, ⟨⟨%fs, %hfs, Hy⟩, Hyr⟩, Hq, Hw, Hu, ⟨%W, HW⟩⟩
  delta trip3
  sl_unfold [k0_t3_body, k0_part1]
  sl_exec
  sl_step
  isplitl [Hfl Hfl_dst Hfly]
  · isplitl [Hfl Hfl_dst]
    · isplitl [Hfl_dst]; · iexists _; iexact Hfl_dst
      iexact Hfl
    iexact Hfly
  isplitl [Hfl_src Hhome]
  · isplitl [Hfl_src]; · iexact Hfl_src
    iexact Hhome
  isplitl [Hnext]; · iexact Hnext
  isplitl [Hts]; · iexact Hts
  isplitl [Hdone Hy_dst]
  · rw [show k.val + 1 - 3 = k.val - 3 + 1 by omega, bigSep_Ico_put 0 (k.val - 3) (by omega)]
    isplitl [Hy_dst]
    · unfold yDoneP
      iexists _
      isplitr
      swap
      · iexact Hy_dst
      ipureintro
      exact (View.read_writes_whole _ _ _).trans hfs
    iexact Hdone
  isplitl [Hy Hyr]
  · isplitl [Hy]
    · iexists _
      isplitr
      swap
      · iexact Hy
      ipureintro
      exact tile_stored c XW fq fw fu v636 k _ fs
    iexact Hyr
  isplitl [Hq]; · iexact Hq
  isplitl [Hw]; · iexact Hw
  isplitl [Hu]; · iexact Hu
  iexists _; iexact HW

/-- A trip, whichever of the three kinds it is. -/
theorem trip3_run (k : Fin k0_t3_loop.trips) :
    inv3 c XW Y0 q fq fw fu v636 k.val ⊢ wp frame (wpE (defs₀ (F := F)) 𝒱₀ (c : Thread nD τ) none) Set.univ (trip3 v636 0#32 k) (fun _ => inv3 c XW Y0 q fq fw fu v636 (k.val + 1)) := by
  by_cases h : k.val < 3
  · exact trip3_run_lo c XW Y0 q fq fw fu v636 k h
  by_cases h' : k.val + 20 < 28
  · exact trip3_run_mid c XW Y0 q fq fw fu v636 k (by omega) h'
  · exact trip3_run_hi c XW Y0 q fq fw fu v636 k (by omega)

set_option warn.classDefReducibility false in
@[sl_loop] def loopInv3 :
    LoopInvTy_k0_t3 (F := F) Unit ℕ (UU nD τ) ℕ 𝒱₀ c none Set.univ (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 v636 0#32 where
  inv k _ := inv3 c XW Y0 q fq fw fu v636 k
  step k _ := trip3_run c XW Y0 q fq fw fu v636 k

end Cert.Proof.Ideal

end
-- ==== Proof.Ideal.Vals.lean ====
/-
  What the kernel computes, as plain functions of its inputs; and that its lists of partial stores hold them.
-/
module

public import proofs.«01_k».proof.Proof.Ideal.Loop2
public import proofs.«01_k».proof.Proof.Ideal.Loop3
public import Idealize.ShloMosaic.Lib.WritesUnit
public import Idealize.ShloMosaic.Lib.Pipeline.Value

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

open Idealize.ShloMosaic.ValueIdx

abbrev rdM : Memref sig .tc .vmem S256x768 .bf16 := Memref.whole cc0_scratch7
abbrev ruM : Memref sig .tc .vmem S2x128x512 .bf16 := Memref.whole cc0_scratch8
abbrev t1M : Memref sig .tc .vmem S256x1024 .bf16 := Memref.whole cc0_scratch10
abbrev xsM : Memref sig .tc .vmem S2x128 .f32 := Memref.whole cc0_scratch14

/-! ## A list of writes, one piece at a time -/

section Push
variable {sig : RefSig} {κ : Kind} {sp : Space} {s : Shape} {e : EltTy} {Val : EltTy → Type} [∀ e, Nonempty (Val e)] (v : View sig κ sp s e)

/-- One more piece: where it lies it holds `V`; elsewhere what the rest of the list holds. -/
theorem read_push {off size : Fin s.rank → ℕ} (inb : ∀ a, off a + size a ≤ s.size a) (w : (Rect.unit off size inb).shape.Idx → Val e)
    (L : List (View.Piece Val s e)) (f : v.ty.Contents Val) (V : s.Idx → Val e) (P Q : s.Idx → Prop)
    (hin : ∀ (y : s.Idx) (h : ∀ a, off a ≤ (y a).val ∧ (y a).val < off a + size a), w (Rect.unitLocal (s := s) (off := off) (size := size) y h) = V y)
    (hout : ∀ y, Q y → ¬ P y → ∀ a, off a ≤ (y a).val ∧ (y a).val < off a + size a)
    (h : ∀ y, P y → v.read Val (v.writes Val f L) y = V y) :
    ∀ y, Q y → v.read Val (v.writes Val f ((⟨Rect.unit off size inb, w⟩ : View.Piece Val s e) :: L)) y = V y := by
  intro y hy
  rw [View.read_writes_cons_unit v f inb w L y rfl]
  split
  · next hm => exact hin y hm
  · next hm => exact h y (Classical.byContradiction fun hp => hm (hout y hy hp))

/-- A load of a rectangle of a buffer whose list of writes reads `V`. -/
theorem readCov_of_read (L : List (View.Piece Val s e)) (V : s.Idx → Val e) (h : v.read Val (v.writes Val v.junk L) = V) (B : LoadRect s) :
    v.readCov L B = fun y => V (B.idx y) := by
  subst h; rfl
end Push

/-- A load of a rectangle of a buffer written whole by one transfer. -/
theorem readCov_whole {sig : RefSig} {κ : Kind} {sp : Space} {s : Shape} {e : EltTy} {Val : EltTy → Type} [∀ e, Nonempty (Val e)] (v : View sig κ sp s e)
    (x : s.Idx → Val e) (B : LoadRect s) : v.readCov [(⟨Rect.whole s, x⟩ : View.Piece Val s e)] B = fun y => x (B.idx y) :=
  readCov_of_read v _ x (View.read_writes_whole v _ x) B

/-! ## The two small factors, spread over blocks -/

/-- Block `b` of the first: the factor's forty rows at rows `64 b` and columns `192 b`, zero elsewhere. -/
def rdV (dd : S40x192.Idx → Elt F .bf16) : S256x768.Idx → Elt F .bf16 := fun i =>
  if h : (i 1).val / 192 = (i 0).val / 64 ∧ (i 0).val % 64 < 40 then
    dd (ix2 (n0 := 40) (n1 := 192) ⟨(i 0).val % 64, h.2⟩ ⟨(i 1).val % 192, Nat.mod_lt _ (by decide)⟩)
  else (Scalar.ofBits .bf16 0x0000#16 : F .bf16)

theorem rd_push (dd : S40x192.Idx → Elt F .bf16) (n : ℕ) (inb : ∀ a, (![64 * n, 192 * n] : Fin 2 → ℕ) a + S40x192.size a ≤ S256x768.size a)
    (w : S40x192.Idx → Elt F .bf16) (hw : w = dd) (L : List (View.Piece (Elt F) S256x768 .bf16)) (f : rdM.view.ty.Contents (Elt F))
    (h : ∀ y : S256x768.Idx, ¬ ((y 1).val / 192 = (y 0).val / 64 ∧ (y 0).val % 64 < 40 ∧ n ≤ (y 0).val / 64) → rdM.view.read (Elt F) (rdM.view.writes (Elt F) f L) y = rdV dd y) :
    ∀ y : S256x768.Idx, ¬ ((y 1).val / 192 = (y 0).val / 64 ∧ (y 0).val % 64 < 40 ∧ n + 1 ≤ (y 0).val / 64) →
      rdM.view.read (Elt F) (rdM.view.writes (Elt F) f ((⟨Rect.unit (s := S256x768) ![64 * n, 192 * n] S40x192.size inb, w⟩ : View.Piece (Elt F) S256x768 .bf16) :: L)) y = rdV dd y := by
  subst hw
  refine read_push rdM.view inb w L f (rdV w) _ _ ?_ ?_ h
  · intro y hy
    have h0 : 64 * n ≤ (y 0).val ∧ (y 0).val < 64 * n + 40 := hy 0
    have h1 : 192 * n ≤ (y 1).val ∧ (y 1).val < 192 * n + 192 := hy 1
    unfold rdV
    rw [dif_pos ⟨by omega, by omega⟩]
    refine congrArg w (funext fun a => Fin.ext ?_)
    rw [Rect.unitLocal_val]
    fin_cases a
    · show (y 0).val - 64 * n = (y 0).val % 64; omega
    · show (y 1).val - 192 * n = (y 1).val % 192; omega
  · intro y hy hp a
    fin_cases a
    · show 64 * n ≤ (y 0).val ∧ (y 0).val < 64 * n + 40; omega
    · show 192 * n ≤ (y 1).val ∧ (y 1).val < 192 * n + 192; omega

theorem rd_base (dd : S40x192.Idx → Elt F .bf16) (inb) (f : rdM.view.ty.Contents (Elt F)) :
    ∀ y : S256x768.Idx, ¬ ((y 1).val / 192 = (y 0).val / 64 ∧ (y 0).val % 64 < 40 ∧ 0 ≤ (y 0).val / 64) →
      rdM.view.read (Elt F) (rdM.view.writes (Elt F) f [⟨Rect.unit (s := S256x768) ![0, 0] S256x768.size inb, k0_pay2 (F := F)⟩]) y = rdV dd y := by
  intro y hy
  rw [View.read_writes_cons_unit_of_mem rdM.view f inb _ _ y y rfl (by intro a; fin_cases a <;> exact (Nat.zero_add _).symm)]
  unfold rdV
  rw [dif_neg (by omega)]
  unfold k0_pay2
  rw [shapeCast_self]
  rfl

/-- Part `r` of the second: the factor's forty rows at rows `64 r`, zero elsewhere. -/
def ruV (du : S40x512.Idx → Elt F .bf16) : S2x128x512.Idx → Elt F .bf16 := fun i =>
  if h : (i 1).val / 64 = (i 0).val ∧ (i 1).val % 64 < 40 then
    du (ix2 (n0 := 40) (n1 := 512) ⟨(i 1).val % 64, h.2⟩ (i 2))
  else (Scalar.ofBits .bf16 0x0000#16 : F .bf16)

theorem ru_push (du : S40x512.Idx → Elt F .bf16) (n : ℕ) (inb : ∀ a, (![n, 64 * n, 0] : Fin 3 → ℕ) a + S1x40x512.size a ≤ S2x128x512.size a)
    (w : S1x40x512.Idx → Elt F .bf16) (hw : w = shapeCast S1x40x512 du shapeCasts_S40x512_S1x40x512)
    (L : List (View.Piece (Elt F) S2x128x512 .bf16)) (f : ruM.view.ty.Contents (Elt F))
    (h : ∀ y : S2x128x512.Idx, ¬ ((y 1).val / 64 = (y 0).val ∧ (y 1).val % 64 < 40 ∧ n ≤ (y 0).val) → ruM.view.read (Elt F) (ruM.view.writes (Elt F) f L) y = ruV du y) :
    ∀ y : S2x128x512.Idx, ¬ ((y 1).val / 64 = (y 0).val ∧ (y 1).val % 64 < 40 ∧ n + 1 ≤ (y 0).val) →
      ruM.view.read (Elt F) (ruM.view.writes (Elt F) f ((⟨Rect.unit (s := S2x128x512) ![n, 64 * n, 0] S1x40x512.size inb, w⟩ : View.Piece (Elt F) S2x128x512 .bf16) :: L)) y = ruV du y := by
  subst hw
  refine read_push ruM.view inb _ L f (ruV du) _ _ ?_ ?_ h
  · intro y hy
    have h0 : n ≤ (y 0).val ∧ (y 0).val < n + 1 := hy 0
    have h1 : 64 * n ≤ (y 1).val ∧ (y 1).val < 64 * n + 40 := hy 1
    unfold ruV
    rw [dif_pos ⟨by omega, by omega⟩]
    have e : Rect.unitLocal (s := S2x128x512) (off := ![n, 64 * n, 0]) (size := S1x40x512.size) y hy
        = Fin.cons ⟨0, Nat.one_pos⟩ (ix2 (n0 := 40) (n1 := 512) ⟨(y 1).val % 64, by omega⟩ (y 2)) := by
      funext a; apply Fin.ext; rw [Rect.unitLocal_val]
      fin_cases a
      · show (y 0).val - n = 0; omega
      · show (y 1).val - 64 * n = (y 1).val % 64; omega
      · show (y 2).val - 0 = (y 2).val; omega
    rw [e]
    exact shapeCast_addUnit_apply (n := 2) S40x512.size du shapeCasts_S40x512_S1x40x512 _
  · intro y hy hp a
    have h2 : (y 2).val < 512 := (y 2).isLt
    fin_cases a
    · show n ≤ (y 0).val ∧ (y 0).val < n + 1; omega
    · show 64 * n ≤ (y 1).val ∧ (y 1).val < 64 * n + 40; omega
    · show 0 ≤ (y 2).val ∧ (y 2).val < 0 + 512; omega

theorem ru_base (du : S40x512.Idx → Elt F .bf16) (inb) (f : ruM.view.ty.Contents (Elt F)) :
    ∀ y : S2x128x512.Idx, ¬ ((y 1).val / 64 = (y 0).val ∧ (y 1).val % 64 < 40 ∧ 0 ≤ (y 0).val) →
      ruM.view.read (Elt F) (ruM.view.writes (Elt F) f [⟨Rect.unit (s := S2x128x512) ![0, 0, 0] S2x128x512.size inb, k0_pay3 (F := F)⟩]) y = ruV du y := by
  intro y hy
  rw [View.read_writes_cons_unit_of_mem ruM.view f inb _ _ y y rfl (by intro a; fin_cases a <;> exact (Nat.zero_add _).symm)]
  unfold ruV
  rw [dif_neg (by omega)]
  unfold k0_pay3
  rw [shapeCast_self]
  rfl

/-! ## The mixing matrix -/

/-- Rows `16 a … 16 a + 15` of the mixing matrix, from the spread-out weights `v76` and the mask `v95`. -/
def kcRow (v76 : FVec F S28x256 .f32) (a : ℕ) : FVec F S16x256 .bf16 :=
  truncf .bf16 (select k0_pay13 (fun i : S16x256.Idx => v76 (ix2 (n0 := 28) (n1 := 256) ⟨a % 28, Nat.mod_lt _ (by decide)⟩ (i 1)))
    (broadcast S16x256 (Scalar.ofBits .f32 0x00000000#32 : F .f32))) bitsLt_bf16_f32
/-- The same rows, as the kernel computes them. -/
def kcRowK (v76 : FVec F S28x256 .f32) (a : ℕ) (h : S28x256.Slices ![a, 0] S1x256) : FVec F S16x256 .bf16 :=
  truncf .bf16 (select k0_pay13 (broadcastTo S16x256 (shapeCast S1x256 (extractStridedSlice S1x256 ![a, 0] v76 h) shapeCasts_S1x256_S1x256) broadcasts_S1x256_S16x256)
    (broadcast S16x256 (Scalar.ofBits .f32 0x00000000#32 : F .f32))) bitsLt_bf16_f32
theorem kcRowK_eq (v76 : FVec F S28x256 .f32) (a : ℕ) (ha : a < 28) (h) : kcRowK v76 a h = kcRow v76 a := by
  unfold kcRowK kcRow
  rw [shapeCast_self]
  refine congrArg (fun z => truncf .bf16 (select k0_pay13 z (broadcast S16x256 (Scalar.ofBits .f32 0x00000000#32 : F .f32))) bitsLt_bf16_f32) (funext fun i => ?_)
  rw [broadcastTo_apply _ _ i (ix2 (n0 := 1) (n1 := 256) 0 (i 1)) (by intro b; fin_cases b <;> rfl)]
  refine extractStridedSlice_apply _ v76 h _ _ ?_
  intro b
  fin_cases b
  · show a % 28 = a + 0; omega
  · show (i 1).val = 0 + (i 1).val; omega

def kcV (v76 : FVec F S28x256 .f32) : S448x256.Idx → Elt F .bf16 := fun i =>
  kcRow v76 ((i 0).val / 16) (ix2 (n0 := 16) (n1 := 256) ⟨(i 0).val % 16, Nat.mod_lt _ (by decide)⟩ (i 1))

theorem kc_push (v76 : FVec F S28x256 .f32) (n : ℕ) (inb : ∀ a, (![16 * n, 0] : Fin 2 → ℕ) a + S16x256.size a ≤ S448x256.size a)
    (hs : S28x256.Slices ![n, 0] S1x256) (w : S16x256.Idx → Elt F .bf16) (hw : w = shapeCast S16x256 (kcRowK v76 n hs) shapeCasts_S16x256_S16x256)
    (L : List (View.Piece (Elt F) S448x256 .bf16)) (f : kcM.view.ty.Contents (Elt F))
    (h : ∀ y : S448x256.Idx, (y 0).val < 16 * n → kcM.view.read (Elt F) (kcM.view.writes (Elt F) f L) y = kcV v76 y) :
    ∀ y : S448x256.Idx, (y 0).val < 16 * (n + 1) →
      kcM.view.read (Elt F) (kcM.view.writes (Elt F) f ((⟨Rect.unit (s := S448x256) ![16 * n, 0] S16x256.size inb, w⟩ : View.Piece (Elt F) S448x256 .bf16) :: L)) y = kcV v76 y := by
  have hn : n < 28 := by
    have h0 : 16 * n + 16 ≤ 448 := inb 0
    omega
  rw [shapeCast_self, kcRowK_eq v76 n hn] at hw
  subst hw
  refine read_push kcM.view inb _ L f (kcV v76) _ _ ?_ ?_ h
  · intro y hy
    have h0 : 16 * n ≤ (y 0).val ∧ (y 0).val < 16 * n + 16 := hy 0
    unfold kcV
    rw [show (y 0).val / 16 = n by omega]
    refine congrArg (kcRow v76 n) (funext fun a => Fin.ext ?_)
    rw [Rect.unitLocal_val]
    fin_cases a
    · show (y 0).val - 16 * n = (y 0).val % 16; omega
    · show (y 1).val - 0 = (y 1).val; omega
  · intro y hy hp a
    have h1 : (y 1).val < 256 := (y 1).isLt
    fin_cases a
    · show 16 * n ≤ (y 0).val ∧ (y 0).val < 16 * n + 16; omega
    · show 0 ≤ (y 1).val ∧ (y 1).val < 0 + 256; omega

/-! ## The first product -/

/-- Columns `768 m …` of the input. -/
def xBlk (x : S256x3072.Idx → Elt F .bf16) (m : ℕ) : S256x768.Idx → Elt F .bf16 := fun i =>
  x (ix2 (n0 := 256) (n1 := 3072) (i 0) ⟨768 * (m % 4) + (i 1).val, by have h : (i 1).val < 768 := (i 1).isLt; omega⟩)
def t1V (x : S256x3072.Idx → Elt F .bf16) (rd : S256x768.Idx → Elt F .bf16) : S256x1024.Idx → Elt F .bf16 := fun i =>
  k0_pay58 (xBlk x ((i 1).val / 256)) rd (ix2 (n0 := 256) (n1 := 256) (i 0) ⟨(i 1).val % 256, Nat.mod_lt _ (by decide)⟩)

theorem t1_push (x : S256x3072.Idx → Elt F .bf16) (rd : S256x768.Idx → Elt F .bf16) (n : ℕ)
    (inb : ∀ a, (![0, 256 * n] : Fin 2 → ℕ) a + S256x256.size a ≤ S256x1024.size a)
    (inbx : ∀ a, (![0, 768 * n] : Fin 2 → ℕ) a + S256x768.size a ≤ S256x3072.size a)
    (w : S256x256.Idx → Elt F .bf16) (hw : w = k0_pay58 (fun y => x ((Rect.unit (s := S256x3072) ![0, 768 * n] S256x768.size inbx).toLoadRect.idx y)) rd)
    (L : List (View.Piece (Elt F) S256x1024 .bf16)) (f : t1M.view.ty.Contents (Elt F))
    (h : ∀ y : S256x1024.Idx, (y 1).val < 256 * n → t1M.view.read (Elt F) (t1M.view.writes (Elt F) f L) y = t1V x rd y) :
    ∀ y : S256x1024.Idx, (y 1).val < 256 * (n + 1) →
      t1M.view.read (Elt F) (t1M.view.writes (Elt F) f ((⟨Rect.unit (s := S256x1024) ![0, 256 * n] S256x256.size inb, w⟩ : View.Piece (Elt F) S256x1024 .bf16) :: L)) y = t1V x rd y := by
  have hn : n < 4 := by
    have h0 : 256 * n + 256 ≤ 1024 := inb 1
    omega
  subst hw
  refine read_push t1M.view inb _ L f (t1V x rd) _ _ ?_ ?_ h
  · intro y hy
    have h1 : 256 * n ≤ (y 1).val ∧ (y 1).val < 256 * n + 256 := hy 1
    have ex : (fun y => x ((Rect.unit (s := S256x3072) ![0, 768 * n] S256x768.size inbx).toLoadRect.idx y)) = xBlk x n := by
      funext z
      unfold xBlk
      refine congrArg x (funext fun a => Fin.ext ?_)
      rw [LoadRect.idx_apply]
      fin_cases a
      · show 0 + 1 * (z 0).val = (z 0).val; omega
      · show 768 * n + 1 * (z 1).val = 768 * (n % 4) + (z 1).val; omega
    unfold t1V
    rw [show (y 1).val / 256 = n by omega]
    refine (congrFun (congrArg (fun z => k0_pay58 z rd) ex) _).trans ?_
    refine congrArg (k0_pay58 (xBlk x n) rd) (funext fun a => Fin.ext ?_)
    rw [Rect.unitLocal_val]
    fin_cases a
    · show (y 0).val - 0 = (y 0).val; omega
    · show (y 1).val - 256 * n = (y 1).val % 256; omega
  · intro y hy hp a
    have h1 : (y 0).val < 256 := (y 0).isLt
    fin_cases a
    · show 0 ≤ (y 0).val ∧ (y 0).val < 0 + 256; omega
    · show 256 * n ≤ (y 1).val ∧ (y 1).val < 256 * n + 256; omega

/-! ## The second product -/

/-- Columns `128 q …` of the first product. -/
def t1Blk (t1 : S256x1024.Idx → Elt F .bf16) (q : ℕ) : S256x128.Idx → Elt F .bf16 := fun i =>
  t1 (ix2 (n0 := 256) (n1 := 1024) (i 0) ⟨128 * (q % 8) + (i 1).val, by have h : (i 1).val < 128 := (i 1).isLt; omega⟩)
def ruBlk (ru : S2x128x512.Idx → Elt F .bf16) (r : ℕ) : S1x128x512.Idx → Elt F .bf16 := fun i =>
  ru (ix3 (n0 := 2) (n1 := 128) (n2 := 512) ⟨r % 2, Nat.mod_lt _ (by decide)⟩ (i 1) (i 2))
def tV (t1 : S256x1024.Idx → Elt F .bf16) (ru : S2x128x512.Idx → Elt F .bf16) : S16x256x512.Idx → Elt F .bf16 := fun i =>
  k0_pay62 (t1Blk t1 ((i 0).val / 2)) (ruBlk ru ((i 0).val % 2)) (ix3 (n0 := 1) (n1 := 256) (n2 := 512) 0 (i 1) (i 2))

theorem t_push (t1 : S256x1024.Idx → Elt F .bf16) (ru : S2x128x512.Idx → Elt F .bf16) (n : ℕ)
    (inb : ∀ a, (![n, 0, 0] : Fin 3 → ℕ) a + S1x256x512.size a ≤ S16x256x512.size a)
    (inb1 : ∀ a, (![0, 128 * (n / 2)] : Fin 2 → ℕ) a + S256x128.size a ≤ S256x1024.size a)
    (inb2 : ∀ a, (![n % 2, 0, 0] : Fin 3 → ℕ) a + S1x128x512.size a ≤ S2x128x512.size a)
    (w : S1x256x512.Idx → Elt F .bf16)
    (L1 : List (View.Piece (Elt F) S256x1024 .bf16)) (h1 : t1M.view.read (Elt F) (t1M.view.writes (Elt F) t1M.view.junk L1) = t1)
    (L2 : List (View.Piece (Elt F) S2x128x512 .bf16)) (h2 : ruM.view.read (Elt F) (ruM.view.writes (Elt F) ruM.view.junk L2) = ru)
    (hw : w = k0_pay62 (t1M.view.readCov L1 (Rect.unit (s := S256x1024) ![0, 128 * (n / 2)] S256x128.size inb1).toLoadRect)
        (ruM.view.readCov L2 (Rect.unit (s := S2x128x512) ![n % 2, 0, 0] S1x128x512.size inb2).toLoadRect))
    (L : List (View.Piece (Elt F) S16x256x512 .bf16)) (f : tM.view.ty.Contents (Elt F))
    (h : ∀ y : S16x256x512.Idx, (y 0).val < n → tM.view.read (Elt F) (tM.view.writes (Elt F) f L) y = tV t1 ru y) :
    ∀ y : S16x256x512.Idx, (y 0).val < n + 1 →
      tM.view.read (Elt F) (tM.view.writes (Elt F) f ((⟨Rect.unit (s := S16x256x512) ![n, 0, 0] S1x256x512.size inb, w⟩ : View.Piece (Elt F) S16x256x512 .bf16) :: L)) y = tV t1 ru y := by
  have hn : n < 16 := by
    have h0 : n + 1 ≤ 16 := inb 0
    omega
  rw [readCov_of_read _ _ _ h1, readCov_of_read _ _ _ h2] at hw
  have e1 : (fun y => t1 ((Rect.unit (s := S256x1024) ![0, 128 * (n / 2)] S256x128.size inb1).toLoadRect.idx y)) = t1Blk t1 (n / 2) := by
    funext z
    unfold t1Blk
    refine congrArg t1 (funext fun a => Fin.ext ?_)
    rw [LoadRect.idx_apply]
    fin_cases a
    · show 0 + 1 * (z 0).val = (z 0).val; omega
    · show 128 * (n / 2) + 1 * (z 1).val = 128 * (n / 2 % 8) + (z 1).val; omega
  have e2 : (fun y => ru ((Rect.unit (s := S2x128x512) ![n % 2, 0, 0] S1x128x512.size inb2).toLoadRect.idx y)) = ruBlk ru (n % 2) := by
    funext z
    unfold ruBlk
    refine congrArg ru (funext fun a => Fin.ext ?_)
    rw [LoadRect.idx_apply]
    have hz : (z 0).val < 1 := (z 0).isLt
    fin_cases a
    · show n % 2 + 1 * (z 0).val = n % 2 % 2; omega
    · show 0 + 1 * (z 1).val = (z 1).val; omega
    · show 0 + 1 * (z 2).val = (z 2).val; omega
  rw [e1, e2] at hw
  subst hw
  refine read_push tM.view inb _ L f (tV t1 ru) _ _ ?_ ?_ h
  · intro y hy
    have h0 : n ≤ (y 0).val ∧ (y 0).val < n + 1 := hy 0
    unfold tV
    rw [show (y 0).val = n by omega]
    refine congrArg (k0_pay62 (t1Blk t1 (n / 2)) (ruBlk ru (n % 2))) (funext fun a => Fin.ext ?_)
    rw [Rect.unitLocal_val]
    fin_cases a
    · show (y 0).val - n = 0; omega
    · show (y 1).val - 0 = (y 1).val; omega
    · show (y 2).val - 0 = (y 2).val; omega
  · intro y hy hp a
    have h1 : (y 1).val < 256 := (y 1).isLt
    have h2 : (y 2).val < 512 := (y 2).isLt
    fin_cases a
    · show n ≤ (y 0).val ∧ (y 0).val < n + 1; omega
    · show 0 ≤ (y 1).val ∧ (y 1).val < 0 + 256; omega
    · show 0 ≤ (y 2).val ∧ (y 2).val < 0 + 512; omega

/-! ## The quantiser -/

def sclV (x : S256x3072.Idx → Elt F .bf16) : FVec F S256x1 .f32 :=
  k0_pay52 (k0_pay48 (k0_pay47 x)) (k0_pay49 (k0_pay47 x)) (k0_pay50 (k0_pay47 x))
def xcV (x : S256x3072.Idx → Elt F .bf16) : FVec F S256x3072 .fp8e4m3 :=
  k0_pay54 x (k0_pay53 (k0_pay48 (k0_pay47 x)) (k0_pay49 (k0_pay47 x)) (k0_pay50 (k0_pay47 x)))
def xsBlk (x : S256x3072.Idx → Elt F .bf16) (m : ℕ) : S128x128.Idx → Elt F .f32 := fun i =>
  k0_pay55 (sclV x) (ix2 (n0 := 256) (n1 := 128) ⟨128 * (m % 2) + (i 0).val, by have h : (i 0).val < 128 := (i 0).isLt; omega⟩ (i 1))
/-- The scales, one row for each sequence. -/
def xsV (x : S256x3072.Idx → Elt F .bf16) : S2x128.Idx → Elt F .f32 := fun i =>
  k0_pay56 (xsBlk x (i 0).val) (ix2 (n0 := 1) (n1 := 128) 0 (i 1))

theorem xs_push (x : S256x3072.Idx → Elt F .bf16) (n : ℕ)
    (inb : ∀ a, (![n, 0] : Fin 2 → ℕ) a + S1x128.size a ≤ S2x128.size a)
    (inbx : ∀ a, (![128 * n, 0] : Fin 2 → ℕ) a + S128x128.size a ≤ S256x128.size a)
    (w : S1x128.Idx → Elt F .f32) (hw : w = k0_pay56 (fun y => k0_pay55 (sclV x) ((Rect.unit (s := S256x128) ![128 * n, 0] S128x128.size inbx).toLoadRect.idx y)))
    (L : List (View.Piece (Elt F) S2x128 .f32)) (f : xsM.view.ty.Contents (Elt F))
    (h : ∀ y : S2x128.Idx, (y 0).val < n → xsM.view.read (Elt F) (xsM.view.writes (Elt F) f L) y = xsV x y) :
    ∀ y : S2x128.Idx, (y 0).val < n + 1 →
      xsM.view.read (Elt F) (xsM.view.writes (Elt F) f ((⟨Rect.unit (s := S2x128) ![n, 0] S1x128.size inb, w⟩ : View.Piece (Elt F) S2x128 .f32) :: L)) y = xsV x y := by
  have hn : n < 2 := by
    have h0 : n + 1 ≤ 2 := inb 0
    omega
  subst hw
  refine read_push xsM.view inb _ L f (xsV x) _ _ ?_ ?_ h
  · intro y hy
    have h0 : n ≤ (y 0).val ∧ (y 0).val < n + 1 := hy 0
    have ex : (fun y => k0_pay55 (sclV x) ((Rect.unit (s := S256x128) ![128 * n, 0] S128x128.size inbx).toLoadRect.idx y)) = xsBlk x n := by
      funext z
      unfold xsBlk
      refine congrArg (k0_pay55 (sclV x)) (funext fun a => Fin.ext ?_)
      rw [LoadRect.idx_apply]
      fin_cases a
      · show 128 * n + 1 * (z 0).val = 128 * (n % 2) + (z 0).val; omega
      · show 0 + 1 * (z 1).val = (z 1).val; omega
    unfold xsV
    rw [show (y 0).val = n by omega]
    refine (congrFun (congrArg (fun z => k0_pay56 z) ex) _).trans ?_
    refine congrArg (k0_pay56 (xsBlk x n)) (funext fun a => Fin.ext ?_)
    rw [Rect.unitLocal_val]
    fin_cases a
    · show (y 0).val - n = 0; omega
    · show (y 1).val - 0 = (y 1).val; omega
  · intro y hy hp a
    have h1 : (y 1).val < 128 := (y 1).isLt
    fin_cases a
    · show n ≤ (y 0).val ∧ (y 0).val < n + 1; omega
    · show 0 ≤ (y 1).val ∧ (y 1).val < 0 + 128; omega

/-! ## The kernel's values from its inputs -/

/-- The spread-out weights from the mixing weights. -/
def k76V (cv : S16x28.Idx → Elt F .bf16) : FVec F S28x256 .f32 :=
  k0_pay12 (iota .tc S16x256 32 [1] iota_S16x256_d1_w32) 16#32 k0_pay10 k0_pay11 1#32 cv
def uV (x : S256x3072.Idx → Elt F .bf16) (cv : S16x28.Idx → Elt F .bf16) (dd : S40x192.Idx → Elt F .bf16) (du : S40x512.Idx → Elt F .bf16) :
    S28x256x512.Idx → Elt F .f32 :=
  uVal (tV (t1V x (rdV dd)) (ruV du)) (kcV (k76V cv))
/-- An output tile. -/
def yV (x : S256x3072.Idx → Elt F .bf16) (w : S14336x3072.Idx → Elt F .fp8e4m3) (ws : S1x14336.Idx → Elt F .f32) (cv : S16x28.Idx → Elt F .bf16)
    (dd : S40x192.Idx → Elt F .bf16) (du : S40x512.Idx → Elt F .bf16) : TileVal F :=
  tileVal (xcV x) w ws (uV x cv dd du) (k0_pay80 (k0_pay55 (sclV x)))

end Cert.Proof.Ideal

end
-- ==== Proof.Ideal.Loop1.lean ====
/-
  The loop that starts the first twenty weight tiles: before trip `k` tiles `0 … k - 1` are in flight, the slots from `k` on
  are free and the tiles from `k` on are at home.
-/
module

public import proofs.«01_k».proof.Proof.Ideal.Pieces

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (c : Dev nD) (XW : Buf (Elt F) ((c : Thread nD τ).loc main_arg1))

abbrev wFlyP (p : ℕ) : sProp 𝕄 := iprop(∃ f, wFlightP c XW p f)

/-- Before trip `k`. -/
def inv1 (k : ℕ) : sProp 𝕄 :=
  iprop(bigSep (Finset.Ico 0 k) (wFlyP c XW) ∗ bigSep (Finset.Ico k 20) (wFreeP c) ∗ bigSep (Finset.Ico k 28) (wHomeP c XW)
    ∗ ∃ W, owes (c : Thread nD τ) 0 W)

abbrev trip1 (k : Fin k0_t1_loop.trips) : Prog (TpuEff nD τ sig (Elt F) Λ₀ .tc) Unit :=
  k0_t1_body (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 k ()

theorem trips1 : k0_t1_loop.trips = 20 := by decide +kernel

theorem trip1_run (k : Fin k0_t1_loop.trips) :
    inv1 c XW k.val ⊢ wp frame (wpE (defs₀ (F := F)) 𝒱₀ (c : Thread nD τ) none) Set.univ (trip1 k) (fun _ => inv1 c XW (k.val + 1)) := by
  have hk : k.val < 20 := lt_of_lt_of_eq k.isLt trips1
  unfold inv1
  rw [bigSep_Ico_take k.val 20 hk, bigSep_Ico_take k.val 28 (by omega), bigSep_Ico_put 0 k.val (by omega)]
  iintro ⟨Hfly, ⟨⟨⟨%f, Hs⟩, Hc⟩, Hfree⟩, ⟨Hh, Hhome⟩, ⟨%W, HW⟩⟩
  dsimp only [trip1]
  sl_unfold [k0_t1_body]
  sl_exec
  sl_step
  isplitl [Hfly Hc]
  · isplitl [Hc]
    · iexists f; iexact Hc
    iexact Hfly
  isplitl [Hfree]; · iexact Hfree
  isplitl [Hhome]; · iexact Hhome
  iexists _; iexact HW

set_option warn.classDefReducibility false in
@[sl_loop] def loopInv1 :
    LoopInvTy_k0_t1 (F := F) Unit ℕ (UU nD τ) ℕ 𝒱₀ c none Set.univ (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 where
  inv k _ := inv1 c XW k
  step k _ := trip1_run c XW k

end Cert.Proof.Ideal

end
-- ==== Proof.Ideal.Body.lean ====
/-
  The whole kernel, run.
-/
module

public import proofs.«01_k».proof.Proof.Ideal.Vals
public import proofs.«01_k».proof.Proof.Ideal.Loop1
public import proofs.«01_k».proof.Proof.Ideal.Loop3
public import Idealize.ShloMosaic.Lib.VecWindow

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (c : Dev nD) (XW : Buf (Elt F) ((c : Thread nD τ).loc main_arg1)) (Y0 : Buf (Elt F) ((c : Thread nD τ).loc main_v4_0))
  (X : (Buf (Elt F) ((Memref.whole main_v0).view.loc (c : Thread nD τ)))) (WS : (Buf (Elt F) ((Memref.whole main_v1).view.loc (c : Thread nD τ)))) (C : (Buf (Elt F) ((Memref.whole main_v2).view.loc (c : Thread nD τ)))) (DD : (Buf (Elt F) ((Memref.whole main_arg4).view.loc (c : Thread nD τ)))) (DU : (Buf (Elt F) ((Memref.whole main_v3).view.loc (c : Thread nD τ))))

abbrev sCellP (s : Fin 4) : sProp 𝕄 := semVal ((c : Thread nD τ), SemLoc.dma (sSem s).sem) 0
abbrev oCellP (s : Fin 2) : sProp 𝕄 := semVal ((c : Thread nD τ), SemLoc.dma (oSem s).sem) 0
abbrev xCellP : sProp 𝕄 := semVal ((c : Thread nD τ), SemLoc.dma (SemArray.sem cc0_scratch16)) 0

theorem fly_role : bigSep (Finset.Ico 0 k0_t1_loop.trips) (wFlyP c XW) ⊢ bigSep (Finset.Ico 0 (0 + 20)) (wRole c XW) := by
  rw [trips1]
  refine Entails.of_eq (bigSep_congr fun p hp => ?_)
  rw [wRole_lt c XW p (by have := Finset.mem_Ico.mp hp; omega)]
theorem home_rest : bigSep (Finset.Ico k0_t1_loop.trips 28) (wHomeP c XW) ⊢ bigSep (Finset.Ico (0 + 20) 28) (wHomeP c XW) := by
  rw [trips1]
theorem free_none : bigSep (Finset.Ico k0_t1_loop.trips 20) (wFreeP c) ⊢ (BI.emp : sProp 𝕄) := by
  rw [trips1, bigSep_Ico_empty 20 20 le_rfl]
theorem yfree_role (T : TileVal F) : bigSep (Finset.Ico 0 3) (yFreeP c) ⊢ bigSep (Finset.Ico 0 (0 + 3)) (yRole c Y0 T) := by
  refine Entails.of_eq (bigSep_congr fun p hp => ?_)
  rw [yRole_lt c Y0 T p (by have := Finset.mem_Ico.mp hp; omega)]
theorem none_any (Φ : ℕ → sProp 𝕄) (n : ℕ) : (BI.emp : sProp 𝕄) ⊢ bigSep (Finset.Ico n n) Φ := by
  rw [bigSep_Ico_empty n n le_rfl]

theorem ring_turn (Φ : ℕ → sProp 𝕄) (m : ℕ) (hΦ : ∀ n, Φ (n + m) = Φ n) (n : ℕ) : bigSep (Finset.Ico n (n + m)) Φ = bigSep (Finset.Ico 0 (0 + m)) Φ := by
  induction n with
  | zero => rfl
  | succ n ih =>
    rcases Nat.eq_zero_or_pos m with h0 | h0
    · subst h0; rw [bigSep_Ico_empty _ _ (by omega), bigSep_Ico_empty _ _ (by omega)]
    · rw [← ih, bigSep_Ico_take n (n + m) (by omega), show n + 1 + m = n + m + 1 by omega, bigSep_Ico_put (n + 1) (n + m) (by omega), hΦ]
theorem role_free : bigSep (Finset.Ico k0_t3_loop.trips (k0_t3_loop.trips + 20)) (wRole c XW) ⊢ bigSep (Finset.Ico 0 20) (wFreeP c) := by
  rw [trips3]
  have e : bigSep (Finset.Ico 28 (28 + 20)) (wRole c XW) = bigSep (Finset.Ico 28 (28 + 20)) (wFreeP c) :=
    bigSep_congr fun p hp => wRole_ge c XW p (Finset.mem_Ico.mp hp).1
  rw [e, ring_turn (wFreeP c) 20 (fun n => by simp only [wFreeP, wSlotP, wCellP]; rw [wSlot_turn, wSem_turn]) 28]
theorem yrole_tail (T T' : TileVal F) (hT : T = T') : bigSep (Finset.Ico k0_t3_loop.trips (k0_t3_loop.trips + 3)) (yRole c Y0 T)
    ⊢ iprop((∃ f, ⌜(ySlot 25).view.read (Elt F) f = T' 25⌝ ∗ yFlightP c Y0 25 25 f) ∗ (∃ f, ⌜(ySlot 26).view.read (Elt F) f = T' 26⌝ ∗ yFlightP c Y0 26 26 f)
      ∗ ∃ f, ⌜(ySlot 27).view.read (Elt F) f = T' 27⌝ ∗ yFlightP c Y0 27 27 f) := by
  subst hT
  rw [trips3, bigSep_Ico_take 28 (28 + 3) (by omega), bigSep_Ico_take (28 + 1) (28 + 3) (by omega), bigSep_Ico_take (28 + 1 + 1) (28 + 3) (by omega), bigSep_Ico_empty _ _ (by omega)]
  rw [show 28 = 25 + 3 by rfl, yRole_turn, show 25 + 3 + 1 = 26 + 3 by rfl, yRole_turn, show 26 + 3 + 1 = 27 + 3 by rfl, yRole_turn]
  iintro ⟨A, B, C, -⟩
  isplitl [A]
  · iexact A
  isplitl [B]
  · iexact B
  iexact C

theorem done_convert (T T' : TileVal F) (hT : T = T') : bigSep (Finset.Ico 0 (k0_t3_loop.trips - 3)) (yDoneP c T) ⊢ bigSep (Finset.Ico 0 25) (yDoneP c T') := by
  subst hT; rw [trips3]
theorem done_join (T : TileVal F) : iprop(yDoneP c T 27 ∗ yDoneP c T 26 ∗ yDoneP c T 25 ∗ bigSep (Finset.Ico 0 25) (yDoneP c T)) ⊢ bigSep (Finset.Ico 0 28) (yDoneP c T) := by
  rw [show 28 = 25 + 1 + 1 + 1 by rfl, bigSep_Ico_put 0 (25 + 1 + 1) (by omega), bigSep_Ico_put 0 (25 + 1) (by omega), bigSep_Ico_put 0 25 (by omega)]
theorem home_all : bigSep (Finset.Ico 0 k0_t3_loop.trips) (wHomeP c XW) ⊢ bigSep (Finset.Ico 0 28) (wHomeP c XW) := by rw [trips3]
theorem yfree_all : (iprop(yFreeP c 25 ∗ yFreeP c 26 ∗ yFreeP c 27) : sProp 𝕄) ⊢ bigSep (Finset.Ico 0 3) (yFreeP c) := by
  have h : (iprop(yFreeP c 25 ∗ yFreeP c 26 ∗ yFreeP c 27) : sProp 𝕄) ⊢ bigSep (Finset.Ico 25 (25 + 3)) (yFreeP c) := by
    rw [bigSep_Ico_take 25 (25 + 3) (by omega), bigSep_Ico_take (25 + 1) (25 + 3) (by omega), bigSep_Ico_take (25 + 1 + 1) (25 + 3) (by omega), bigSep_Ico_empty _ _ (by omega)]
    iintro ⟨A, B, C⟩
    isplitl [A]; · iexact A
    isplitl [B]; · iexact B
    isplitl [C]; · iexact C
    iempintro
  rw [ring_turn (yFreeP c) 3 (fun n => by simp only [yFreeP, ySlotP, yCellP]; rw [ySlot_turn, ySem_turn]) 25] at h
  exact h
/-- The two halves of a buffer's share, held at contents that read alike, are the whole of it. -/
theorem halves_join {sp : Space} {s : Shape} {e : EltTy} (m : Memref sig .tc sp s e) (f g : Buf (Elt F) (m.view.loc (c : Thread nD τ))) (X : s.Idx → Elt F e)
    (hf : m.view.read (Elt F) f = X) (hg : m.view.read (Elt F) g = X) :
    iprop((m.view.loc (c : Thread nD τ) ↦[m.view.set]{fullShare.left} f) ∗ (m.view.loc (c : Thread nD τ) ↦[m.view.set]{fullShare.right} g))
      ⊢ (m.view.loc (c : Thread nD τ) ↦[m.view.set]{fullShare} m.view.rep X : sProp 𝕄) := by
  iintro ⟨A, B⟩
  ihave A2 := (pointsTo_rep_of_read (c : Thread nD τ) m f fullShare.left X hf) $$ A
  ihave B2 := (pointsTo_rep_of_read (c : Thread nD τ) m g fullShare.right X hg) $$ B
  ihave H := (pointsTo_share (PosShare.mem_left_op_right fullShare)).2 $$ [A2 B2]
  · isplitl [A2]; · iexact A2
    iexact B2
  iexact H
/-- A load of all of a buffer whose list of writes reads `V` is `V`. -/
theorem readCov_full_of_read {s : Shape} {e : EltTy} {sp : Space} (v : View sig .tc sp s e) (L : List (View.Piece (Elt F) s e)) (V : s.Idx → Elt F e)
    (h : v.read (Elt F) (v.writes (Elt F) v.junk L) = V) {off : Fin s.rank → ℕ} (inb : ∀ a, off a + s.size a ≤ s.size a) :
    v.readCov L (Rect.unit off s.size inb).toLoadRect = V := by
  rw [readCov_of_read v L V h]
  funext y
  refine congrArg V (funext fun a => Fin.ext ?_)
  rw [LoadRect.idx_apply]
  show off a + 1 * (y a).val = (y a).val
  have := inb a
  omega

/-- Two readings that agree wherever `P` holds agree when it holds everywhere. -/
theorem all_of {α : Type} {s : Shape} {V W : s.Idx → α} (P : s.Idx → Prop) (hP : ∀ y, P y) (h : ∀ y, P y → V y = W y) : V = W :=
  funext fun y => h y (hP y)

abbrev rX (X : (Buf (Elt F) ((Memref.whole main_v0).view.loc (c : Thread nD τ)))) : S256x3072.Idx → Elt F .bf16 := (Memref.whole main_v0).view.read (Elt F) X

set_option maxHeartbeats 8000000 in
set_option sl_exec.lendShare "H1" in
theorem body_run (fc : (Buf (Elt F) ((Memref.whole main_v4_1).view.loc (c : Thread nD τ)))) (fs : (Buf (Elt F) ((Memref.whole main_v4_2).view.loc (c : Thread nD τ)))) (f0 : (Buf (Elt F) ((Memref.whole cc0_scratch0).view.loc (c : Thread nD τ)))) (f1 : (Buf (Elt F) ((Memref.whole cc0_scratch1).view.loc (c : Thread nD τ)))) (f3 : (Buf (Elt F) ((Memref.whole cc0_scratch3).view.loc (c : Thread nD τ)))) (f4 : (Buf (Elt F) ((Memref.whole cc0_scratch4).view.loc (c : Thread nD τ)))) (f5 : (Buf (Elt F) ((Memref.whole cc0_scratch5).view.loc (c : Thread nD τ)))) (f6 : (Buf (Elt F) ((Memref.whole cc0_scratch6).view.loc (c : Thread nD τ)))) (f7 : (Buf (Elt F) ((Memref.whole cc0_scratch7).view.loc (c : Thread nD τ)))) (f8 : (Buf (Elt F) ((Memref.whole cc0_scratch8).view.loc (c : Thread nD τ)))) (f9 : (Buf (Elt F) ((Memref.whole cc0_scratch9).view.loc (c : Thread nD τ)))) (f10 : (Buf (Elt F) ((Memref.whole cc0_scratch10).view.loc (c : Thread nD τ)))) (f11 : (Buf (Elt F) ((Memref.whole cc0_scratch11).view.loc (c : Thread nD τ)))) (f12 : (Buf (Elt F) ((Memref.whole cc0_scratch12).view.loc (c : Thread nD τ)))) (f13 : (Buf (Elt F) ((Memref.whole cc0_scratch13).view.loc (c : Thread nD τ)))) (f14 : (Buf (Elt F) ((Memref.whole cc0_scratch14).view.loc (c : Thread nD τ)))) :
    iprop(((Memref.whole main_v0).view.loc (c : Thread nD τ) ↦[(Memref.whole main_v0).view.set]{fullShare} X)
      ∗ ((Memref.whole main_v1).view.loc (c : Thread nD τ) ↦[(Memref.whole main_v1).view.set]{fullShare} WS)
      ∗ ((Memref.whole main_v2).view.loc (c : Thread nD τ) ↦[(Memref.whole main_v2).view.set]{fullShare} C)
      ∗ ((Memref.whole main_arg4).view.loc (c : Thread nD τ) ↦[(Memref.whole main_arg4).view.set]{fullShare} DD)
      ∗ ((Memref.whole main_v3).view.loc (c : Thread nD τ) ↦[(Memref.whole main_v3).view.set]{fullShare} DU)
      ∗ ((Memref.whole main_v4_1).view.loc (c : Thread nD τ) ↦[(Memref.whole main_v4_1).view.set]{fullShare} fc)
      ∗ ((Memref.whole main_v4_2).view.loc (c : Thread nD τ) ↦[(Memref.whole main_v4_2).view.set]{fullShare} fs)
      ∗ ((Memref.whole cc0_scratch0).view.loc (c : Thread nD τ) ↦[(Memref.whole cc0_scratch0).view.set]{fullShare} f0)
      ∗ ((Memref.whole cc0_scratch1).view.loc (c : Thread nD τ) ↦[(Memref.whole cc0_scratch1).view.set]{fullShare} f1)
      ∗ ((Memref.whole cc0_scratch3).view.loc (c : Thread nD τ) ↦[(Memref.whole cc0_scratch3).view.set]{fullShare} f3)
      ∗ ((Memref.whole cc0_scratch4).view.loc (c : Thread nD τ) ↦[(Memref.whole cc0_scratch4).view.set]{fullShare} f4)
      ∗ ((Memref.whole cc0_scratch5).view.loc (c : Thread nD τ) ↦[(Memref.whole cc0_scratch5).view.set]{fullShare} f5)
      ∗ ((Memref.whole cc0_scratch6).view.loc (c : Thread nD τ) ↦[(Memref.whole cc0_scratch6).view.set]{fullShare} f6)
      ∗ ((Memref.whole cc0_scratch7).view.loc (c : Thread nD τ) ↦[(Memref.whole cc0_scratch7).view.set]{fullShare} f7)
      ∗ ((Memref.whole cc0_scratch8).view.loc (c : Thread nD τ) ↦[(Memref.whole cc0_scratch8).view.set]{fullShare} f8)
      ∗ ((Memref.whole cc0_scratch9).view.loc (c : Thread nD τ) ↦[(Memref.whole cc0_scratch9).view.set]{fullShare} f9)
      ∗ ((Memref.whole cc0_scratch10).view.loc (c : Thread nD τ) ↦[(Memref.whole cc0_scratch10).view.set]{fullShare} f10)
      ∗ ((Memref.whole cc0_scratch11).view.loc (c : Thread nD τ) ↦[(Memref.whole cc0_scratch11).view.set]{fullShare} f11)
      ∗ ((Memref.whole cc0_scratch12).view.loc (c : Thread nD τ) ↦[(Memref.whole cc0_scratch12).view.set]{fullShare} f12)
      ∗ ((Memref.whole cc0_scratch13).view.loc (c : Thread nD τ) ↦[(Memref.whole cc0_scratch13).view.set]{fullShare} f13)
      ∗ ((Memref.whole cc0_scratch14).view.loc (c : Thread nD τ) ↦[(Memref.whole cc0_scratch14).view.set]{fullShare} f14)
      ∗ xCellP c
      ∗ sCellP c 0
      ∗ sCellP c 1
      ∗ sCellP c 2
      ∗ sCellP c 3
      ∗ oCellP c 0
      ∗ oCellP c 1
      ∗ bigSep (Finset.Ico 0 20) (wFreeP c)
      ∗ bigSep (Finset.Ico 0 28) (wHomeP c XW)
      ∗ bigSep (Finset.Ico 0 3) (yFreeP c)
      ∗ bigSep (Finset.Ico 0 28) (yStartP c Y0)
      ∗ ∃ W, owes (c : Thread nD τ) 0 W)
    ⊢ wp frame (wpE (defs₀ (F := F)) 𝒱₀ (c : Thread nD τ) none) Set.univ (cc0_fp8_lokr (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20) (fun _ => iprop(((Memref.whole main_v0).view.loc (c : Thread nD τ) ↦[(Memref.whole main_v0).view.set]{fullShare} X)
      ∗ ((Memref.whole main_v1).view.loc (c : Thread nD τ) ↦[(Memref.whole main_v1).view.set]{fullShare} WS)
      ∗ ((Memref.whole main_v2).view.loc (c : Thread nD τ) ↦[(Memref.whole main_v2).view.set]{fullShare} C)
      ∗ ((Memref.whole main_arg4).view.loc (c : Thread nD τ) ↦[(Memref.whole main_arg4).view.set]{fullShare} DD)
      ∗ ((Memref.whole main_v3).view.loc (c : Thread nD τ) ↦[(Memref.whole main_v3).view.set]{fullShare} DU)
      ∗ (∃ g, ⌜(Memref.whole main_v4_1).view.read (Elt F) g = xcV (rX c X)⌝ ∗ ((Memref.whole main_v4_1).view.loc (c : Thread nD τ) ↦[(Memref.whole main_v4_1).view.set]{fullShare} g))
      ∗ (∃ g, ⌜(Memref.whole main_v4_2).view.read (Elt F) g = xsV (rX c X)⌝ ∗ ((Memref.whole main_v4_2).view.loc (c : Thread nD τ) ↦[(Memref.whole main_v4_2).view.set]{fullShare} g))
      ∗ (∃ f, ((Memref.whole cc0_scratch0).view.loc (c : Thread nD τ) ↦[(Memref.whole cc0_scratch0).view.set]{fullShare} f))
      ∗ (∃ f, ((Memref.whole cc0_scratch1).view.loc (c : Thread nD τ) ↦[(Memref.whole cc0_scratch1).view.set]{fullShare} f))
      ∗ (∃ f, ((Memref.whole cc0_scratch3).view.loc (c : Thread nD τ) ↦[(Memref.whole cc0_scratch3).view.set]{fullShare} f))
      ∗ (∃ f, ((Memref.whole cc0_scratch4).view.loc (c : Thread nD τ) ↦[(Memref.whole cc0_scratch4).view.set]{fullShare} f))
      ∗ (∃ f, ((Memref.whole cc0_scratch5).view.loc (c : Thread nD τ) ↦[(Memref.whole cc0_scratch5).view.set]{fullShare} f))
      ∗ (∃ f, ((Memref.whole cc0_scratch6).view.loc (c : Thread nD τ) ↦[(Memref.whole cc0_scratch6).view.set]{fullShare} f))
      ∗ (∃ f, ((Memref.whole cc0_scratch7).view.loc (c : Thread nD τ) ↦[(Memref.whole cc0_scratch7).view.set]{fullShare} f))
      ∗ (∃ f, ((Memref.whole cc0_scratch8).view.loc (c : Thread nD τ) ↦[(Memref.whole cc0_scratch8).view.set]{fullShare} f))
      ∗ (∃ f, ((Memref.whole cc0_scratch9).view.loc (c : Thread nD τ) ↦[(Memref.whole cc0_scratch9).view.set]{fullShare} f))
      ∗ (∃ f, ((Memref.whole cc0_scratch10).view.loc (c : Thread nD τ) ↦[(Memref.whole cc0_scratch10).view.set]{fullShare} f))
      ∗ (∃ f, ((Memref.whole cc0_scratch11).view.loc (c : Thread nD τ) ↦[(Memref.whole cc0_scratch11).view.set]{fullShare} f))
      ∗ (∃ f, ((Memref.whole cc0_scratch12).view.loc (c : Thread nD τ) ↦[(Memref.whole cc0_scratch12).view.set]{fullShare} f))
      ∗ (∃ f, ((Memref.whole cc0_scratch13).view.loc (c : Thread nD τ) ↦[(Memref.whole cc0_scratch13).view.set]{fullShare} f))
      ∗ (∃ f, ((Memref.whole cc0_scratch14).view.loc (c : Thread nD τ) ↦[(Memref.whole cc0_scratch14).view.set]{fullShare} f))
      ∗ xCellP c
      ∗ sCellP c 0
      ∗ sCellP c 1
      ∗ sCellP c 2
      ∗ sCellP c 3
      ∗ oCellP c 0
      ∗ oCellP c 1
      ∗ bigSep (Finset.Ico 0 20) (wFreeP c)
      ∗ bigSep (Finset.Ico 0 28) (wHomeP c XW)
      ∗ bigSep (Finset.Ico 0 3) (yFreeP c)
      ∗ bigSep (Finset.Ico 0 28) (yDoneP c (yV (rX c X) (wM.view.read (Elt F) XW) ((Memref.whole main_v1).view.read (Elt F) WS) ((Memref.whole main_v2).view.read (Elt F) C) ((Memref.whole main_arg4).view.read (Elt F) DD) ((Memref.whole main_v3).view.read (Elt F) DU)))
      ∗ ∃ W, owes (c : Thread nD τ) 0 W)) := by
  iintro ⟨Hx, Hws, Hc, Hdd, Hdu, Hxc, Hxs, H0, H1, H3, H4, H5, H6, H7, H8, H9, H10, H11, H12, H13, H14, Cx, C0, C1, C2, C3, O0, O1, Hwf, Hwh, Hyf, Hys, ⟨%W, HW⟩⟩
  ihave Hfly : (bigSep (Finset.Ico 0 0) (wFlyP c XW)) $$ []
  · rw [bigSep_Ico_empty 0 0 le_rfl]; iempintro
  irw [cc0_fp8_lokr_eq_skeleton]
  sl_unfold [cc0_fp8_lokr_skel, k0_part20_eq_skeleton, k0_part20_skel, k0_part2_eq_skeleton, k0_part2_skel]
  sl_exec
  have hx : ∀ (B : LoadRect S256x3072), (Memref.whole cc0_scratch0).view.readCov [⟨Rect.whole cc0_scratch0.ty.shape, body_run.sl.dma0 c X⟩] B = fun y => rX c X (B.idx y) :=
    fun B => readCov_whole _ _ B
  have hx0 : body_run.sl.v348 c X = rX c X := readCov_full_of_read _ _ _ (View.read_writes_whole _ _ _) _
  have hfq : ∀ f, xqM.view.read (Elt F) (xqM.view.writes (Elt F) f (body_run.sl.H1_1 c X)) = xcV (rX c X) := fun f => by
    refine (View.read_writes_full _ f _ _ _).trans ?_
    show k0_pay54 (body_run.sl.v348 c X) (k0_pay53 (k0_pay48 (k0_pay47 (body_run.sl.v348 c X))) (k0_pay49 (k0_pay47 (body_run.sl.v348 c X))) (k0_pay50 (k0_pay47 (body_run.sl.v348 c X)))) = _
    rw [hx0]; rfl
  have hscl : body_run.sl.r_10 c X = sclV (rX c X) := by
    show k0_pay52 (k0_pay48 (k0_pay47 (body_run.sl.v348 c X))) (k0_pay49 (k0_pay47 (body_run.sl.v348 c X))) (k0_pay50 (k0_pay47 (body_run.sl.v348 c X))) = _
    rw [hx0]; rfl
  have h13 : (Memref.whole cc0_scratch13).view.read (Elt F) ((Memref.whole cc0_scratch13).view.writes (Elt F) (Memref.whole cc0_scratch13).view.junk (body_run.sl.H13_1 c X)) = k0_pay55 (sclV (rX c X)) := by
    refine (View.read_writes_full _ _ _ _ _).trans ?_
    rw [hscl]
  have hv636 : body_run.sl.r_13 c X = k0_pay80 (k0_pay55 (sclV (rX c X))) :=
    congrArg (k0_pay80 (F := F)) (readCov_full_of_read _ _ _ h13 _)
  have hxs : ∀ f, xsM.view.read (Elt F) (xsM.view.writes (Elt F) f (body_run.sl.H14_2 c X)) = xsV (rX c X) := fun f => by
    refine all_of (fun y : S2x128.Idx => (y 0).val < 1 + 1) (fun y => (y 0).isLt) ?_
    refine xs_push _ 1 _ (by decide) _ (congrArg (k0_pay57 (F := F)) (readCov_of_read _ _ _ h13 _)) _ _ ?_
    refine xs_push _ 0 _ (by decide) _ (congrArg (k0_pay56 (F := F)) (readCov_of_read _ _ _ h13 _)) _ _ ?_
    intro y hy; exact absurd hy (Nat.not_lt_zero _)
  have hrd : rdM.view.read (Elt F) (rdM.view.writes (Elt F) rdM.view.junk (body_run.sl.H7_5 c DD)) = rdV ((Memref.whole main_arg4).view.read (Elt F) DD) := by
    have hw : body_run.sl.v28 c DD = (Memref.whole main_arg4).view.read (Elt F) DD := (shapeCast_self _ _).trans (readCov_full_of_read _ _ _ (View.read_writes_whole _ _ _) _)
    refine all_of (fun y : S256x768.Idx => ¬ ((y 1).val / 192 = (y 0).val / 64 ∧ (y 0).val % 64 < 40 ∧ 3 + 1 ≤ (y 0).val / 64)) (fun y => by have h : (y 0).val < 256 := (y 0).isLt; omega) ?_
    refine rd_push _ 3 _ _ hw _ _ ?_
    refine rd_push _ 2 _ _ hw _ _ ?_
    refine rd_push _ 1 _ _ hw _ _ ?_
    refine rd_push _ 0 _ _ hw _ _ ?_
    exact rd_base _ _ _
  have hru : ruM.view.read (Elt F) (ruM.view.writes (Elt F) ruM.view.junk (body_run.sl.H8_3 c DU)) = ruV ((Memref.whole main_v3).view.read (Elt F) DU) := by
    have hw : body_run.sl.v41 c DU = shapeCast S1x40x512 ((Memref.whole main_v3).view.read (Elt F) DU) shapeCasts_S40x512_S1x40x512 :=
      congrArg (fun z => shapeCast S1x40x512 z shapeCasts_S40x512_S1x40x512) (readCov_full_of_read (Memref.whole cc0_scratch6).view _ _ (View.read_writes_whole _ _ _) _)
    refine all_of (fun y : S2x128x512.Idx => ¬ ((y 1).val / 64 = (y 0).val ∧ (y 1).val % 64 < 40 ∧ 1 + 1 ≤ (y 0).val)) (fun y => by have h : (y 0).val < 2 := (y 0).isLt; omega) ?_
    refine ru_push _ 1 _ _ hw _ _ ?_
    refine ru_push _ 0 _ _ hw _ _ ?_
    exact ru_base _ _ _
  have ht1 : t1M.view.read (Elt F) (t1M.view.writes (Elt F) t1M.view.junk (body_run.sl.H10_4 c X DD)) = t1V (rX c X) (rdV ((Memref.whole main_arg4).view.read (Elt F) DD)) := by
    have h479 : body_run.sl.v479 c DD = rdV ((Memref.whole main_arg4).view.read (Elt F) DD) := readCov_full_of_read _ _ _ hrd _
    refine all_of (fun y : S256x1024.Idx => (y 1).val < 256 * 4) (fun y => (y 1).isLt) ?_
    iterate 4
      refine t1_push _ _ _ _ (by decide) _ (congr (congrArg (k0_pay58 (F := F)) (hx _)) h479) _ _ ?_
    intro y hy; exact absurd hy (Nat.not_lt_zero _)
  have ht : tM.view.read (Elt F) (tM.view.writes (Elt F) tM.view.junk (body_run.sl.H11_16 c X DD DU))
      = tV (t1V (rX c X) (rdV ((Memref.whole main_arg4).view.read (Elt F) DD))) (ruV ((Memref.whole main_v3).view.read (Elt F) DU)) := by
    refine all_of (fun y : S16x256x512.Idx => (y 0).val < 16) (fun y => (y 0).isLt) ?_
    iterate 16
      refine t_push _ _ _ _ (by decide) (by decide) _ _ ht1 _ hru rfl _ _ ?_
    intro y hy; exact absurd hy (Nat.not_lt_zero _)
  have hkc : kcM.view.read (Elt F) (kcM.view.writes (Elt F) kcM.view.junk (body_run.sl.H9_28 c C)) = kcV (k76V ((Memref.whole main_v2).view.read (Elt F) C)) := by
    have hr : body_run.sl.r c C = k76V ((Memref.whole main_v2).view.read (Elt F) C) := by
      have h72 : body_run.sl.v72 c C = (Memref.whole main_v2).view.read (Elt F) C := readCov_full_of_read _ _ _ (View.read_writes_whole _ _ _) _
      exact congrArg (k76V (F := F)) h72
    rw [← hr]
    refine all_of (fun y : S448x256.Idx => (y 0).val < 16 * 28) (fun y => (y 0).isLt) ?_
    iterate 28
      refine kc_push _ _ _ (by decide) _ rfl _ _ ?_
    intro y hy; exact absurd hy (Nat.not_lt_zero _)
  have hu0 : ∀ i : S28x256x512.Idx, (i 1).val < 16 * k0_t2_loop.trips → uM.view.read (Elt F) fuL1 i
      = uVal (tM.view.read (Elt F) (tM.view.writes (Elt F) tM.view.junk (body_run.sl.H11_16 c X DD DU))) (kcM.view.read (Elt F) (kcM.view.writes (Elt F) kcM.view.junk (body_run.sl.H9_28 c C))) i := by assumption
  have hu : uM.view.read (Elt F) fuL1 = uV (rX c X) ((Memref.whole main_v2).view.read (Elt F) C) ((Memref.whole main_arg4).view.read (Elt F) DD) ((Memref.whole main_v3).view.read (Elt F) DU) := by
    funext i
    rw [hu0 i (by rw [trips2]; exact (i 1).isLt), ht, hkc]; rfl
  have hT : T3 c XW ((Memref.whole cc0_scratch1).view.writes (Elt F) (Memref.whole cc0_scratch1).view.junk (body_run.sl.H1_1 c X))
      ((Memref.whole cc0_scratch3).view.writes (Elt F) (Memref.whole cc0_scratch3).view.junk [⟨Rect.whole cc0_scratch3.ty.shape, body_run.sl.dma0_4 c WS⟩]) fuL1 (body_run.sl.r_13 c X)
      = yV (rX c X) (wM.view.read (Elt F) XW) ((Memref.whole main_v1).view.read (Elt F) WS) ((Memref.whole main_v2).view.read (Elt F) C) ((Memref.whole main_arg4).view.read (Elt F) DD) ((Memref.whole main_v3).view.read (Elt F) DU) := by
    show tileVal _ _ _ _ _ = _
    rw [hfq, hu, hv636]
    refine congrArg (fun z => tileVal _ _ z _ _) ?_
    exact View.read_writes_whole _ _ _
  ihave Ha := (fly_role c XW) $$ Hfly
  ihave Hb := (home_rest c XW) $$ Hwh
  ihave Hc2 := (free_none c) $$ Hwf
  ihave Hd : (bigSep (Finset.Ico 0 0) (wHomeP c XW)) $$ []
  · rw [bigSep_Ico_empty 0 0 le_rfl]; iempintro
  ihave He := (yfree_role c Y0 (T3 c XW ((Memref.whole cc0_scratch1).view.writes (Elt F) (Memref.whole cc0_scratch1).view.junk (body_run.sl.H1_1 c X))
    ((Memref.whole cc0_scratch3).view.writes (Elt F) (Memref.whole cc0_scratch3).view.junk [⟨Rect.whole cc0_scratch3.ty.shape, body_run.sl.dma0_4 c WS⟩]) fuL1 (body_run.sl.r_13 c X))) $$ Hyf
  ihave Hg : (bigSep (Finset.Ico 0 (0 - 3)) (yDoneP c (T3 c XW ((Memref.whole cc0_scratch1).view.writes (Elt F) (Memref.whole cc0_scratch1).view.junk (body_run.sl.H1_1 c X))
    ((Memref.whole cc0_scratch3).view.writes (Elt F) (Memref.whole cc0_scratch3).view.junk [⟨Rect.whole cc0_scratch3.ty.shape, body_run.sl.dma0_4 c WS⟩]) fuL1 (body_run.sl.r_13 c X)))) $$ []
  · rw [bigSep_Ico_empty 0 (0 - 3) le_rfl]; iempintro
  sl_exec
  ihave He2 := (yrole_tail c Y0 _ _ hT) $$ He
  icases He2 with ⟨⟨%f25, %h25, F25⟩, ⟨%f26, %h26, F26⟩, ⟨%f27, %h27, F27⟩⟩
  unfold yFlightP
  sl_exec
  sl_step
  ihave Hg2 := (done_convert c _ _ hT) $$ Hg
  ihave H1b := (halves_join c (Memref.whole cc0_scratch1) _ _ (xcV (rX c X)) (hfq _) (hfq _)) $$ [H1 H1_lend]
  · isplitl [H1]; · iexact H1
    iexact H1_lend
  isplitl [Hx]; · iexact Hx
  isplitl [Hws]; · iexact Hws
  isplitl [Hc]; · iexact Hc
  isplitl [Hdd]; · iexact Hdd
  isplitl [Hdu]; · iexact Hdu
  isplitl [Hxc]
  · iexists _
    isplitr
    swap
    · iexact Hxc
    ipureintro
    exact (View.read_writes_whole _ _ _).trans (hfq _)
  isplitl [Hxs]
  · iexists _
    isplitr
    swap
    · iexact Hxs
    ipureintro
    exact (View.read_writes_whole _ _ _).trans (hxs _)
  isplitl [H0]; · iexists _; iexact H0
  isplitl [H1b]; · iexists _; iexact H1b
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [Cx]; · iexact Cx
  isplitl [C0]; · iexact C0
  isplitl [C1]; · iexact C1
  isplitl [C2]; · iexact C2
  isplitl [C3]; · iexact C3
  isplitl [O0]; · iexact O0
  isplitl [O1]; · iexact O1
  isplitl [Ha]
  · ihave Q := (role_free c XW) $$ Ha
    iexact Q
  isplitl [Hd]
  · ihave Q := (home_all c XW) $$ Hd
    iexact Q
  isplitl [F25 F25_src F26 F26_src F27 F27_src]
  · ihave Q := (yfree_all c) $$ [F25 F25_src F26 F26_src F27 F27_src]
    · isplitl [F25 F25_src]
      · isplitl [F25_src]
        · iexists _; iexact F25_src
        iexact F25
      isplitl [F26 F26_src]
      · isplitl [F26_src]
        · iexists _; iexact F26_src
        iexact F26
      isplitl [F27_src]
      · iexists _; iexact F27_src
      iexact F27
    iexact Q
  isplitl [Hg2 F25_dst F26_dst F27_dst]
  · ihave Q := (done_join c _) $$ [Hg2 F25_dst F26_dst F27_dst]
    · isplitl [F27_dst]
      · unfold yDoneP
        iexists _
        isplitr
        swap
        · iexact F27_dst
        ipureintro
        exact (yTile_landed c Y0 27 27 f27).trans h27
      isplitl [F26_dst]
      · unfold yDoneP
        iexists _
        isplitr
        swap
        · iexact F26_dst
        ipureintro
        exact (yTile_landed c Y0 26 26 f26).trans h26
      isplitl [F25_dst]
      · unfold yDoneP
        iexists _
        isplitr
        swap
        · iexact F25_dst
        ipureintro
        exact (yTile_landed c Y0 25 25 f25).trans h25
      iexact Hg2
    iexact Q
  iexists _; iexact HW

end Cert.Proof.Ideal

end
-- ==== Proof.Ideal.Split.lean ====
/-
  Buffers held whole, cut into the tiles and slots the kernel moves, and put together again.
-/
module

public import proofs.«01_k».proof.Proof.Ideal.Body
public import proofs.«01_k».proof.Proof.Gen.KernelIdeal.Launch
public import Idealize.ShloMosaic.Lib.Ring

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

open Idealize.ShloMosaic.ValueIdx

/-! ## Families -/

theorem bigSep_Ico_fin (n : ℕ) (Φ : ℕ → sProp 𝕄) : bigSep (Finset.Ico 0 n) Φ = bigSep Finset.univ fun i : Fin n => Φ i.val := by
  have e : Finset.Ico 0 n = Finset.univ.map (Fin.valEmbedding (n := n)) := by
    ext x
    simp only [Finset.mem_Ico, Finset.mem_map, Finset.mem_univ, true_and]
    exact ⟨fun h => ⟨⟨x, h.2⟩, rfl⟩, fun ⟨a, h⟩ => by have := a.isLt; have h2 : a.val = x := h; omega⟩
  rw [e, bigSep_map]; rfl
theorem bigSep_Ico_cut (a b d : ℕ) (h1 : a ≤ b) (h2 : b ≤ d) (Φ : ℕ → sProp 𝕄) :
    bigSep (Finset.Ico a d) Φ = iprop(bigSep (Finset.Ico a b) Φ ∗ bigSep (Finset.Ico b d) Φ) := by
  rw [← Finset.Ico_union_Ico_eq_Ico h1 h2, bigSep_union (Finset.Ico_disjoint_Ico_consecutive a b d)]
  rfl
theorem bigSep_Ico_move (k n : ℕ) (Φ : ℕ → sProp 𝕄) : bigSep (Finset.Ico k (n + k)) Φ = bigSep (Finset.Ico 0 n) fun i => Φ (i + k) := by
  have e : Finset.Ico k (n + k) = (Finset.Ico 0 n).map (addRightEmbedding k) := by
    rw [Finset.map_add_right_Ico]; simp
  rw [e, bigSep_map]; rfl

theorem bigSep_Ico_single (a : ℕ) (Φ : ℕ → sProp 𝕄) : bigSep (Finset.Ico a (a + 1)) Φ = Φ a := by
  rw [Nat.Ico_succ_singleton, bigSep_singleton]

/-- A family of element sets told apart by a key is pairwise disjoint … -/
theorem keyed_disjoint {α : Type} [DecidableEq α] {n : ℕ} (I : Fin n → Finset α) (key : α → ℕ) (h : ∀ b y, y ∈ I b ↔ key y = b.val) :
    ∀ b b' : Fin n, b ≠ b' → Disjoint (I b) (I b') := by
  intro b b' hne; rw [Finset.disjoint_left]; intro y hy hy'; rw [h] at hy hy'; exact hne (Fin.ext (hy.symm.trans hy'))
/-- … and covers when every key is a member's. -/
theorem keyed_cover {α : Type} [DecidableEq α] [Fintype α] {n : ℕ} (I : Fin n → Finset α) (key : α → ℕ) (h : ∀ b y, y ∈ I b ↔ key y = b.val)
    (hk : ∀ y, key y < n) : (Finset.univ : Finset (Fin n)).biUnion I = Finset.univ := by
  ext y; simp only [Finset.mem_biUnion, Finset.mem_univ, true_and, iff_true]; exact ⟨⟨key y, hk y⟩, (h _ _).mpr rfl⟩

/-! ## The element sets -/

abbrev WTileS (b : Fin 28) : Finset S14336x3072.Idx := (Rect.unit (s := S14336x3072) (wTileOff b.val) S512x3072.size (wTileOff_inb b.val)).set
abbrev YTileS (b : Fin 28) : Finset S256x14336.Idx := (Rect.unit (s := S256x14336) (yTileOff b.val) S256x512.size (yTileOff_inb b.val)).set
abbrev WSlotS (b : Fin 20) : Finset S20x512x3072.Idx := (Rect.unit (s := S20x512x3072) (wSlotOff b.val) S1x512x3072.size (wSlotOff_inb b.val)).set
abbrev YSlotS (b : Fin 3) : Finset S3x256x512.Idx := (Rect.unit (s := S3x256x512) (ySlotOff b.val) S1x256x512.size (ySlotOff_inb b.val)).set

theorem mem_WTileS (b : Fin 28) (y : S14336x3072.Idx) : y ∈ WTileS b ↔ (y 0).val / 512 = b.val := by
  have hb := b.isLt
  rw [Rect.mem_set_unit]
  have h1 : (y 1).val < 3072 := (y 1).isLt
  constructor
  · intro H; have a0 : 512 * (b.val % 28) ≤ (y 0).val ∧ (y 0).val < 512 * (b.val % 28) + 512 := H 0; omega
  · intro H i; fin_cases i
    · show 512 * (b.val % 28) ≤ (y 0).val ∧ (y 0).val < 512 * (b.val % 28) + 512; omega
    · show 0 ≤ (y 1).val ∧ (y 1).val < 0 + 3072; omega
theorem mem_YTileS (b : Fin 28) (y : S256x14336.Idx) : y ∈ YTileS b ↔ (y 1).val / 512 = b.val := by
  have hb := b.isLt
  rw [Rect.mem_set_unit]
  have h1 : (y 0).val < 256 := (y 0).isLt
  constructor
  · intro H; have a0 : 512 * (b.val % 28) ≤ (y 1).val ∧ (y 1).val < 512 * (b.val % 28) + 512 := H 1; omega
  · intro H i; fin_cases i
    · show 0 ≤ (y 0).val ∧ (y 0).val < 0 + 256; omega
    · show 512 * (b.val % 28) ≤ (y 1).val ∧ (y 1).val < 512 * (b.val % 28) + 512; omega
theorem mem_WSlotS (b : Fin 20) (y : S20x512x3072.Idx) : y ∈ WSlotS b ↔ (y 0).val = b.val := by
  have hb := b.isLt
  rw [Rect.mem_set_unit]
  have h1 : (y 1).val < 512 := (y 1).isLt
  have h2 : (y 2).val < 3072 := (y 2).isLt
  constructor
  · intro H; have a0 : b.val % 20 ≤ (y 0).val ∧ (y 0).val < b.val % 20 + 1 := H 0; omega
  · intro H i; fin_cases i
    · show b.val % 20 ≤ (y 0).val ∧ (y 0).val < b.val % 20 + 1; omega
    · show 0 ≤ (y 1).val ∧ (y 1).val < 0 + 512; omega
    · show 0 ≤ (y 2).val ∧ (y 2).val < 0 + 3072; omega
theorem mem_YSlotS (b : Fin 3) (y : S3x256x512.Idx) : y ∈ YSlotS b ↔ (y 0).val = b.val := by
  have hb := b.isLt
  rw [Rect.mem_set_unit]
  have h1 : (y 1).val < 256 := (y 1).isLt
  have h2 : (y 2).val < 512 := (y 2).isLt
  constructor
  · intro H; have a0 : b.val % 3 ≤ (y 0).val ∧ (y 0).val < b.val % 3 + 1 := H 0; omega
  · intro H i; fin_cases i
    · show b.val % 3 ≤ (y 0).val ∧ (y 0).val < b.val % 3 + 1; omega
    · show 0 ≤ (y 1).val ∧ (y 1).val < 0 + 256; omega
    · show 0 ≤ (y 2).val ∧ (y 2).val < 0 + 512; omega

theorem wTile_set (b : Fin 28) : (wTile b.val).view.set = WTileS b := View.set_slice_whole _ _
theorem yTile_set (b : Fin 28) : (yTile b.val).view.set = YTileS b := View.set_slice_whole _ _
theorem wSlot_set (b : Fin 20) : (wSlot b.val).view.set = WSlotS b := (View.set_reshape _ _).trans (View.set_slice_whole _ _)
theorem ySlot_set (b : Fin 3) : (ySlot b.val).view.set = YSlotS b := (View.set_reshape _ _).trans (View.set_slice_whole _ _)

theorem wkey_lt (y : S14336x3072.Idx) : (y 0).val / 512 < 28 := by have h : (y 0).val < 14336 := (y 0).isLt; omega
theorem ykey_lt (y : S256x14336.Idx) : (y 1).val / 512 < 28 := by have h : (y 1).val < 14336 := (y 1).isLt; omega

/-! ## Splitting and joining -/

section
variable (c : Dev nD)

/-- The weight whole is its tiles at home. -/
theorem w_tiles (XW : Buf (Elt F) ((c : Thread nD τ).loc main_arg1)) :
    (((c : Thread nD τ).loc main_arg1) ↦{fullShare} XW : sProp 𝕄) = bigSep (Finset.Ico 0 28) (wHomeP c XW) := by
  rw [Ring.pointsTo_blocks (ℓ := (c : Thread nD τ).loc main_arg1) WTileS (keyed_disjoint _ _ mem_WTileS) (keyed_cover _ _ mem_WTileS wkey_lt), bigSep_Ico_fin]
  exact bigSep_congr fun b _ => by rw [← wTile_set]; rfl
/-- The output whole is its tiles. -/
theorem y_tiles (Y0 : Buf (Elt F) ((c : Thread nD τ).loc main_v4_0)) :
    (((c : Thread nD τ).loc main_v4_0) ↦{fullShare} Y0 : sProp 𝕄) = bigSep (Finset.Ico 0 28) (yStartP c Y0) := by
  rw [Ring.pointsTo_blocks (ℓ := (c : Thread nD τ).loc main_v4_0) YTileS (keyed_disjoint _ _ mem_YTileS) (keyed_cover _ _ mem_YTileS ykey_lt), bigSep_Ico_fin]
  exact bigSep_congr fun b _ => by rw [← yTile_set]; rfl

/-- The output assembled from its tiles. -/
def yAll (T : TileVal F) : S256x14336.Idx → Elt F .bf16 := fun i =>
  T ((i 1).val / 512) (ix2 (n0 := 256) (n1 := 512) (i 0) ⟨(i 1).val % 512, Nat.mod_lt _ (by decide)⟩)

theorem yTile_of_read (T : TileVal F) (p : ℕ) (hp : p < 28) (g : Buf (Elt F) ((c : Thread nD τ).loc main_v4_0))
    (h : (yTile p).view.read (Elt F) g = T p) : ∀ i ∈ YTileS ⟨p, hp⟩, g i = yAll T i := by
  intro i hi
  have hk : (i 1).val / 512 = p := (mem_YTileS _ _).mp hi
  have e := congrFun h (ix2 (n0 := 256) (n1 := 512) (i 0) ⟨(i 1).val % 512, Nat.mod_lt _ (by decide)⟩)
  unfold yAll
  rw [hk, ← e]
  show g i = g ((Rect.unit (s := S256x14336) (yTileOff p) S256x512.size (yTileOff_inb p)).emb _)
  refine congrArg g (funext fun a => Fin.ext ?_)
  fin_cases a
  · show (i 0).val = 0 + 1 * (i 0).val; omega
  · show (i 1).val = 512 * (p % 28) + 1 * ((i 1).val % 512)
    rw [Nat.mod_eq_of_lt hp]; omega

theorem y_done_one (T : TileVal F) (p : ℕ) (hp : p < 28) : yDoneP c T p ⊢ yStartP c (yAll T : Buf (Elt F) ((c : Thread nD τ).loc main_v4_0)) p := by
  unfold yDoneP
  iintro ⟨%g, %hg, H⟩
  have e : (yTileP c p g : sProp 𝕄) = yTileP c p (yAll T) := by
    refine pointsTo_congr fun i hi => ?_
    rw [yTile_set ⟨p, hp⟩] at hi
    exact yTile_of_read c T p hp g hg i hi
  ihave H2 := (Entails.of_eq e) $$ H
  iexact H2
/-- The output's tiles, each written, are the output whole at the assembled contents. -/
theorem y_done (T : TileVal F) : bigSep (Finset.Ico 0 28) (yDoneP c T)
    ⊢ (((c : Thread nD τ).loc main_v4_0) ↦{fullShare} (yAll T : Buf (Elt F) ((c : Thread nD τ).loc main_v4_0)) : sProp 𝕄) := by
  rw [y_tiles c (yAll T)]
  exact bigSep_mono fun p hp => y_done_one c T p (Finset.mem_Ico.mp hp).2

theorem ring_out (b : Fin 20) (f : Buf (Elt F) ((c : Thread nD τ).loc cc0_scratch2)) :
    (((c : Thread nD τ).loc cc0_scratch2) ↦[WSlotS b]{fullShare} f : sProp 𝕄) ⊢ iprop(∃ f, wSlotP c b.val f) := by
  rw [← wSlot_set]; iintro H; iexists f; iexact H
theorem ring_in (b : Fin 20) : (iprop(∃ f, wSlotP c b.val f) : sProp 𝕄) ⊢ iprop(∃ f, ((c : Thread nD τ).loc cc0_scratch2) ↦[WSlotS b]{fullShare} f) := by
  rw [← wSlot_set]; iintro ⟨%f, H⟩; iexists f; iexact H
/-- The weight ring whole splits into its slots … -/
theorem ring_split : iprop(∃ f : Buf (Elt F) ((c : Thread nD τ).loc cc0_scratch2), ((c : Thread nD τ).loc cc0_scratch2) ↦{fullShare} f)
    ⊢ (bigSep (Finset.Ico 0 20) (fun p => iprop(∃ f, wSlotP c p f)) : sProp 𝕄) := by
  iintro ⟨%f, H⟩
  have h : (((c : Thread nD τ).loc cc0_scratch2) ↦{fullShare} f : sProp 𝕄) ⊢ bigSep (Finset.Ico 0 20) (fun p => iprop(∃ f, wSlotP c p f)) := by
    rw [bigSep_Ico_fin, Ring.pointsTo_blocks (ℓ := (c : Thread nD τ).loc cc0_scratch2) WSlotS (keyed_disjoint _ _ mem_WSlotS) (keyed_cover _ _ mem_WSlotS fun y => (y 0).isLt)]
    exact bigSep_mono fun b _ => ring_out c b f
  iapply h
  iexact H
/-- … and back. -/
theorem ring_join : (bigSep (Finset.Ico 0 20) (fun p => iprop(∃ f, wSlotP c p f)) : sProp 𝕄)
    ⊢ iprop(∃ f : Buf (Elt F) ((c : Thread nD τ).loc cc0_scratch2), ((c : Thread nD τ).loc cc0_scratch2) ↦{fullShare} f) := by
  have h : (bigSep (Finset.Ico 0 20) (fun p => iprop(∃ f, wSlotP c p f)) : sProp 𝕄)
      ⊢ bigSep Finset.univ (fun b : Fin 20 => iprop(∃ f, ((c : Thread nD τ).loc cc0_scratch2) ↦[WSlotS b]{fullShare} f)) := by
    rw [bigSep_Ico_fin]
    exact bigSep_mono fun b _ => ring_in c b
  iintro H
  iapply (Ring.pointsTo_blocks_join_exists (ℓ := (c : Thread nD τ).loc cc0_scratch2) WSlotS (keyed_disjoint _ _ mem_WSlotS) (keyed_cover _ _ mem_WSlotS fun y => (y 0).isLt) (Classical.arbitrary _))
  iapply h
  iexact H
theorem yring_out (b : Fin 3) (f : Buf (Elt F) ((c : Thread nD τ).loc cc0_scratch15)) :
    (((c : Thread nD τ).loc cc0_scratch15) ↦[YSlotS b]{fullShare} f : sProp 𝕄) ⊢ iprop(∃ f, ySlotP c b.val f) := by
  rw [← ySlot_set]; iintro H; iexists f; iexact H
theorem yring_in (b : Fin 3) : (iprop(∃ f, ySlotP c b.val f) : sProp 𝕄) ⊢ iprop(∃ f, ((c : Thread nD τ).loc cc0_scratch15) ↦[YSlotS b]{fullShare} f) := by
  rw [← ySlot_set]; iintro ⟨%f, H⟩; iexists f; iexact H
/-- The output ring likewise. -/
theorem yring_split : iprop(∃ f : Buf (Elt F) ((c : Thread nD τ).loc cc0_scratch15), ((c : Thread nD τ).loc cc0_scratch15) ↦{fullShare} f)
    ⊢ (bigSep (Finset.Ico 0 3) (fun p => iprop(∃ f, ySlotP c p f)) : sProp 𝕄) := by
  iintro ⟨%f, H⟩
  have h : (((c : Thread nD τ).loc cc0_scratch15) ↦{fullShare} f : sProp 𝕄) ⊢ bigSep (Finset.Ico 0 3) (fun p => iprop(∃ f, ySlotP c p f)) := by
    rw [bigSep_Ico_fin, Ring.pointsTo_blocks (ℓ := (c : Thread nD τ).loc cc0_scratch15) YSlotS (keyed_disjoint _ _ mem_YSlotS) (keyed_cover _ _ mem_YSlotS fun y => (y 0).isLt)]
    exact bigSep_mono fun b _ => yring_out c b f
  iapply h
  iexact H

theorem yring_join : (bigSep (Finset.Ico 0 3) (fun p => iprop(∃ f, ySlotP c p f)) : sProp 𝕄)
    ⊢ iprop(∃ f : Buf (Elt F) ((c : Thread nD τ).loc cc0_scratch15), ((c : Thread nD τ).loc cc0_scratch15) ↦{fullShare} f) := by
  have h : (bigSep (Finset.Ico 0 3) (fun p => iprop(∃ f, ySlotP c p f)) : sProp 𝕄)
      ⊢ bigSep Finset.univ (fun b : Fin 3 => iprop(∃ f, ((c : Thread nD τ).loc cc0_scratch15) ↦[YSlotS b]{fullShare} f)) := by
    rw [bigSep_Ico_fin]
    exact bigSep_mono fun b _ => yring_in c b
  iintro H
  iapply (Ring.pointsTo_blocks_join_exists (ℓ := (c : Thread nD τ).loc cc0_scratch15) YSlotS (keyed_disjoint _ _ mem_YSlotS) (keyed_cover _ _ mem_YSlotS fun y => (y 0).isLt) (Classical.arbitrary _))
  iapply h
  iexact H

/-! ## The kernel's own semaphores -/

/-- The thirty cells, in the order the kernel declares them. -/
def cellN (n : ℕ) : sProp 𝕄 := semVal ((c : Thread nD τ), SemLoc.dma (⟨n % 30, Nat.mod_lt _ (by decide)⟩ : DmaSem sig)) 0

theorem wSem_val : ∀ n : Fin 20, (wSem n.val).sem = (⟨(n.val + 5) % 30, Nat.mod_lt _ (by decide)⟩ : DmaSem sig) := by decide +kernel
theorem ySem_val : ∀ n : Fin 3, (ySem n.val).sem = (⟨(n.val + 25) % 30, Nat.mod_lt _ (by decide)⟩ : DmaSem sig) := by decide +kernel
theorem sSem_val : ∀ n : Fin 4, (sSem n).sem = (⟨(n.val + 1) % 30, Nat.mod_lt _ (by decide)⟩ : DmaSem sig) := by decide +kernel
theorem oSem_val : ∀ n : Fin 2, (oSem n).sem = (⟨(n.val + 28) % 30, Nat.mod_lt _ (by decide)⟩ : DmaSem sig) := by decide +kernel
theorem xSem_val : SemArray.sem cc0_scratch16 = (⟨0 % 30, Nat.mod_lt _ (by decide)⟩ : DmaSem sig) := by decide +kernel

theorem cells_eq : (bigSep (Finset.Ico 0 30) (cellN (F := F) c) : sProp 𝕄)
    = iprop(xCellP c ∗ (sCellP c 0 ∗ sCellP c 1 ∗ sCellP c 2 ∗ sCellP c 3) ∗ bigSep (Finset.Ico 0 20) (wCellP c) ∗ bigSep (Finset.Ico 0 3) (yCellP c) ∗ oCellP c 0 ∗ oCellP c 1) := by
  have ew : bigSep (Finset.Ico 5 (20 + 5)) (cellN (F := F) c) = bigSep (Finset.Ico 0 20) (wCellP c) := by
    rw [bigSep_Ico_move]
    refine bigSep_congr fun n hn => ?_
    have h := wSem_val ⟨n, (Finset.mem_Ico.mp hn).2⟩
    unfold cellN wCellP; rw [show (wSem n).sem = _ from h]
  have ey : bigSep (Finset.Ico 25 (3 + 25)) (cellN (F := F) c) = bigSep (Finset.Ico 0 3) (yCellP c) := by
    rw [bigSep_Ico_move]
    refine bigSep_congr fun n hn => ?_
    have h := ySem_val ⟨n, (Finset.mem_Ico.mp hn).2⟩
    unfold cellN yCellP; rw [show (ySem n).sem = _ from h]
  have es : ∀ n : Fin 4, cellN (F := F) c (n.val + 1) = sCellP c n := fun n => by unfold cellN sCellP; rw [sSem_val n]
  have eo : ∀ n : Fin 2, cellN (F := F) c (n.val + 28) = oCellP c n := fun n => by unfold cellN oCellP; rw [oSem_val n]
  have ex : cellN (F := F) c 0 = xCellP c := by unfold cellN xCellP; rw [xSem_val]
  have es0 : cellN (F := F) c 1 = sCellP c 0 := es 0
  have es1 : cellN (F := F) c 2 = sCellP c 1 := es 1
  have es2 : cellN (F := F) c 3 = sCellP c 2 := es 2
  have es3 : cellN (F := F) c 4 = sCellP c 3 := es 3
  have eo0 : cellN (F := F) c 28 = oCellP c 0 := eo 0
  have eo1 : cellN (F := F) c 29 = oCellP c 1 := eo 1
  have e5 : (bigSep (Finset.Ico 1 5) (cellN (F := F) c) : sProp 𝕄) = iprop(sCellP c 0 ∗ sCellP c 1 ∗ sCellP c 2 ∗ sCellP c 3) := by
    rw [bigSep_Ico_take 1 5 (by omega), bigSep_Ico_take (1 + 1) 5 (by omega), bigSep_Ico_take (1 + 1 + 1) 5 (by omega), bigSep_Ico_single (1 + 1 + 1 + 1)]
    rw [es0, es1, es2, es3]
  have e28 : (bigSep (Finset.Ico 28 30) (cellN (F := F) c) : sProp 𝕄) = iprop(oCellP c 0 ∗ oCellP c 1) := by
    rw [bigSep_Ico_take 28 30 (by omega), bigSep_Ico_single (28 + 1), eo0, eo1]
  rw [bigSep_Ico_take 0 30 (by omega), bigSep_Ico_cut (0 + 1) 5 30 (by omega) (by omega), bigSep_Ico_cut 5 (20 + 5) 30 (by omega) (by omega),
    bigSep_Ico_cut (20 + 5) (3 + 25) 30 (by omega) (by omega), ew, show 20 + 5 = 25 by rfl, ey, e28, ex, show 0 + 1 = 1 by rfl, e5]

abbrev osem : Fin 30 → SemLoc sig := fun s => SemLoc.dma (⟨s.val % 30, Nat.mod_lt _ (by decide)⟩ : DmaSem sig)
theorem ownSemFacts : Pipeline.OwnSemFacts (cfg0.spec) osem := by decide +kernel
theorem ownSems0_eq : (Pipeline.ownSems0 (Ix := Unit) (Name := ℕ) (U := UU nD τ) (Lvl := ℕ) (Val := Elt F) (τ := τ) osem c : sProp 𝕄)
    = iprop(xCellP c ∗ (sCellP c 0 ∗ sCellP c 1 ∗ sCellP c 2 ∗ sCellP c 3) ∗ bigSep (Finset.Ico 0 20) (wCellP c) ∗ bigSep (Finset.Ico 0 3) (yCellP c) ∗ oCellP c 0 ∗ oCellP c 1) := by
  rw [← cells_eq, bigSep_Ico_fin]; rfl

theorem wFree_eq : (bigSep (Finset.Ico 0 20) (wFreeP (F := F) c) : sProp 𝕄) = iprop(bigSep (Finset.Ico 0 20) (fun p => iprop(∃ f, wSlotP c p f)) ∗ bigSep (Finset.Ico 0 20) (wCellP c)) :=
  bigSep_sep _ _ _
theorem yFree_eq : (bigSep (Finset.Ico 0 3) (yFreeP (F := F) c) : sProp 𝕄) = iprop(bigSep (Finset.Ico 0 3) (fun p => iprop(∃ f, ySlotP c p f)) ∗ bigSep (Finset.Ico 0 3) (yCellP c)) :=
  bigSep_sep _ _ _

end

end Cert.Proof.Ideal

end
-- ==== Proof.Ideal.Launch.lean ====
/-
The run of the whole program: the body on the buffers the region owns, and what every final state holds.
-/
module

public import proofs.«01_k».proof.Proof.Ideal.Split
public import proofs.«01_k».proof.Proof.Gen.KernelIdeal.Frame
public import proofs.«01_k».proof.Proof.Gen.KernelIdeal.Points
public import Idealize.ShloMosaic.Lib.Pipeline.FrameSuffixV

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section
variable (m : (ℓ : Loc nD τ sig) → Buf (Elt F) ℓ) (c : Dev nD)

/-- The buffers the body only reads, and those it writes whole. -/
abbrev Hset : Finset (Ref sig .tc) := {main_v0, main_arg1, main_v1, main_v2, main_arg4, main_v3}
abbrev Rset : Finset (Ref sig .tc) := {main_v4_0, main_v4_1, main_v4_2}

/-- The three results as the region leaves them, from the contents at its entry. -/
def yOut : Buf (Elt F) ((c : Thread nD τ).loc main_v4_0) :=
  yAll (yV (V m c main_v0) (V m c main_arg1) (V m c main_v1) (V m c main_v2) (V m c main_arg4) (V m c main_v3))
def xcOut : Buf (Elt F) ((c : Thread nD τ).loc main_v4_1) := xcV (V m c main_v0)
def xsOut : Buf (Elt F) ((c : Thread nD τ).loc main_v4_2) := xsV (V m c main_v0)

def Gout (b : Ref sig .tc) : Buf (Elt F) ((c : Thread nD τ).loc b) :=
  Function.update (Function.update (Function.update (V m c) main_v4_0 (yOut m c)) main_v4_1 (xcOut m c)) main_v4_2 (xsOut m c) b

theorem G_y : Gout m c main_v4_0 = yOut m c := by
  unfold Gout
  rw [Function.update_of_ne (show (main_v4_0 : Ref sig .tc) ≠ main_v4_2 by decide), Function.update_of_ne (show (main_v4_0 : Ref sig .tc) ≠ main_v4_1 by decide), Function.update_self]
theorem G_xc : Gout m c main_v4_1 = xcOut m c := by
  unfold Gout
  rw [Function.update_of_ne (show (main_v4_1 : Ref sig .tc) ≠ main_v4_2 by decide), Function.update_self]
theorem G_xs : Gout m c main_v4_2 = xsOut m c := by
  unfold Gout
  rw [Function.update_self]

theorem whole_eq (b : Ref sig .tc) (f : Buf (Elt F) ((c : Thread nD τ).loc b)) :
    (((c : Thread nD τ).loc b) ↦{fullShare} f : sProp 𝕄) = ((Memref.whole b).view.loc (c : Thread nD τ) ↦[(Memref.whole b).view.set]{fullShare} f) := by
  rw [show (Memref.whole b).view.set = Finset.univ from View.set_whole b]
theorem whole_in (b : Ref sig .tc) (f : Buf (Elt F) ((c : Thread nD τ).loc b)) :
    (((c : Thread nD τ).loc b) ↦{fullShare} f : sProp 𝕄) ⊢ ((Memref.whole b).view.loc (c : Thread nD τ) ↦[(Memref.whole b).view.set]{fullShare} f) := Entails.of_eq (whole_eq c b f)
theorem whole_out (b : Ref sig .tc) (f : Buf (Elt F) ((c : Thread nD τ).loc b)) :
    ((Memref.whole b).view.loc (c : Thread nD τ) ↦[(Memref.whole b).view.set]{fullShare} f : sProp 𝕄) ⊢ (((c : Thread nD τ).loc b) ↦{fullShare} f) := Entails.of_eq (whole_eq c b f).symm
theorem whole_out_ex (b : Ref sig .tc) :
    (iprop(∃ f, ((Memref.whole b).view.loc (c : Thread nD τ) ↦[(Memref.whole b).view.set]{fullShare} f)) : sProp 𝕄)
      ⊢ iprop(∃ f : Buf (Elt F) ((c : Thread nD τ).loc b), ((c : Thread nD τ).loc b) ↦{fullShare} f) := by
  iintro ⟨%f, H⟩; iexists f; iapply (whole_out c b f); iexact H

theorem sep_reads (Φ : Ref sig .tc → sProp 𝕄) :
    bigSep Hset Φ = iprop(Φ main_v0 ∗ Φ main_arg1 ∗ Φ main_v1 ∗ Φ main_v2 ∗ Φ main_arg4 ∗ Φ main_v3) :=
  (bigSep_eq_bigSepL_of_eq [main_v0, main_arg1, main_v1, main_v2, main_arg4, main_v3] (by decide) (by decide) Φ).trans (by
    simp only [bigSepL_cons_cons, bigSepL_singleton]; rfl)
theorem sep_writes (Φ : Ref sig .tc → sProp 𝕄) :
    bigSep Rset Φ = iprop(Φ main_v4_0 ∗ Φ main_v4_1 ∗ Φ main_v4_2) :=
  (bigSep_eq_bigSepL_of_eq [main_v4_0, main_v4_1, main_v4_2] (by decide) (by decide) Φ).trans (by
    simp only [bigSepL_cons_cons, bigSepL_singleton]; rfl)

/-- What the region owns at the body's entry, and at its exit. -/
abbrev Pin : sProp 𝕄 := Pipeline.ΦDRV osem cfg0.spec Hset Rset (fun c b => V m c b) (fun c b => V m c b) c
abbrev Pout : sProp 𝕄 := Pipeline.ΦDRV osem cfg0.spec Hset Rset (fun c b => V m c b) (fun c b => Gout m c b) c

set_option maxHeartbeats 1600000 in
theorem body_whole : iprop(Pin m c ∗ ∃ W, owes (c : Thread nD τ) 0 W)
    ⊢ wp frame (wpE (defs₀ (F := F)) 𝒱₀ (c : Thread nD τ) none) Set.univ (cc0_fp8_lokr (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20) (fun _ => iprop((∃ W, owes (c : Thread nD τ) 0 W) ∗ Pout m c)) := by
  unfold Pin Pout Pipeline.ΦDRV
  rw [scopedRest0_eq, ownSems0_eq, sep_reads, sep_writes, sep_writes]
  iintro ⟨⟨⟨⟨%f0, S0⟩, ⟨%f1, S1⟩, S2, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, S15⟩, ⟨Cxc, ⟨Cs0, Cs1, Cs2, Cs3⟩, CW, CY, Co0, Co1⟩, ⟨Hmain_v0, Hmain_arg1, Hmain_v1, Hmain_v2, Hmain_arg4, Hmain_v3⟩, ⟨Hmain_v4_0, Hmain_v4_1, Hmain_v4_2⟩⟩, O⟩
  ihave RW := (ring_split c) $$ S2
  ihave RY := (yring_split c) $$ S15
  ihave HW := (Entails.of_eq (w_tiles c _)) $$ Hmain_arg1
  ihave HY := (Entails.of_eq (y_tiles c _)) $$ Hmain_v4_0
  ihave T := (body_run c (V m c main_arg1) (V m c main_v4_0) (V m c main_v0) (V m c main_v1) (V m c main_v2) (V m c main_arg4) (V m c main_v3) (V m c main_v4_1) (V m c main_v4_2) f0 f1 f3 f4 f5 f6 f7 f8 f9 f10 f11 f12 f13 f14) $$ [Hmain_v0 Hmain_v1 Hmain_v2 Hmain_arg4 Hmain_v3 Hmain_v4_1 Hmain_v4_2 S0 S1 S3 S4 S5 S6 S7 S8 S9 S10 S11 S12 S13 S14 Cxc Cs0 Cs1 Cs2 Cs3 Co0 Co1 RW CW HW RY CY HY O]
  · isplitl [Hmain_v0]; · iapply (whole_in c main_v0 _); iexact Hmain_v0
    isplitl [Hmain_v1]; · iapply (whole_in c main_v1 _); iexact Hmain_v1
    isplitl [Hmain_v2]; · iapply (whole_in c main_v2 _); iexact Hmain_v2
    isplitl [Hmain_arg4]; · iapply (whole_in c main_arg4 _); iexact Hmain_arg4
    isplitl [Hmain_v3]; · iapply (whole_in c main_v3 _); iexact Hmain_v3
    isplitl [Hmain_v4_1]; · iapply (whole_in c main_v4_1 _); iexact Hmain_v4_1
    isplitl [Hmain_v4_2]; · iapply (whole_in c main_v4_2 _); iexact Hmain_v4_2
    isplitl [S0]; · iapply (whole_in c cc0_scratch0 _); iexact S0
    isplitl [S1]; · iapply (whole_in c cc0_scratch1 _); iexact S1
    isplitl [S3]; · iapply (whole_in c cc0_scratch3 _); iexact S3
    isplitl [S4]; · iapply (whole_in c cc0_scratch4 _); iexact S4
    isplitl [S5]; · iapply (whole_in c cc0_scratch5 _); iexact S5
    isplitl [S6]; · iapply (whole_in c cc0_scratch6 _); iexact S6
    isplitl [S7]; · iapply (whole_in c cc0_scratch7 _); iexact S7
    isplitl [S8]; · iapply (whole_in c cc0_scratch8 _); iexact S8
    isplitl [S9]; · iapply (whole_in c cc0_scratch9 _); iexact S9
    isplitl [S10]; · iapply (whole_in c cc0_scratch10 _); iexact S10
    isplitl [S11]; · iapply (whole_in c cc0_scratch11 _); iexact S11
    isplitl [S12]; · iapply (whole_in c cc0_scratch12 _); iexact S12
    isplitl [S13]; · iapply (whole_in c cc0_scratch13 _); iexact S13
    isplitl [S14]; · iapply (whole_in c cc0_scratch14 _); iexact S14
    isplitl [Cxc]; · iexact Cxc
    isplitl [Cs0]; · iexact Cs0
    isplitl [Cs1]; · iexact Cs1
    isplitl [Cs2]; · iexact Cs2
    isplitl [Cs3]; · iexact Cs3
    isplitl [Co0]; · iexact Co0
    isplitl [Co1]; · iexact Co1
    isplitl [RW CW]
    · iapply (Entails.of_eq (wFree_eq c).symm)
      isplitl [RW]; · iexact RW
      iexact CW
    isplitl [HW]; · iexact HW
    isplitl [RY CY]
    · iapply (Entails.of_eq (yFree_eq c).symm)
      isplitl [RY]; · iexact RY
      iexact CY
    isplitl [HY]; · iexact HY
    iexact O
  iapply (wp_wand Idealize.ShloMosaic.frame (wpE (defs₀ (F := F)) 𝒱₀ (c : Thread nD τ) none) Set.univ) $$ [T]
  · iexact T
  iintro %u
  iintro ⟨Hmain_v0, Hmain_v1, Hmain_v2, Hmain_arg4, Hmain_v3, ⟨%gc, %ec, Hmain_v4_1⟩, ⟨%gs, %es, Hmain_v4_2⟩, S0, S1, S3, S4, S5, S6, S7, S8, S9, S10, S11, S12, S13, S14, Cxc, Cs0, Cs1, Cs2, Cs3, Co0, Co1, HRW, HW, HRY, HY, O⟩
  ihave W1 := (Entails.of_eq (wFree_eq c)) $$ HRW
  icases W1 with ⟨RW, CW⟩
  ihave W2 := (Entails.of_eq (yFree_eq c)) $$ HRY
  icases W2 with ⟨RY, CY⟩
  isplitl [O]; · iexact O
  isplitl [S0 S1 RW S3 S4 S5 S6 S7 S8 S9 S10 S11 S12 S13 S14 RY]
  · isplitl [S0]; · iapply (whole_out_ex c cc0_scratch0); iexact S0
    isplitl [S1]; · iapply (whole_out_ex c cc0_scratch1); iexact S1
    isplitl [RW]; · iapply (ring_join c); iexact RW
    isplitl [S3]; · iapply (whole_out_ex c cc0_scratch3); iexact S3
    isplitl [S4]; · iapply (whole_out_ex c cc0_scratch4); iexact S4
    isplitl [S5]; · iapply (whole_out_ex c cc0_scratch5); iexact S5
    isplitl [S6]; · iapply (whole_out_ex c cc0_scratch6); iexact S6
    isplitl [S7]; · iapply (whole_out_ex c cc0_scratch7); iexact S7
    isplitl [S8]; · iapply (whole_out_ex c cc0_scratch8); iexact S8
    isplitl [S9]; · iapply (whole_out_ex c cc0_scratch9); iexact S9
    isplitl [S10]; · iapply (whole_out_ex c cc0_scratch10); iexact S10
    isplitl [S11]; · iapply (whole_out_ex c cc0_scratch11); iexact S11
    isplitl [S12]; · iapply (whole_out_ex c cc0_scratch12); iexact S12
    isplitl [S13]; · iapply (whole_out_ex c cc0_scratch13); iexact S13
    isplitl [S14]; · iapply (whole_out_ex c cc0_scratch14); iexact S14
    iapply (yring_join c); iexact RY
  isplitl [Cxc Cs0 Cs1 Cs2 Cs3 CW CY Co0 Co1]
  · isplitl [Cxc]; · iexact Cxc
    isplitl [Cs0 Cs1 Cs2 Cs3]
    · isplitl [Cs0]; · iexact Cs0
      isplitl [Cs1]; · iexact Cs1
      isplitl [Cs2]; · iexact Cs2
      iexact Cs3
    isplitl [CW]; · iexact CW
    isplitl [CY]; · iexact CY
    isplitl [Co0]; · iexact Co0
    iexact Co1
  isplitl [Hmain_v0 HW Hmain_v1 Hmain_v2 Hmain_arg4 Hmain_v3]
  · isplitl [Hmain_v0]; · iapply (whole_out c main_v0 _); iexact Hmain_v0
    isplitl [HW]; · iapply (Entails.of_eq (w_tiles c _).symm); iexact HW
    isplitl [Hmain_v1]; · iapply (whole_out c main_v1 _); iexact Hmain_v1
    isplitl [Hmain_v2]; · iapply (whole_out c main_v2 _); iexact Hmain_v2
    isplitl [Hmain_arg4]; · iapply (whole_out c main_arg4 _); iexact Hmain_arg4
    iapply (whole_out c main_v3 _); iexact Hmain_v3
  isplitl [HY]; · iapply (Entails.of_eq (congrArg (fun f => (((c : Thread nD τ).loc main_v4_0) ↦{fullShare} f : sProp 𝕄)) (G_y m c).symm)); iapply (y_done c _); iexact HY
  isplitl [Hmain_v4_1]
  · iapply (Entails.of_eq (congrArg (fun f => (((c : Thread nD τ).loc main_v4_1) ↦{fullShare} f : sProp 𝕄)) (Eq.trans (show gc = xcOut m c from ec) (G_xc m c).symm)))
    iapply (whole_out c main_v4_1 _); iexact Hmain_v4_1
  iapply (Entails.of_eq (congrArg (fun f => (((c : Thread nD τ).loc main_v4_2) ↦{fullShare} f : sProp 𝕄)) (Eq.trans (show gs = xsOut m c from es) (G_xs m c).symm)))
  iapply (whole_out c main_v4_2 _); iexact Hmain_v4_2
end

end Cert.Proof.Ideal

end
-- ==== Proof.Ideal.Run.lean ====
/-
The launch of the program around the body, and the contents of the results and arguments at every final state.
-/
module

public import proofs.«01_k».proof.Proof.Ideal.Launch

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section
variable (m : (ℓ : Loc nD τ sig) → Buf (Elt F) ℓ) (ρ : Dev nD → PrngReg)

/-- The region's data: no window, one grid point; the invariant is what the region owns, before the body and after it. -/
def dats (_ : Fin 1) (c : Dev nD) : Dat τ (Elt F) Unit ℕ (UU nD τ) ℕ cfg0 c where
  A w := w.elim0
  after w := w.elim0
  Φ t := if t.val = 0 then Pin m c else Pout m c
  q _ := fullShare
  owed _ := 0

theorem defs_tc : (defs₀ (F := F)) .tc cfg0.body = fun a => bodyAt0 t0_0 := rfl
theorem prog_eq (t : Fin cfg0.N) : (defs₀ (F := F)) .tc cfg0.body (cfg0.bodyArgs t (cfg0.slots t)) = bodyAt0 t0_0 := (congrFun defs_tc _).trans rfl

theorem body_at (c : Dev nD) (t : Fin cfg0.N) :
    iprop(Pin m c ∗ ∃ W, owes (c : Thread nD τ) 0 W)
    ⊢ wp frame (wpE (defs₀ (F := F)) 𝒱₀ (c : Thread nD τ) none) Set.univ ((defs₀ (F := F)) .tc cfg0.body (cfg0.bodyArgs t (cfg0.slots t)))
      (fun _ => iprop((∃ W, owes (c : Thread nD τ) 0 W) ∗ Pout m c)) := by
  rw [prog_eq t]; exact body_whole m c

set_option backward.isDefEq.respectTransparency.types false in
theorem body_obligation (c : Dev nD) : BodyObligation (dats (F := F) m 0 c) (defs₀ (F := F)) 𝒱₀ () Set.univ := fun t => by
  rw [fin_N0 t]
  rw [show (dats m 0 c).Φ (Fin.castSucc t0_0) = Pin m c from rfl, show (dats m 0 c).Φ (Fin.succ t0_0) = Pout m c from rfl]
  unfold Dat.owesAt Pipeline.owesWithin
  rw [show (dats m 0 c).owed (Fin.castSucc t0_0) = 0 from rfl, show (dats m 0 c).owed (Fin.succ t0_0) = 0 from rfl]
  iintro ⟨HP, ⟨%W, -, HW⟩, HE⟩
  ihave T := (body_at m c t0_0) $$ [HP HW]
  · isplitl [HP]; · iexact HP
    iexists W; iexact HW
  iapply (wp_wand Idealize.ShloMosaic.frame (wpE (defs₀ (F := F)) 𝒱₀ (c : Thread nD τ) none) Set.univ) $$ [T]
  · iexact T
  iintro %u
  iintro ⟨⟨%W', HW⟩, HP⟩
  isplitl [HP]; · iexact HP
  isplitl [HW]
  · iexists W'
    isplitr
    · ipureintro; exact fun _ _ => Or.inl trivial
    iexact HW
  iexact HE

set_option maxHeartbeats 800000 in
theorem hmainU : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The contents at the region's exit, as a valuation. -/
abbrev Wx (c : Dev nD) : Valuation τ sig (Elt F) :=
  Pipeline.withArrays cfg0.spec c (Pipeline.withR (V0 m c) Rset c (Gout m c)) fun w => (dats m 0 c).arrAt w cfg0.N
abbrev Wend (c : Dev nD) : Valuation τ sig (Elt F) := StableHlo.after (List.flatten [hostOps1]) (Wx m c)

theorem Wx_R (c : Dev nD) (b : Ref sig .tc) (hb : b ∈ Rset) : Wx m c (Proc.devRef .tc b) = Gout m c b :=
  (Pipeline.withArrays_of_ne _ c _ _ b (fun w => w.elim0)).trans (Pipeline.withR_of_mem _ _ _ _ b hb)
theorem Wx_not (c : Dev nD) (b : Ref sig .tc) (hb : b ∉ Rset) : Wx m c (Proc.devRef .tc b) = V m c b :=
  (Pipeline.withArrays_of_ne _ c _ _ b (fun w => w.elim0)).trans (Pipeline.withR_of_not_mem _ _ _ _ b hb)

theorem Wend_keep (c : Dev nD) (b : Ref sig .tc) (h5 : b ≠ main_v5) (h6 : b ≠ main_v6) : Wend m c (Proc.devRef .tc b) = Wx m c (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.reshape_writes, Finset.mem_singleton]
    exact ⟨StableHlo.devRef_ne_of_ne h5, StableHlo.devRef_ne_of_ne h6⟩))

theorem Wend_v5 (c : Dev nD) : Wend m c (Proc.devRef .tc main_v5) = shapeCast S2x128x14336 (yOut m c) shapeCasts_S256x14336_S2x128x14336 := by
  simp only [Wend, hostOps1, List.flatten_cons, List.flatten_nil, List.append_nil, StableHlo.after_cons, StableHlo.after_nil]
  rw [StableHlo.reshape_result_ne _ _ _ _ _ (by decide), StableHlo.reshape_result, Wx_R m c main_v4_0 (by decide), G_y]
  · rfl
  · decide
theorem Wend_v6 (c : Dev nD) : Wend m c (Proc.devRef .tc main_v6) = shapeCast S2x128x3072 (xcOut m c) shapeCasts_S256x3072_S2x128x3072 := by
  simp only [Wend, hostOps1, List.flatten_cons, List.flatten_nil, List.append_nil, StableHlo.after_cons, StableHlo.after_nil]
  rw [StableHlo.reshape_result, StableHlo.reshape_result_ne _ _ _ _ _ (by decide), Wx_R m c main_v4_1 (by decide), G_xc]
  · rfl
  · decide
theorem Wend_v4_2 (c : Dev nD) : Wend m c (Proc.devRef .tc main_v4_2) = xsOut m c := by
  rw [Wend_keep m c main_v4_2 (by decide) (by decide), Wx_R m c main_v4_2 (by decide), G_xs]
theorem Wend_arg (c : Dev nD) (b : Ref sig .tc) (h5 : b ≠ main_v5) (h6 : b ≠ main_v6) (hb : b ∉ Rset) : Wend m c (Proc.devRef .tc b) = V m c b :=
  (Wend_keep m c b h5 h6).trans (Wx_not m c b hb)

set_option backward.isDefEq.respectTransparency.types false in
/-- Every final state: each buffer outside the region at `Wend`, every semaphore counter at zero. -/
theorem run_all : θ_run defs (onTc (τ := τ) (main (F := F))) (s₀ m ρ)
    (fun r => (∀ c : Dev nD, ∀ b ∈ Pipeline.restRefs sig cfg0.spec, r.2.mem ((c : Thread nD τ).loc b) = Wend m c (Proc.devRef .tc b)) ∧ r.2.sem = fun _ => 0) :=
  Pipeline.θ_run_frame_dmaR_aroundV cfgs (dats m) 0 launch0 osem defs₀ 𝒱₀ ownSemFacts Hset Rset (by decide) (by decide) m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (G := Gout m) (hmain := hmainU m)
    (hA := fun _ w => w.elim0) (hin := fun c => Entails.of_eq rfl) (hout := fun c => Entails.of_eq rfl)
    (Q' := _) (hQ' := fun r h => ⟨fun c b hb => (h.1 c).2 b hb, h.2⟩)

/-- The three results and the six arguments at every final state. -/
theorem run_main : θ_run defs (onTc (τ := τ) (main (F := F))) ⟨m, fun _ => 0, ρ⟩
    (fun r => (∀ c : Dev nD, r.2.mem ((c : Thread nD τ).loc main_v5) = shapeCast S2x128x14336 (yOut m c) shapeCasts_S256x14336_S2x128x14336
        ∧ r.2.mem ((c : Thread nD τ).loc main_v6) = shapeCast S2x128x3072 (xcOut m c) shapeCasts_S256x3072_S2x128x3072
        ∧ r.2.mem ((c : Thread nD τ).loc main_v4_2) = xsOut m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0) :=
  (θ_run defs _ _).mono (fun r h => ⟨fun c =>
    ⟨(h.1 c main_v5 (Pipeline.mem_restRefs_of main_v5 (by decide) (by decide))).trans (Wend_v5 m c),
     (h.1 c main_v6 (Pipeline.mem_restRefs_of main_v6 (by decide) (by decide))).trans (Wend_v6 m c),
     (h.1 c main_v4_2 (Pipeline.mem_restRefs_of main_v4_2 (by decide) (by decide))).trans (Wend_v4_2 m c),
     ((h.1 c main_arg0 (Pipeline.mem_restRefs_of main_arg0 (by decide) (by decide))).trans (Wend_arg m c main_arg0 (by decide) (by decide) (by decide))).trans (V_main_arg0 m c),
     ((h.1 c main_arg1 (Pipeline.mem_restRefs_of main_arg1 (by decide) (by decide))).trans (Wend_arg m c main_arg1 (by decide) (by decide) (by decide))).trans (V_main_arg1 m c),
     ((h.1 c main_arg2 (Pipeline.mem_restRefs_of main_arg2 (by decide) (by decide))).trans (Wend_arg m c main_arg2 (by decide) (by decide) (by decide))).trans (V_main_arg2 m c),
     ((h.1 c main_arg3 (Pipeline.mem_restRefs_of main_arg3 (by decide) (by decide))).trans (Wend_arg m c main_arg3 (by decide) (by decide) (by decide))).trans (V_main_arg3 m c),
     ((h.1 c main_arg4 (Pipeline.mem_restRefs_of main_arg4 (by decide) (by decide))).trans (Wend_arg m c main_arg4 (by decide) (by decide) (by decide))).trans (V_main_arg4 m c),
     ((h.1 c main_arg5 (Pipeline.mem_restRefs_of main_arg5 (by decide) (by decide))).trans (Wend_arg m c main_arg5 (by decide) (by decide) (by decide))).trans (V_main_arg5 m c)⟩, h.2⟩) (run_all m ρ)

/-- The program runs, its arguments end as launched and every semaphore counter is zero again. -/
theorem frame_run : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0) :=
  (θ_run defs _ _).mono (fun r h => ⟨fun c => (h.1 c).2.2.2, h.2⟩) (run_main m ρ)

end

end Cert.Proof.Ideal

end
-- ==== Proof.Printed.Names.lean ====
/-
  Names for what the kernel slices: the twenty slots of the weight ring and their semaphores, the twenty-eight weight
  tiles, the three slots of the output ring and their semaphores, the twenty-eight output tiles. Each is a function of a
  plain number (reduced modulo the number of slots or tiles), and the printed slices are shown to be these.
-/
module

public import proofs.«01_k».proof.Proof.Ideal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.FrameSuffixV
public import Idealize.ShloMosaic.Lib.Ring
public import Idealize.ShloMosaic.Lib.Ring.Trips
public import Idealize.ShloMosaic.Lib.Affine
public import Idealize.ShloMosaic.Lib.Tactic

@[expose] public section

set_option maxRecDepth 16384

noncomputable section

namespace Cert.Proof.Printed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters the kernel's own transfers ride on. -/
abbrev UU (nD : Nat) (τ : Topo) : Type := UR sig nD τ × Counters
abbrev 𝒱₀ : Variants := Variants.none

/-! ## The memrefs the kernel is called on -/

abbrev wM : Memref sig .tc .hbm S14336x3072 .fp8e4m3 := Memref.whole main_arg1
abbrev yM : Memref sig .tc .hbm S256x14336 .bf16 := Memref.whole main_v4_0
abbrev ringM : Memref sig .tc .vmem S20x512x3072 .fp8e4m3 := Memref.whole cc0_scratch2
abbrev yrM : Memref sig .tc .vmem S3x256x512 .bf16 := Memref.whole cc0_scratch15

/-! ## Offsets -/

abbrev wTileOff (p : ℕ) : Fin 2 → Nat := ![512 * (p % 28), 0]
theorem wTileOff_inb (p : ℕ) : ∀ a, wTileOff p a + S512x3072.size a ≤ S14336x3072.size a := by
  have := Nat.mod_lt p (show 0 < 28 by decide); intro a; fin_cases a
  · show 512 * (p % 28) + 512 ≤ 14336; omega
  · show 0 + 3072 ≤ 3072; omega
abbrev wSlotOff (p : ℕ) : Fin 3 → Nat := ![p % 20, 0, 0]
theorem wSlotOff_inb (p : ℕ) : ∀ a, wSlotOff p a + S1x512x3072.size a ≤ S20x512x3072.size a := by
  have := Nat.mod_lt p (show 0 < 20 by decide); intro a; fin_cases a
  · show p % 20 + 1 ≤ 20; omega
  · show 0 + 512 ≤ 512; omega
  · show 0 + 3072 ≤ 3072; omega
abbrev wSemOff (p : ℕ) : Fin 1 → Nat := ![p % 20]
theorem wSemOff_inb (p : ℕ) : ∀ a, wSemOff p a + S1.size a ≤ S20.size a := by
  have := Nat.mod_lt p (show 0 < 20 by decide); intro a; fin_cases a; show p % 20 + 1 ≤ 20; omega
abbrev yTileOff (p : ℕ) : Fin 2 → Nat := ![0, 512 * (p % 28)]
theorem yTileOff_inb (p : ℕ) : ∀ a, yTileOff p a + S256x512.size a ≤ S256x14336.size a := by
  have := Nat.mod_lt p (show 0 < 28 by decide); intro a; fin_cases a
  · show 0 + 256 ≤ 256; omega
  · show 512 * (p % 28) + 512 ≤ 14336; omega
abbrev ySlotOff (p : ℕ) : Fin 3 → Nat := ![p % 3, 0, 0]
theorem ySlotOff_inb (p : ℕ) : ∀ a, ySlotOff p a + S1x256x512.size a ≤ S3x256x512.size a := by
  have := Nat.mod_lt p (show 0 < 3 by decide); intro a; fin_cases a
  · show p % 3 + 1 ≤ 3; omega
  · show 0 + 256 ≤ 256; omega
  · show 0 + 512 ≤ 512; omega
abbrev ySemOff (p : ℕ) : Fin 1 → Nat := ![p % 3]
theorem ySemOff_inb (p : ℕ) : ∀ a, ySemOff p a + S1.size a ≤ S3.size a := by
  have := Nat.mod_lt p (show 0 < 3 by decide); intro a; fin_cases a; show p % 3 + 1 ≤ 3; omega
abbrev uRowOff (p : ℕ) : Fin 3 → Nat := ![p % 28, 0, 0]
theorem uRowOff_inb (p : ℕ) : ∀ a, uRowOff p a + S1x256x512.size a ≤ S28x256x512.size a := by
  have := Nat.mod_lt p (show 0 < 28 by decide); intro a; fin_cases a
  · show p % 28 + 1 ≤ 28; omega
  · show 0 + 256 ≤ 256; omega
  · show 0 + 512 ≤ 512; omega
abbrev wsColOff (p : ℕ) : Fin 2 → Nat := ![0, 512 * (p % 28)]
theorem wsColOff_inb (p : ℕ) : ∀ a, wsColOff p a + S1x512.size a ≤ S1x14336.size a := by
  have := Nat.mod_lt p (show 0 < 28 by decide); intro a; fin_cases a
  · show 0 + 1 ≤ 1; omega
  · show 512 * (p % 28) + 512 ≤ 14336; omega

/-! ## Slots, tiles, semaphores -/

/-- Rows `512 p … 512 p + 511` of the weight. -/
def wTile (p : ℕ) : Memref sig .tc .hbm S512x3072 .fp8e4m3 :=
  wM.slice (Rect.unit (s := S14336x3072) (wTileOff p) S512x3072.size (wTileOff_inb p)) (fun _ => rfl)
/-- Slot `p % 20` of the weight ring. -/
def wSlot (p : ℕ) : Memref sig .tc .vmem S512x3072 .fp8e4m3 :=
  (ringM.slice (Rect.unit (s := S20x512x3072) (wSlotOff p) S1x512x3072.size (wSlotOff_inb p)) (fun _ => rfl)).squeeze S512x3072 squeezes_S1x512x3072_S512x3072
/-- Its semaphore. -/
def wSem (p : ℕ) : DmaSems sig S_ := (cc0_scratch18.slice (Rect.unit (s := S20) (wSemOff p) S1.size (wSemOff_inb p))).squeeze S_ squeezes_S1_S_
/-- Columns `512 p … 512 p + 511` of the output. -/
def yTile (p : ℕ) : Memref sig .tc .hbm S256x512 .bf16 :=
  yM.slice (Rect.unit (s := S256x14336) (yTileOff p) S256x512.size (yTileOff_inb p)) (fun _ => rfl)
/-- Slot `p % 3` of the output ring. -/
def ySlot (p : ℕ) : Memref sig .tc .vmem S256x512 .bf16 :=
  (yrM.slice (Rect.unit (s := S3x256x512) (ySlotOff p) S1x256x512.size (ySlotOff_inb p)) (fun _ => rfl)).squeeze S256x512 squeezes_S1x256x512_S256x512
/-- Its semaphore. -/
def ySem (p : ℕ) : DmaSems sig S_ := (cc0_scratch19.slice (Rect.unit (s := S3) (ySemOff p) S1.size (ySemOff_inb p))).squeeze S_ squeezes_S1_S_

theorem sSemOff_inb (s : Fin 4) : ∀ a, (![s.val] : Fin 1 → Nat) a + S1.size a ≤ S4.size a := by
  have := s.isLt; intro a; fin_cases a; show s.val + 1 ≤ 4; omega
/-- The semaphore of small input `s`. -/
def sSem (s : Fin 4) : DmaSems sig S_ := (cc0_scratch17.slice (Rect.unit (s := S4) ![s.val] S1.size (sSemOff_inb s))).squeeze S_ squeezes_S1_S_
theorem oSemOff_inb (s : Fin 2) : ∀ a, (![s.val] : Fin 1 → Nat) a + S1.size a ≤ S2.size a := by
  have := s.isLt; intro a; fin_cases a; show s.val + 1 ≤ 2; omega
/-- The semaphore of small output `s` (the codes, the scales). -/
def oSem (s : Fin 2) : DmaSems sig S_ := (cc0_scratch20.slice (Rect.unit (s := S2) ![s.val] S1.size (oSemOff_inb s))).squeeze S_ squeezes_S1_S_

instance (p : ℕ) : ClosedOff (wTileOff p) := ⟨wTileOff p, rfl⟩
instance (p : ℕ) : ClosedOff (wSlotOff p) := ⟨wSlotOff p, rfl⟩
instance (p : ℕ) : ClosedOff (yTileOff p) := ⟨yTileOff p, rfl⟩
instance (p : ℕ) : ClosedOff (ySlotOff p) := ⟨ySlotOff p, rfl⟩

/-! ## The printed offsets in closed form -/

theorem off1_eq : ∀ k : Fin k0_t1_loop.trips, k0_off1 k = wSemOff k.val := by decide +kernel
theorem off2_eq : ∀ k : Fin k0_t1_loop.trips, k0_off2 k = wSlotOff k.val := by decide +kernel
theorem off3_eq : ∀ k : Fin k0_t1_loop.trips, k0_off3 k = wTileOff k.val := by decide +kernel
theorem off6_eq : ∀ k : Fin k0_t3_loop.trips, k0_off6 k = wSemOff k.val := by decide +kernel
theorem off7_eq : ∀ k : Fin k0_t3_loop.trips, k0_off7 k = wSlotOff k.val := by decide +kernel
theorem off8_eq : ∀ k : Fin k0_t3_loop.trips, k0_off8 k = wTileOff k.val := by decide +kernel
theorem off9_eq : ∀ k : Fin k0_t3_loop.trips, k0_off9 k = wSlotOff k.val := by decide +kernel
theorem cond1_iff : ∀ k : Fin k0_t3_loop.trips, k0_cond1 k = 1#1 ↔ 3 ≤ k.val := by decide +kernel
theorem cond2_iff : ∀ k : Fin k0_t3_loop.trips, k0_cond2 k = 1#1 ↔ k.val + 20 < 28 := by decide +kernel
theorem off10_eq : ∀ k : Fin k0_t3_loop.trips, 3 ≤ k.val → k0_off10 k = ySemOff k.val := by decide +kernel
theorem off11_eq : ∀ k : Fin k0_t3_loop.trips, 3 ≤ k.val → k0_off11 k = yTileOff (k.val - 3) := by decide +kernel
theorem off12_eq : ∀ k : Fin k0_t3_loop.trips, 3 ≤ k.val → k0_off12 k = ySlotOff k.val := by decide +kernel
theorem off13_eq : ∀ k : Fin k0_t3_loop.trips, k0_off13 k = wsColOff k.val := by decide +kernel
theorem off14_eq : ∀ k : Fin k0_t3_loop.trips, k0_off14 k = uRowOff k.val := by decide +kernel
theorem off15_eq : ∀ k : Fin k0_t3_loop.trips, k0_off15 k = ySlotOff k.val := by decide +kernel
theorem off16_eq : ∀ k : Fin k0_t3_loop.trips, k0_off16 k = ySemOff k.val := by decide +kernel
theorem off17_eq : ∀ k : Fin k0_t3_loop.trips, k0_off17 k = yTileOff k.val := by decide +kernel
theorem off18_eq : ∀ k : Fin k0_t3_loop.trips, k0_off18 k = ySlotOff k.val := by decide +kernel
theorem off19_eq : ∀ k : Fin k0_t3_loop.trips, k.val + 20 < 28 → k0_off19 k = wSemOff k.val := by decide +kernel
theorem off20_eq : ∀ k : Fin k0_t3_loop.trips, k.val + 20 < 28 → k0_off20 k = wSlotOff k.val := by decide +kernel
theorem off21_eq : ∀ k : Fin k0_t3_loop.trips, k.val + 20 < 28 → k0_off21 k = wTileOff (k.val + 20) := by decide +kernel

instance (k : Fin k0_t3_loop.trips) : ClosedOff (k0_off7 k) := ⟨wSlotOff k.val, off7_eq k⟩
instance (k : Fin k0_t3_loop.trips) : ClosedOff (k0_off9 k) := ⟨wSlotOff k.val, off9_eq k⟩
instance (k : Fin k0_t3_loop.trips) : ClosedOff (k0_off15 k) := ⟨ySlotOff k.val, off15_eq k⟩
instance (k : Fin k0_t3_loop.trips) : ClosedOff (k0_off18 k) := ⟨ySlotOff k.val, off18_eq k⟩

/-! ## The printed slices are the named ones -/

theorem wSem_congr {off : Fin 1 → Nat} {p : ℕ} (e : off = wSemOff p) (hh) :
    (cc0_scratch18.slice (Rect.unit (s := S20) off S1.size hh)).squeeze S_ squeezes_S1_S_ = wSem p :=
  congrArg (fun A : DmaSems sig S1 => A.squeeze S_ squeezes_S1_S_) (SemArray.slice_unit_congr _ e _ _)
theorem ySem_congr {off : Fin 1 → Nat} {p : ℕ} (e : off = ySemOff p) (hh) :
    (cc0_scratch19.slice (Rect.unit (s := S3) off S1.size hh)).squeeze S_ squeezes_S1_S_ = ySem p :=
  congrArg (fun A : DmaSems sig S1 => A.squeeze S_ squeezes_S1_S_) (SemArray.slice_unit_congr _ e _ _)
theorem wSlot_congr {off : Fin 3 → Nat} {p : ℕ} (e : off = wSlotOff p) (hh hs) :
    (ringM.slice (Rect.unit (s := S20x512x3072) off S1x512x3072.size hh) hs).squeeze S512x3072 squeezes_S1x512x3072_S512x3072 = wSlot p :=
  congrArg (fun M : Memref sig .tc .vmem S1x512x3072 .fp8e4m3 => M.squeeze S512x3072 squeezes_S1x512x3072_S512x3072) (Memref.slice_unit_congr _ e _ _ _ _)
theorem ySlot_congr {off : Fin 3 → Nat} {p : ℕ} (e : off = ySlotOff p) (hh hs) :
    (yrM.slice (Rect.unit (s := S3x256x512) off S1x256x512.size hh) hs).squeeze S256x512 squeezes_S1x256x512_S256x512 = ySlot p :=
  congrArg (fun M : Memref sig .tc .vmem S1x256x512 .bf16 => M.squeeze S256x512 squeezes_S1x256x512_S256x512) (Memref.slice_unit_congr _ e _ _ _ _)
theorem wTile_congr {off : Fin 2 → Nat} {p : ℕ} (e : off = wTileOff p) (hh hs) :
    wM.slice (Rect.unit (s := S14336x3072) off S512x3072.size hh) hs = wTile p := Memref.slice_unit_congr _ e _ _ _ (fun _ => rfl)
theorem yTile_congr {off : Fin 2 → Nat} {p : ℕ} (e : off = yTileOff p) (hh hs) :
    yM.slice (Rect.unit (s := S256x14336) off S256x512.size hh) hs = yTile p := Memref.slice_unit_congr _ e _ _ _ (fun _ => rfl)

@[sl_canon] theorem sSem0 (hh) : (cc0_scratch17.slice (Rect.unit (s := S4) ![0] S1.size hh)).squeeze S_ squeezes_S1_S_ = sSem 0 := rfl
@[sl_canon] theorem sSem1 (hh) : (cc0_scratch17.slice (Rect.unit (s := S4) ![1] S1.size hh)).squeeze S_ squeezes_S1_S_ = sSem 1 := rfl
@[sl_canon] theorem sSem2 (hh) : (cc0_scratch17.slice (Rect.unit (s := S4) ![2] S1.size hh)).squeeze S_ squeezes_S1_S_ = sSem 2 := rfl
@[sl_canon] theorem sSem3 (hh) : (cc0_scratch17.slice (Rect.unit (s := S4) ![3] S1.size hh)).squeeze S_ squeezes_S1_S_ = sSem 3 := rfl
@[sl_canon] theorem oSem0 (hh) : (cc0_scratch20.slice (Rect.unit (s := S2) ![0] S1.size hh)).squeeze S_ squeezes_S1_S_ = oSem 0 := rfl
@[sl_canon] theorem oSem1 (hh) : (cc0_scratch20.slice (Rect.unit (s := S2) ![1] S1.size hh)).squeeze S_ squeezes_S1_S_ = oSem 1 := rfl

/-- The filling loop's trip `k`. -/
@[sl_canon] theorem wSemA (k : Fin k0_t1_loop.trips) (hh) :
    (cc0_scratch18.slice (Rect.unit (s := S20) (k0_off1 k) S1.size hh)).squeeze S_ squeezes_S1_S_ = wSem k.val := wSem_congr (off1_eq k) _
@[sl_canon] theorem wSlotA (k : Fin k0_t1_loop.trips) (hh hs) :
    (ringM.slice (Rect.unit (s := S20x512x3072) (k0_off2 k) S1x512x3072.size hh) hs).squeeze S512x3072 squeezes_S1x512x3072_S512x3072 = wSlot k.val := wSlot_congr (off2_eq k) _ _
@[sl_canon] theorem wTileA (k : Fin k0_t1_loop.trips) (hh hs) :
    wM.slice (Rect.unit (s := S14336x3072) (k0_off3 k) S512x3072.size hh) hs = wTile k.val := wTile_congr (off3_eq k) _ _

/-- The main loop's trip `k`: the tile waited for, … -/
@[sl_canon] theorem wSemB (k : Fin k0_t3_loop.trips) (hh) :
    (cc0_scratch18.slice (Rect.unit (s := S20) (k0_off6 k) S1.size hh)).squeeze S_ squeezes_S1_S_ = wSem k.val := wSem_congr (off6_eq k) _
@[sl_canon] theorem wSlotB (k : Fin k0_t3_loop.trips) (hh hs) :
    (ringM.slice (Rect.unit (s := S20x512x3072) (k0_off7 k) S1x512x3072.size hh) hs).squeeze S512x3072 squeezes_S1x512x3072_S512x3072 = wSlot k.val := wSlot_congr (off7_eq k) _ _
@[sl_canon] theorem wTileB (k : Fin k0_t3_loop.trips) (hh hs) :
    wM.slice (Rect.unit (s := S14336x3072) (k0_off8 k) S512x3072.size hh) hs = wTile k.val := wTile_congr (off8_eq k) _ _
/-- … the output tile of three trips earlier, … -/
@[sl_canon] theorem ySemB (k : Fin k0_t3_loop.trips) (h3 : 3 ≤ k.val) (hh) :
    (cc0_scratch19.slice (Rect.unit (s := S3) (k0_off10 k) S1.size hh)).squeeze S_ squeezes_S1_S_ = ySem k.val := ySem_congr (off10_eq k h3) _
@[sl_canon] theorem yTileB (k : Fin k0_t3_loop.trips) (h3 : 3 ≤ k.val) (hh hs) :
    yM.slice (Rect.unit (s := S256x14336) (k0_off11 k) S256x512.size hh) hs = yTile (k.val - 3) := yTile_congr (off11_eq k h3) _ _
@[sl_canon] theorem ySlotB (k : Fin k0_t3_loop.trips) (h3 : 3 ≤ k.val) (hh hs) :
    (yrM.slice (Rect.unit (s := S3x256x512) (k0_off12 k) S1x256x512.size hh) hs).squeeze S256x512 squeezes_S1x256x512_S256x512 = ySlot k.val := ySlot_congr (off12_eq k h3) _ _
/-- … the output tile issued, … -/
@[sl_canon] theorem ySemC (k : Fin k0_t3_loop.trips) (hh) :
    (cc0_scratch19.slice (Rect.unit (s := S3) (k0_off16 k) S1.size hh)).squeeze S_ squeezes_S1_S_ = ySem k.val := ySem_congr (off16_eq k) _
@[sl_canon] theorem yTileC (k : Fin k0_t3_loop.trips) (hh hs) :
    yM.slice (Rect.unit (s := S256x14336) (k0_off17 k) S256x512.size hh) hs = yTile k.val := yTile_congr (off17_eq k) _ _
@[sl_canon] theorem ySlotC (k : Fin k0_t3_loop.trips) (hh hs) :
    (yrM.slice (Rect.unit (s := S3x256x512) (k0_off18 k) S1x256x512.size hh) hs).squeeze S256x512 squeezes_S1x256x512_S256x512 = ySlot k.val := ySlot_congr (off18_eq k) _ _
/-- … and the weight tile issued twenty trips ahead. -/
@[sl_canon] theorem wSemD (k : Fin k0_t3_loop.trips) (h2 : k.val + 20 < 28) (hh) :
    (cc0_scratch18.slice (Rect.unit (s := S20) (k0_off19 k) S1.size hh)).squeeze S_ squeezes_S1_S_ = wSem k.val := wSem_congr (off19_eq k h2) _
@[sl_canon] theorem wSlotD (k : Fin k0_t3_loop.trips) (h2 : k.val + 20 < 28) (hh hs) :
    (ringM.slice (Rect.unit (s := S20x512x3072) (k0_off20 k) S1x512x3072.size hh) hs).squeeze S512x3072 squeezes_S1x512x3072_S512x3072 = wSlot k.val := wSlot_congr (off20_eq k h2) _ _
@[sl_canon] theorem wTileD (k : Fin k0_t3_loop.trips) (h2 : k.val + 20 < 28) (hh hs) :
    wM.slice (Rect.unit (s := S14336x3072) (k0_off21 k) S512x3072.size hh) hs = wTile (k.val + 20) := wTile_congr (off21_eq k h2) _ _

/-- The last three waits. -/
@[sl_canon] theorem ySem25 (hh) : (cc0_scratch19.slice (Rect.unit (s := S3) (k0_off22 25#32) S1.size hh)).squeeze S_ squeezes_S1_S_ = ySem 25 := ySem_congr (by decide +kernel) _
@[sl_canon] theorem ySem26 (hh) : (cc0_scratch19.slice (Rect.unit (s := S3) (k0_off22 26#32) S1.size hh)).squeeze S_ squeezes_S1_S_ = ySem 26 := ySem_congr (by decide +kernel) _
@[sl_canon] theorem ySem27 (hh) : (cc0_scratch19.slice (Rect.unit (s := S3) (k0_off22 27#32) S1.size hh)).squeeze S_ squeezes_S1_S_ = ySem 27 := ySem_congr (by decide +kernel) _
@[sl_canon] theorem ySlot25 (hh hs) : (yrM.slice (Rect.unit (s := S3x256x512) (k0_off23 25#32) S1x256x512.size hh) hs).squeeze S256x512 squeezes_S1x256x512_S256x512 = ySlot 25 := ySlot_congr (by decide +kernel) _ _
@[sl_canon] theorem ySlot26 (hh hs) : (yrM.slice (Rect.unit (s := S3x256x512) (k0_off23 26#32) S1x256x512.size hh) hs).squeeze S256x512 squeezes_S1x256x512_S256x512 = ySlot 26 := ySlot_congr (by decide +kernel) _ _
@[sl_canon] theorem ySlot27 (hh hs) : (yrM.slice (Rect.unit (s := S3x256x512) (k0_off23 27#32) S1x256x512.size hh) hs).squeeze S256x512 squeezes_S1x256x512_S256x512 = ySlot 27 := ySlot_congr (by decide +kernel) _ _
@[sl_canon] theorem yTile25 (hh hs) : yM.slice (Rect.unit (s := S256x14336) ![0, 12800] S256x512.size hh) hs = yTile 25 := yTile_congr (by decide +kernel) _ _
@[sl_canon] theorem yTile26 (hh hs) : yM.slice (Rect.unit (s := S256x14336) ![0, 13312] S256x512.size hh) hs = yTile 26 := yTile_congr (by decide +kernel) _ _
@[sl_canon] theorem yTile27 (hh hs) : yM.slice (Rect.unit (s := S256x14336) ![0, 13824] S256x512.size hh) hs = yTile 27 := yTile_congr (by decide +kernel) _ _

/-! ## One turn of a ring comes back to the same slot -/

theorem wSlot_turn (p : ℕ) : wSlot (p + 20) = wSlot p := (wSlot_congr (by simp [wSlotOff]) (wSlotOff_inb (p + 20)) (fun _ => rfl))
theorem wSem_turn (p : ℕ) : wSem (p + 20) = wSem p := (wSem_congr (by simp [wSemOff]) (wSemOff_inb (p + 20)))
theorem ySlot_turn (p : ℕ) : ySlot (p + 3) = ySlot p := (ySlot_congr (by simp [ySlotOff]) (ySlotOff_inb (p + 3)) (fun _ => rfl))
theorem ySem_turn (p : ℕ) : ySem (p + 3) = ySem p := (ySem_congr (by simp [ySemOff]) (ySemOff_inb (p + 3)))

end Cert.Proof.Printed

end
-- ==== Proof.Printed.Pieces.lean ====
/-
  What the kernel holds at any time, piece by piece: a weight tile at home or in flight into its slot, an output slot free
  or in flight to its tile, a semaphore at zero. Then two rules that move one member in or out of a family over an
  interval of numbers.
-/
module

public import proofs.«01_k».proof.Proof.Printed.Names

@[expose] public section

set_option maxRecDepth 16384

noncomputable section

namespace Cert.Proof.Printed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Families over an interval -/

theorem bigSep_Ico_take (a b : ℕ) (h : a < b) (Φ : ℕ → sProp 𝕄) :
    bigSep (Finset.Ico a b) Φ = iprop(Φ a ∗ bigSep (Finset.Ico (a + 1) b) Φ) := by
  have e : Finset.Ico a b = insert a (Finset.Ico (a + 1) b) := by
    ext x; simp only [Finset.mem_insert, Finset.mem_Ico]; omega
  rw [e, bigSep_insert (by simp)]; rfl
theorem bigSep_Ico_put (a b : ℕ) (h : a ≤ b) (Φ : ℕ → sProp 𝕄) :
    bigSep (Finset.Ico a (b + 1)) Φ = iprop(Φ b ∗ bigSep (Finset.Ico a b) Φ) := by
  have e : Finset.Ico a (b + 1) = insert b (Finset.Ico a b) := by
    ext x; simp only [Finset.mem_insert, Finset.mem_Ico]; omega
  rw [e, bigSep_insert (by simp)]; rfl
theorem bigSep_Ico_empty (a b : ℕ) (h : b ≤ a) (Φ : ℕ → sProp 𝕄) : bigSep (Finset.Ico a b) Φ = (BI.emp : sProp 𝕄) := by
  rw [Finset.Ico_eq_empty (by omega)]; rfl

/-! ## The pieces -/

section
variable (c : Dev nD) (XW : Buf (Elt F) ((c : Thread nD τ).loc main_arg1)) (Y0 : Buf (Elt F) ((c : Thread nD τ).loc main_v4_0))

abbrev wCellP (p : ℕ) : sProp 𝕄 := semVal ((c : Thread nD τ), SemLoc.dma (wSem p).sem) 0
abbrev wSlotP (p : ℕ) (f : Buf (Elt F) ((wSlot p).view.loc (c : Thread nD τ))) : sProp 𝕄 :=
  (wSlot p).view.loc (c : Thread nD τ) ↦[(wSlot p).view.set]{fullShare} f
/-- Weight tile `p` at home. -/
abbrev wHomeP (p : ℕ) : sProp 𝕄 := (wTile p).view.loc (c : Thread nD τ) ↦[(wTile p).view.set]{fullShare} XW
/-- What tile `p`'s transfer leaves in its slot over prior contents `f`. -/
abbrev wLanded (p : ℕ) (f : Buf (Elt F) ((wSlot p).view.loc (c : Thread nD τ))) : Buf (Elt F) ((wSlot p).view.loc (c : Thread nD τ)) :=
  (wSlot p).view.writes (Elt F) f [⟨Rect.whole S512x3072, ReadAs.same.apply ((wTile p).view.read (Elt F) XW)⟩]
/-- Tile `p` in flight into its slot, issued over `f`. -/
abbrev wFlightP (p : ℕ) (f : Buf (Elt F) ((wSlot p).view.loc (c : Thread nD τ))) : sProp 𝕄 :=
  Transfers.Flight countersEmb (c : Thread nD τ) (SemLoc.dma (wSem p).sem) () 49152 iprop(wSlotP c p (wLanded c XW p f) ∗ wHomeP c XW p)
/-- Slot `p` free: held at some contents, its semaphore at zero. -/
abbrev wFreeP (p : ℕ) : sProp 𝕄 := iprop((∃ f, wSlotP c p f) ∗ wCellP c p)

/-- What slot `p % 20` does before main trip `p` or later: tile `p` in flight if there is a tile `p`, else free. -/
def wRole (p : ℕ) : sProp 𝕄 := if p < 28 then iprop(∃ f, wFlightP c XW p f) else wFreeP c p
theorem wRole_lt (p : ℕ) (h : p < 28) : wRole c XW p = iprop(∃ f, wFlightP c XW p f) := if_pos h
theorem wRole_ge (p : ℕ) (h : 28 ≤ p) : wRole c XW p = wFreeP c p := if_neg (by omega)

abbrev yCellP (p : ℕ) : sProp 𝕄 := semVal ((c : Thread nD τ), SemLoc.dma (ySem p).sem) 0
abbrev ySlotP (p : ℕ) (f : Buf (Elt F) ((ySlot p).view.loc (c : Thread nD τ))) : sProp 𝕄 :=
  (ySlot p).view.loc (c : Thread nD τ) ↦[(ySlot p).view.set]{fullShare} f
abbrev yTileP (p : ℕ) (f : Buf (Elt F) ((yTile p).view.loc (c : Thread nD τ))) : sProp 𝕄 :=
  (yTile p).view.loc (c : Thread nD τ) ↦[(yTile p).view.set]{fullShare} f
abbrev yLanded (s p : ℕ) (f : Buf (Elt F) ((ySlot s).view.loc (c : Thread nD τ))) : Buf (Elt F) ((yTile p).view.loc (c : Thread nD τ)) :=
  (yTile p).view.writes (Elt F) Y0 [⟨Rect.whole S256x512, ReadAs.same.apply ((ySlot s).view.read (Elt F) f)⟩]
/-- Output slot `s` in flight to tile `p`, the slot at contents `f`. -/
abbrev yFlightP (s p : ℕ) (f : Buf (Elt F) ((ySlot s).view.loc (c : Thread nD τ))) : sProp 𝕄 :=
  Transfers.Flight countersEmb (c : Thread nD τ) (SemLoc.dma (ySem s).sem) () 8192 iprop(yTileP c p (yLanded c Y0 s p f) ∗ ySlotP c s f)
abbrev yFreeP (p : ℕ) : sProp 𝕄 := iprop((∃ f, ySlotP c p f) ∗ yCellP c p)

/-- The pure value an output tile is to hold: a function of the tile's number. -/
abbrev TileVal (F : FTy → Type) [FloatOps F] : Type := ℕ → S256x512.Idx → Elt F .bf16

variable (T : TileVal F)

/-- What output slot `p % 3` does before main trip `p`: free at the first three trips, then tile `p - 3` in flight from it. -/
def yRole (p : ℕ) : sProp 𝕄 :=
  if p < 3 then yFreeP c p else iprop(∃ f, ⌜(ySlot p).view.read (Elt F) f = T (p - 3)⌝ ∗ yFlightP c Y0 p (p - 3) f)
theorem yRole_lt (p : ℕ) (h : p < 3) : yRole c Y0 T p = yFreeP c p := if_pos h
theorem yRole_ge (p : ℕ) (h : 3 ≤ p) : yRole c Y0 T p = iprop(∃ f, ⌜(ySlot p).view.read (Elt F) f = T (p - 3)⌝ ∗ yFlightP c Y0 p (p - 3) f) := if_neg (by omega)

/-- Output tile `p` written. -/
def yDoneP (p : ℕ) : sProp 𝕄 := iprop(∃ g, ⌜(yTile p).view.read (Elt F) g = T p⌝ ∗ yTileP c p g)

end

end Cert.Proof.Printed

end
-- ==== Proof.Printed.Loop2.lean ====
/-
  The low-rank correction, sixteen tokens a trip: trip `k` reads the sixteen rows of each of the sixteen middle blocks,
  multiplies them by the spread-out mixing matrix and stores the twenty-eight blocks of those rows.
-/
module

public import proofs.«01_k».proof.Proof.Printed.Pieces
public import Idealize.ShloMosaic.Lib.WritesUnit
public import Idealize.ShloMosaic.Lib.ValueIdx

@[expose] public section

set_option maxRecDepth 16384

noncomputable section

namespace Cert.Proof.Printed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

open Idealize.ShloMosaic.ValueIdx

abbrev tM : Memref sig .tc .vmem S16x256x512 .bf16 := Memref.whole cc0_scratch11
abbrev kcM : Memref sig .tc .vmem S448x256 .bf16 := Memref.whole cc0_scratch9
abbrev uM : Memref sig .tc .vmem S28x256x512 .f32 := Memref.whole cc0_scratch12

/-- Rows `16 k … 16 k + 15` of every middle block. -/
def tRows (tv : S16x256x512.Idx → Elt F .bf16) (k : ℕ) : S16x16x512.Idx → Elt F .bf16 := fun j =>
  tv (ix3 (n0 := 16) (n1 := 256) (n2 := 512) (j 0) ⟨16 * (k % 16) + (j 1).val, by have h : (j 1).val < 16 := (j 1).isLt; omega⟩ (j 2))

/-- The correction as the loop computes it from the middle blocks `tv` and the mixing matrix `kv`. -/
def uVal (tv : S16x256x512.Idx → Elt F .bf16) (kv : S448x256.Idx → Elt F .bf16) : S28x256x512.Idx → Elt F .f32 := fun i =>
  k0_pay79 (F := F) (tRows tv ((i 1).val / 16)) kv
    (ix3 (n0 := 28) (n1 := 16) (n2 := 512) (i 0) ⟨(i 1).val % 16, Nat.mod_lt _ (by decide)⟩ (i 2))

abbrev rowOff (k : ℕ) : Fin 3 → Nat := ![0, 16 * k, 0]
theorem off4_eq : ∀ k : Fin k0_t2_loop.trips, k0_off4 k = rowOff k.val := by decide +kernel
theorem off5_eq : ∀ k : Fin k0_t2_loop.trips, k0_off5 k = rowOff k.val := by decide +kernel
theorem trips2 : k0_t2_loop.trips = 16 := by decide +kernel
instance (k : Fin k0_t2_loop.trips) : ClosedOff (k0_off4 k) := ⟨rowOff k.val, off4_eq k⟩
instance (k : Fin k0_t2_loop.trips) : ClosedOff (k0_off5 k) := ⟨rowOff k.val, off5_eq k⟩

variable (c : Dev nD)
  (ft : Buf (Elt F) (tM.view.loc (c : Thread nD τ))) (fk : Buf (Elt F) (kcM.view.loc (c : Thread nD τ)))

/-- Before trip `k` the rows below `16 k` are done. -/
def inv2 (k : ℕ) : sProp 𝕄 :=
  iprop(((Memref.whole cc0_scratch11).view.loc (c : Thread nD τ) ↦[(Memref.whole cc0_scratch11).view.set]{fullShare} ft) ∗ ((Memref.whole cc0_scratch9).view.loc (c : Thread nD τ) ↦[(Memref.whole cc0_scratch9).view.set]{fullShare} fk)
    ∗ ∃ fu, ⌜∀ i : S28x256x512.Idx, (i 1).val < 16 * k →
        uM.view.read (Elt F) fu i = uVal (tM.view.read (Elt F) ft) (kcM.view.read (Elt F) fk) i⌝
      ∗ ((Memref.whole cc0_scratch12).view.loc (c : Thread nD τ) ↦[(Memref.whole cc0_scratch12).view.set]{fullShare} fu))

abbrev trip2 (v610 : Vec F S256x128 .bf16) (k : Fin k0_t2_loop.trips) : Prog (TpuEff nD τ sig (Elt F) Λ₀ .tc) Unit :=
  k0_t2_body (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 v610 k ()

/-- Storing trip `k`'s block extends what is done by its sixteen rows. -/
theorem done_step (k : Fin k0_t2_loop.trips) (fu : Buf (Elt F) (uM.view.loc (c : Thread nD τ)))
    (h : ∀ i : S28x256x512.Idx, (i 1).val < 16 * k.val →
        uM.view.read (Elt F) fu i = uVal (tM.view.read (Elt F) ft) (kcM.view.read (Elt F) fk) i) :
    ∀ i : S28x256x512.Idx, (i 1).val < 16 * (k.val + 1) →
      uM.view.read (Elt F) (uM.view.writes (Elt F) fu [⟨Rect.unit (s := S28x256x512) (k0_off5 k) S28x16x512.size (k0_off5_inb k),
        k0_pay79 (F := F)
          (tM.view.readAt (Elt F) (Rect.unit (s := S16x256x512) (k0_off4 k) S16x16x512.size (k0_off4_inb k)).toLoadRect ft)
          (kcM.view.readAt (Elt F) (Rect.unit (s := S448x256) ![0, 0] S448x256.size inb_S448x256_S448x256_0_0).toLoadRect fk)⟩]) i
        = uVal (tM.view.read (Elt F) ft) (kcM.view.read (Elt F) fk) i := by
  intro i hi
  have hk : k.val < 16 := lt_of_lt_of_eq k.isLt trips2
  by_cases hd : (i 1).val < 16 * k.val
  · rw [View.read_writes_cons_unit_of_not_mem (off' := rowOff k.val) _ _ _ _ _ _ (off5_eq k) (1 : Fin 3) (Or.inl hd)]
    exact h i hd
  · have hq : (i 1).val / 16 = k.val := by omega
    rw [View.read_writes_cons_unit_of_mem (off' := rowOff k.val) _ _ _ _ _ _
      (ix3 (n0 := 28) (n1 := 16) (n2 := 512) (i 0) ⟨(i 1).val % 16, Nat.mod_lt _ (by decide)⟩ (i 2)) (off5_eq k)
      (by
        intro a; fin_cases a
        · show (i 0).val = 0 + (i 0).val; omega
        · show (i 1).val = 16 * k.val + (i 1).val % 16; omega
        · show (i 2).val = 0 + (i 2).val; omega)]
    unfold uVal
    congr 1
    · funext j
      rw [View.readAt_apply]
      unfold tRows
      refine congrArg _ (funext fun a => Fin.ext ?_)
      rw [LoadRect.idx_apply]
      fin_cases a
      · show k0_off4 k 0 + 1 * (j 0).val = (j 0).val
        have e : k0_off4 k 0 = 0 := congrFun (off4_eq k) 0
        omega
      · show k0_off4 k 1 + 1 * (j 1).val = 16 * ((i 1).val / 16 % 16) + (j 1).val
        have e : k0_off4 k 1 = 16 * k.val := congrFun (off4_eq k) 1
        omega
      · show k0_off4 k 2 + 1 * (j 2).val = (j 2).val
        have e : k0_off4 k 2 = 0 := congrFun (off4_eq k) 2
        omega
    · funext j
      rw [View.readAt_apply]
      refine congrArg _ (funext fun a => Fin.ext ?_)
      rw [LoadRect.idx_apply]
      fin_cases a
      · show 0 + 1 * (j 0).val = (j 0).val; omega
      · show 0 + 1 * (j 1).val = (j 1).val; omega

theorem trip2_run (v610 : Vec F S256x128 .bf16) (k : Fin k0_t2_loop.trips) :
    inv2 c ft fk k.val ⊢ wp frame (wpE (defs₀ (F := F)) 𝒱₀ (c : Thread nD τ) none) Set.univ (trip2 v610 k) (fun _ => inv2 c ft fk (k.val + 1)) := by
  unfold inv2
  iintro ⟨Ht, Hk, ⟨%fu, %hu, Hu⟩⟩
  delta trip2
  sl_unfold [k0_t2_body]
  sl_exec
  sl_step
  isplitl [Ht]; · iexact Ht
  isplitl [Hk]; · iexact Hk
  iexists _
  isplitr
  · ipureintro; exact done_step c ft fk k fu hu
  iexact Hu

set_option warn.classDefReducibility false in
@[sl_loop] def loopInv2 (v610 : Vec F S256x128 .bf16) :
    LoopInvTy_k0_t2 (F := F) Unit ℕ (UU nD τ) ℕ 𝒱₀ c none Set.univ (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 v610 where
  inv k _ := inv2 c ft fk k
  step k _ := trip2_run c ft fk v610 k

end Cert.Proof.Printed

end
-- ==== Proof.Printed.Loop3.lean ====
/-
  The main loop: trip `k` waits for weight tile `k`, multiplies the codes by it, adds the correction, stores the tile in its
  slot of the output ring and starts the transfer of that slot to output tile `k`; it starts weight tile `k + 20` too.
-/
module

public import proofs.«01_k».proof.Proof.Printed.Loop2

@[expose] public section

set_option maxRecDepth 16384

noncomputable section

namespace Cert.Proof.Printed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

open Idealize.ShloMosaic.ValueIdx

abbrev xqM : Memref sig .tc .vmem S256x3072 .fp8e4m3 := Memref.whole cc0_scratch1
abbrev wsM : Memref sig .tc .vmem S1x14336 .f32 := Memref.whole cc0_scratch3

/-! ## An output tile's value -/

/-- Tile `p` of the weight, as the kernel reads it. -/
def wBlk (w : S14336x3072.Idx → Elt F .fp8e4m3) (p : ℕ) : S1x512x3072.Idx → Elt F .fp8e4m3 := fun i =>
  w (ix2 (n0 := 14336) (n1 := 3072) ⟨512 * (p % 28) + (i 1).val, by have h : (i 1).val < 512 := (i 1).isLt; omega⟩ (i 2))
/-- Its scales. -/
def wsBlk (ws : S1x14336.Idx → Elt F .f32) (p : ℕ) : S1x512.Idx → Elt F .f32 := fun i =>
  ws (ix2 (n0 := 1) (n1 := 14336) (i 0) ⟨512 * (p % 28) + (i 1).val, by have h : (i 1).val < 512 := (i 1).isLt; omega⟩)
/-- Its correction. -/
def uBlk (u : S28x256x512.Idx → Elt F .f32) (p : ℕ) : S1x256x512.Idx → Elt F .f32 := fun i =>
  u (ix3 (n0 := 28) (n1 := 256) (n2 := 512) ⟨p % 28, Nat.mod_lt _ (by decide)⟩ (i 1) (i 2))

/-- Output tile `p` from the codes, the weight, its scales, the correction and the spread-out token scales. -/
def tileVal (xq : S256x3072.Idx → Elt F .fp8e4m3) (w : S14336x3072.Idx → Elt F .fp8e4m3) (ws : S1x14336.Idx → Elt F .f32)
    (u : S28x256x512.Idx → Elt F .f32) (v636 : FVec F S256x512 .f32) : TileVal F := fun p j =>
  k0_pay1 (F := F) v636 xq (wBlk w p) (wsBlk ws p) (uBlk u p) (ix3 (n0 := 1) (n1 := 256) (n2 := 512) 0 (j 0) (j 1))

theorem trips3 : k0_t3_loop.trips = 28 := by decide +kernel
instance (k : Fin k0_t3_loop.trips) : ClosedOff (k0_off13 k) := ⟨wsColOff k.val, off13_eq k⟩
instance (k : Fin k0_t3_loop.trips) : ClosedOff (k0_off14 k) := ⟨uRowOff k.val, off14_eq k⟩

variable (c : Dev nD) (XW : Buf (Elt F) ((c : Thread nD τ).loc main_arg1)) (Y0 : Buf (Elt F) ((c : Thread nD τ).loc main_v4_0))
  (q : PosShare TreeShare) (fq : Buf (Elt F) (xqM.view.loc (c : Thread nD τ))) (fw : Buf (Elt F) (wsM.view.loc (c : Thread nD τ)))
  (fu : Buf (Elt F) (uM.view.loc (c : Thread nD τ))) (v636 : FVec F S256x512 .f32)

/-- The output tiles' values, read off the buffers' contents. -/
abbrev T3 : TileVal F := tileVal (F := F) (xqM.view.read (Elt F) fq) (wM.view.read (Elt F) XW) (wsM.view.read (Elt F) fw) (uM.view.read (Elt F) fu) v636

/-! ## One turn later -/

theorem wRole_turn_lt (n : ℕ) (h : n + 20 < 28) : wRole c XW (n + 20) = iprop(∃ f, Transfers.Flight countersEmb (c : Thread nD τ) (SemLoc.dma (wSem n).sem) () 49152
    iprop(((wSlot n).view.loc (c : Thread nD τ) ↦[(wSlot n).view.set]{fullShare} (wSlot n).view.writes (Elt F) f [⟨Rect.whole S512x3072, ReadAs.same.apply ((wTile (n + 20)).view.read (Elt F) XW)⟩])
      ∗ wHomeP c XW (n + 20))) := by
  rw [wRole_lt c XW _ h]
  simp only [wFlightP, wSlotP, wLanded]
  rw [wSlot_turn, wSem_turn]
theorem wRole_turn_ge (n : ℕ) (h : 28 ≤ n + 20) : wRole c XW (n + 20) = wFreeP c n := by
  rw [wRole_ge c XW _ h]
  simp only [wFreeP, wSlotP, wCellP]
  rw [wSlot_turn, wSem_turn]
theorem yRole_turn (T : TileVal F) (n : ℕ) :
    yRole c Y0 T (n + 3) = iprop(∃ f, ⌜(ySlot n).view.read (Elt F) f = T n⌝ ∗ yFlightP c Y0 n n f) := by
  rw [yRole_ge c Y0 T _ (by omega)]
  simp only [yFlightP, ySlotP, yTileP, yLanded]
  rw [ySlot_turn, ySem_turn, show n + 3 - 3 = n by omega]

/-- Output tile `p` before it is written. -/
abbrev yStartP (p : ℕ) : sProp 𝕄 := yTileP c p Y0

/-- Before trip `n`. -/
def inv3 (n : ℕ) : sProp 𝕄 :=
  iprop(bigSep (Finset.Ico n (n + 20)) (wRole c XW) ∗ bigSep (Finset.Ico 0 n) (wHomeP c XW) ∗ bigSep (Finset.Ico (n + 20) 28) (wHomeP c XW)
    ∗ bigSep (Finset.Ico n 28) (yStartP c Y0) ∗ bigSep (Finset.Ico 0 (n - 3)) (yDoneP c (T3 c XW fq fw fu v636))
    ∗ bigSep (Finset.Ico n (n + 3)) (yRole c Y0 (T3 c XW fq fw fu v636))
    ∗ ((Memref.whole cc0_scratch1).view.loc (c : Thread nD τ) ↦[(Memref.whole cc0_scratch1).view.set]{q} fq)
    ∗ ((Memref.whole cc0_scratch3).view.loc (c : Thread nD τ) ↦[(Memref.whole cc0_scratch3).view.set]{fullShare} fw)
    ∗ ((Memref.whole cc0_scratch12).view.loc (c : Thread nD τ) ↦[(Memref.whole cc0_scratch12).view.set]{fullShare} fu)
    ∗ ∃ W, owes (c : Thread nD τ) 0 W)

/-! ## What a trip stores -/

/-- A leading axis of extent one added to an index. -/
theorem addUnit_idx {n : Nat} (d : Fin n → Nat) (h : (⟨n, d⟩ : Shape).numel = (⟨n + 1, Matrix.vecCons 1 d⟩ : Shape).numel) (j : (⟨n, d⟩ : Shape).Idx) :
    Shape.reshapeEquiv (s := ⟨n + 1, Matrix.vecCons 1 d⟩) (s' := ⟨n, d⟩) h j = Fin.cons ⟨0, Nat.one_pos⟩ j := by
  apply Shape.reshapeEquiv_eq_of_rowMajor
  show (Shape.rowMajorPi (Matrix.vecCons 1 d) (Fin.cons ⟨0, Nat.one_pos⟩ j)).val = (Shape.rowMajorPi d j).val
  rw [Shape.rowMajorPi_succ_val]
  show 0 * _ + (Shape.rowMajorPi d j).val = (Shape.rowMajorPi d j).val
  simp

/-- The weight tile a slot's transfer left there, read through the whole ring. -/
theorem ring_read (p : ℕ) (off : Fin 3 → ℕ) (e : off = wSlotOff p) (inb) (f : Buf (Elt F) ((wSlot p).view.loc (c : Thread nD τ)))
    (x : S512x3072.Idx → Elt F .fp8e4m3) :
    ringM.view.readAt (Elt F) (Rect.unit (s := S20x512x3072) off S1x512x3072.size inb).toLoadRect
      ((wSlot p).view.writes (Elt F) f [⟨Rect.whole S512x3072, x⟩])
      = fun i => x (ix2 (n0 := 512) (n1 := 3072) (i 1) (i 2)) := by
  subst e
  funext i
  have hi : i = Shape.reshapeEquiv (s := S1x512x3072) (s' := S512x3072) squeezes_S1x512x3072_S512x3072.numel_eq (ix2 (n0 := 512) (n1 := 3072) (i 1) (i 2)) := by
    rw [addUnit_idx]
    funext a; fin_cases a
    · exact Fin.ext (by have h : (i 0).val < 1 := (i 0).isLt; show (i 0).val = 0; omega)
    · rfl
    · rfl
  have hw := congrFun (View.read_writes_whole (Val := Elt F) (wSlot p).view f x) (ix2 (n0 := 512) (n1 := 3072) (i 1) (i 2))
  rw [← hw]
  conv_lhs => rw [hi]
  rfl

/-- What is read of an output slot just stored. -/
theorem slot_read (p : ℕ) (off : Fin 3 → ℕ) (e : off = ySlotOff p) (inb) (f : Buf (Elt F) ((ySlot p).view.loc (c : Thread nD τ)))
    (x : S1x256x512.Idx → Elt F .bf16) :
    (ySlot p).view.read (Elt F) (View.write (Elt F) ((Memref.whole cc0_scratch15).access (Rect.unit (s := S3x256x512) off S1x256x512.size inb)) f x Finset.univ)
      = fun j => x (ix3 (n0 := 1) (n1 := 256) (n2 := 512) 0 (j 0) (j 1)) := by
  subst e
  funext j
  have hj : Shape.reshapeEquiv (s := S1x256x512) (s' := S256x512) squeezes_S1x256x512_S256x512.numel_eq j = ix3 (n0 := 1) (n1 := 256) (n2 := 512) 0 (j 0) (j 1) := by
    rw [addUnit_idx]
    funext a; fin_cases a <;> rfl
  rw [← hj]
  exact congrFun (View.read_write_univ (Val := Elt F) (v := (Memref.whole cc0_scratch15).access (Rect.unit (s := S3x256x512) (ySlotOff p) S1x256x512.size inb)) f x)
    (Shape.reshapeEquiv (s := S1x256x512) (s' := S256x512) squeezes_S1x256x512_S256x512.numel_eq j)

/-- A weight tile read off the whole weight. -/
theorem wTile_read (p : ℕ) (j : S512x3072.Idx) :
    (wTile p).view.read (Elt F) XW j = wM.view.read (Elt F) XW (ix2 (n0 := 14336) (n1 := 3072) ⟨512 * (p % 28) + (j 0).val, by have h : (j 0).val < 512 := (j 0).isLt; omega⟩ (j 1)) := by
  show wM.view.read (Elt F) XW ((Rect.unit (s := S14336x3072) (wTileOff p) S512x3072.size (wTileOff_inb p)).emb j) = _
  refine congrArg _ (funext fun a => Fin.ext ?_)
  fin_cases a
  · show 512 * (p % 28) + 1 * (j 0).val = 512 * (p % 28) + (j 0).val; omega
  · show 0 + 1 * (j 1).val = (j 1).val; omega

/-- Trip `k` leaves tile `k`'s value in its slot. -/
theorem tile_stored (k : Fin k0_t3_loop.trips) (f : Buf (Elt F) ((wSlot k.val).view.loc (c : Thread nD τ))) (fs : Buf (Elt F) ((ySlot k.val).view.loc (c : Thread nD τ))) :
    (ySlot k.val).view.read (Elt F) (View.write (Elt F) ((Memref.whole cc0_scratch15).access (Rect.unit (s := S3x256x512) (k0_off15 k) S1x256x512.size (k0_off15_inb k))) fs
      (k0_pay1 (F := F) v636
        (xqM.view.readAt (Elt F) (Rect.unit (s := S256x3072) ![0, 0] S256x3072.size inb_S256x3072_S256x3072_0_0).toLoadRect fq)
        (ringM.view.readAt (Elt F) (Rect.unit (s := S20x512x3072) (k0_off9 k) S1x512x3072.size (k0_off9_inb k)).toLoadRect (wLanded c XW k.val f))
        (wsM.view.readAt (Elt F) (Rect.unit (s := S1x14336) (k0_off13 k) S1x512.size (k0_off13_inb k)).toLoadRect fw)
        (uM.view.readAt (Elt F) (Rect.unit (s := S28x256x512) (k0_off14 k) S1x256x512.size (k0_off14_inb k)).toLoadRect fu)) Finset.univ)
      = T3 c XW fq fw fu v636 k.val := by
  rw [slot_read c k.val _ (off15_eq k)]
  have e1 : xqM.view.readAt (Elt F) (Rect.unit (s := S256x3072) ![0, 0] S256x3072.size inb_S256x3072_S256x3072_0_0).toLoadRect fq = xqM.view.read (Elt F) fq := by
    funext i
    rw [View.readAt_apply]
    refine congrArg _ (funext fun a => Fin.ext ?_)
    rw [LoadRect.idx_apply]
    fin_cases a
    · show 0 + 1 * (i 0).val = (i 0).val; omega
    · show 0 + 1 * (i 1).val = (i 1).val; omega
  have e2 : ringM.view.readAt (Elt F) (Rect.unit (s := S20x512x3072) (k0_off9 k) S1x512x3072.size (k0_off9_inb k)).toLoadRect (wLanded c XW k.val f)
      = wBlk (wM.view.read (Elt F) XW) k.val := by
    unfold wLanded
    rw [ring_read c k.val _ (off9_eq k)]
    funext i
    exact wTile_read c XW k.val _
  have e3 : wsM.view.readAt (Elt F) (Rect.unit (s := S1x14336) (k0_off13 k) S1x512.size (k0_off13_inb k)).toLoadRect fw = wsBlk (wsM.view.read (Elt F) fw) k.val := by
    funext i
    rw [View.readAt_apply]
    refine congrArg _ (funext fun a => Fin.ext ?_)
    rw [LoadRect.idx_apply]
    fin_cases a
    · have e : k0_off13 k 0 = 0 := congrFun (off13_eq k) 0
      show k0_off13 k 0 + 1 * (i 0).val = (i 0).val; omega
    · have e : k0_off13 k 1 = 512 * (k.val % 28) := congrFun (off13_eq k) 1
      show k0_off13 k 1 + 1 * (i 1).val = 512 * (k.val % 28) + (i 1).val; omega
  have e4 : uM.view.readAt (Elt F) (Rect.unit (s := S28x256x512) (k0_off14 k) S1x256x512.size (k0_off14_inb k)).toLoadRect fu = uBlk (uM.view.read (Elt F) fu) k.val := by
    funext i
    rw [View.readAt_apply]
    refine congrArg _ (funext fun a => Fin.ext ?_)
    rw [LoadRect.idx_apply]
    fin_cases a
    · have e : k0_off14 k 0 = k.val % 28 := congrFun (off14_eq k) 0
      have h : (i 0).val < 1 := (i 0).isLt
      show k0_off14 k 0 + 1 * (i 0).val = k.val % 28; omega
    · have e : k0_off14 k 1 = 0 := congrFun (off14_eq k) 1
      show k0_off14 k 1 + 1 * (i 1).val = (i 1).val; omega
    · have e : k0_off14 k 2 = 0 := congrFun (off14_eq k) 2
      show k0_off14 k 2 + 1 * (i 2).val = (i 2).val; omega
  rw [e1, e2, e3, e4]
  rfl

/-- An output tile that has landed. -/
theorem yTile_landed (s p : ℕ) (f : Buf (Elt F) ((ySlot s).view.loc (c : Thread nD τ))) :
    (yTile p).view.read (Elt F) (yLanded c Y0 s p f) = (ySlot s).view.read (Elt F) f := View.read_writes_whole _ _ _

abbrev trip3 (c0 : BitVec 32) (k : Fin k0_t3_loop.trips) : Prog (TpuEff nD τ sig (Elt F) Λ₀ .tc) Unit :=
  k0_t3_body (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 v636 c0 k ()

theorem trip3_run_lo (k : Fin k0_t3_loop.trips) (h : k.val < 3) :
    inv3 c XW Y0 q fq fw fu v636 k.val ⊢ wp frame (wpE (defs₀ (F := F)) 𝒱₀ (c : Thread nD τ) none) Set.univ (trip3 v636 0#32 k) (fun _ => inv3 c XW Y0 q fq fw fu v636 (k.val + 1)) := by
  have hk : k.val < 28 := lt_of_lt_of_eq k.isLt trips3
  have h1 : ¬ k0_cond1 k = 1#1 := fun e => absurd ((cond1_iff k).mp e) (by omega)
  have h2 : k0_cond2 k = 1#1 := (cond2_iff k).mpr (by omega)
  have h2' : k.val + 20 < 28 := by omega
  unfold inv3
  rw [show k.val + 1 + 20 = k.val + 20 + 1 by omega, show k.val + 1 + 3 = k.val + 3 + 1 by omega]
  rw [bigSep_Ico_take k.val (k.val + 20) (by omega), bigSep_Ico_put (k.val + 1) (k.val + 20) (by omega), bigSep_Ico_put 0 k.val (by omega),
    bigSep_Ico_take k.val 28 hk, bigSep_Ico_take k.val (k.val + 3) (by omega), bigSep_Ico_put (k.val + 1) (k.val + 3) (by omega),
    wRole_lt c XW k.val hk, yRole_turn]
  rw [bigSep_Ico_take (k.val + 20) 28 (by omega), wRole_turn_lt c XW k.val (by omega), yRole_lt c Y0 _ k.val h]
  iintro ⟨⟨⟨%f, Hfl⟩, Hfly⟩, Hhome, ⟨Hh, Hnext⟩, ⟨Ht, Hts⟩, Hdone, ⟨⟨⟨%fs, Hs⟩, Hc⟩, Hyr⟩, Hq, Hw, Hu, ⟨%W, HW⟩⟩
  delta trip3
  sl_unfold [k0_t3_body, k0_part1]
  sl_exec
  sl_step
  isplitl [Hfl Hfly]
  · isplitl [Hfl]
    · iexists _; iexact Hfl
    iexact Hfly
  isplitl [Hfl_src Hhome]
  · isplitl [Hfl_src]; · iexact Hfl_src
    iexact Hhome
  isplitl [Hnext]; · iexact Hnext
  isplitl [Hts]; · iexact Hts
  isplitl [Hdone]
  · rw [show k.val + 1 - 3 = k.val - 3 by omega]; iexact Hdone
  isplitl [Hc Hyr]
  · isplitl [Hc]
    · iexists _
      isplitr
      swap
      · iexact Hc
      ipureintro
      exact tile_stored c XW fq fw fu v636 k _ fs
    iexact Hyr
  isplitl [Hq]; · iexact Hq
  isplitl [Hw]; · iexact Hw
  isplitl [Hu]; · iexact Hu
  iexists _; iexact HW

theorem trip3_run_mid (k : Fin k0_t3_loop.trips) (h : 3 ≤ k.val) (h' : k.val + 20 < 28) :
    inv3 c XW Y0 q fq fw fu v636 k.val ⊢ wp frame (wpE (defs₀ (F := F)) 𝒱₀ (c : Thread nD τ) none) Set.univ (trip3 v636 0#32 k) (fun _ => inv3 c XW Y0 q fq fw fu v636 (k.val + 1)) := by
  have hk : k.val < 28 := lt_of_lt_of_eq k.isLt trips3
  have h1 : k0_cond1 k = 1#1 := (cond1_iff k).mpr h
  have h2 : k0_cond2 k = 1#1 := (cond2_iff k).mpr (by omega)
  have h2' : k.val + 20 < 28 := by omega
  unfold inv3
  rw [show k.val + 1 + 20 = k.val + 20 + 1 by omega, show k.val + 1 + 3 = k.val + 3 + 1 by omega]
  rw [bigSep_Ico_take k.val (k.val + 20) (by omega), bigSep_Ico_put (k.val + 1) (k.val + 20) (by omega), bigSep_Ico_put 0 k.val (by omega),
    bigSep_Ico_take k.val 28 hk, bigSep_Ico_take k.val (k.val + 3) (by omega), bigSep_Ico_put (k.val + 1) (k.val + 3) (by omega),
    wRole_lt c XW k.val hk, yRole_turn]
  rw [bigSep_Ico_take (k.val + 20) 28 (by omega), wRole_turn_lt c XW k.val (by omega), yRole_ge c Y0 _ k.val h]
  iintro ⟨⟨⟨%f, Hfl⟩, Hfly⟩, Hhome, ⟨Hh, Hnext⟩, ⟨Ht, Hts⟩, Hdone, ⟨⟨%fs, %hfs, Hy⟩, Hyr⟩, Hq, Hw, Hu, ⟨%W, HW⟩⟩
  delta trip3
  sl_unfold [k0_t3_body, k0_part1]
  sl_exec
  sl_step
  isplitl [Hfl Hfly]
  · isplitl [Hfl]
    · iexists _; iexact Hfl
    iexact Hfly
  isplitl [Hfl_src Hhome]
  · isplitl [Hfl_src]; · iexact Hfl_src
    iexact Hhome
  isplitl [Hnext]; · iexact Hnext
  isplitl [Hts]; · iexact Hts
  isplitl [Hdone Hy_dst]
  · rw [show k.val + 1 - 3 = k.val - 3 + 1 by omega, bigSep_Ico_put 0 (k.val - 3) (by omega)]
    isplitl [Hy_dst]
    · unfold yDoneP
      iexists _
      isplitr
      swap
      · iexact Hy_dst
      ipureintro
      exact (View.read_writes_whole _ _ _).trans hfs
    iexact Hdone
  isplitl [Hy Hyr]
  · isplitl [Hy]
    · iexists _
      isplitr
      swap
      · iexact Hy
      ipureintro
      exact tile_stored c XW fq fw fu v636 k _ fs
    iexact Hyr
  isplitl [Hq]; · iexact Hq
  isplitl [Hw]; · iexact Hw
  isplitl [Hu]; · iexact Hu
  iexists _; iexact HW

theorem trip3_run_hi (k : Fin k0_t3_loop.trips) (h' : 28 ≤ k.val + 20) :
    inv3 c XW Y0 q fq fw fu v636 k.val ⊢ wp frame (wpE (defs₀ (F := F)) 𝒱₀ (c : Thread nD τ) none) Set.univ (trip3 v636 0#32 k) (fun _ => inv3 c XW Y0 q fq fw fu v636 (k.val + 1)) := by
  have hk : k.val < 28 := lt_of_lt_of_eq k.isLt trips3
  have h : 3 ≤ k.val := by omega
  have h1 : k0_cond1 k = 1#1 := (cond1_iff k).mpr h
  have h2 : ¬ k0_cond2 k = 1#1 := fun e => absurd ((cond2_iff k).mp e) (by omega)
  unfold inv3
  rw [show k.val + 1 + 20 = k.val + 20 + 1 by omega, show k.val + 1 + 3 = k.val + 3 + 1 by omega]
  rw [bigSep_Ico_take k.val (k.val + 20) (by omega), bigSep_Ico_put (k.val + 1) (k.val + 20) (by omega), bigSep_Ico_put 0 k.val (by omega),
    bigSep_Ico_take k.val 28 hk, bigSep_Ico_take k.val (k.val + 3) (by omega), bigSep_Ico_put (k.val + 1) (k.val + 3) (by omega),
    wRole_lt c XW k.val hk, yRole_turn]
  rw [bigSep_Ico_empty (k.val + 20) 28 (by omega), bigSep_Ico_empty (k.val + 20 + 1) 28 (by omega), wRole_turn_ge c XW k.val (by omega), yRole_ge c Y0 _ k.val h]
  iintro ⟨⟨⟨%f, Hfl⟩, Hfly⟩, Hhome, Hnext, ⟨Ht, Hts⟩, Hdone, ⟨⟨%fs, %hfs, Hy⟩, Hyr⟩, Hq, Hw, Hu, ⟨%W, HW⟩⟩
  delta trip3
  sl_unfold [k0_t3_body, k0_part1]
  sl_exec
  sl_step
  isplitl [Hfl Hfl_dst Hfly]
  · isplitl [Hfl Hfl_dst]
    · isplitl [Hfl_dst]; · iexists _; iexact Hfl_dst
      iexact Hfl
    iexact Hfly
  isplitl [Hfl_src Hhome]
  · isplitl [Hfl_src]; · iexact Hfl_src
    iexact Hhome
  isplitl [Hnext]; · iexact Hnext
  isplitl [Hts]; · iexact Hts
  isplitl [Hdone Hy_dst]
  · rw [show k.val + 1 - 3 = k.val - 3 + 1 by omega, bigSep_Ico_put 0 (k.val - 3) (by omega)]
    isplitl [Hy_dst]
    · unfold yDoneP
      iexists _
      isplitr
      swap
      · iexact Hy_dst
      ipureintro
      exact (View.read_writes_whole _ _ _).trans hfs
    iexact Hdone
  isplitl [Hy Hyr]
  · isplitl [Hy]
    · iexists _
      isplitr
      swap
      · iexact Hy
      ipureintro
      exact tile_stored c XW fq fw fu v636 k _ fs
    iexact Hyr
  isplitl [Hq]; · iexact Hq
  isplitl [Hw]; · iexact Hw
  isplitl [Hu]; · iexact Hu
  iexists _; iexact HW

/-- A trip, whichever of the three kinds it is. -/
theorem trip3_run (k : Fin k0_t3_loop.trips) :
    inv3 c XW Y0 q fq fw fu v636 k.val ⊢ wp frame (wpE (defs₀ (F := F)) 𝒱₀ (c : Thread nD τ) none) Set.univ (trip3 v636 0#32 k) (fun _ => inv3 c XW Y0 q fq fw fu v636 (k.val + 1)) := by
  by_cases h : k.val < 3
  · exact trip3_run_lo c XW Y0 q fq fw fu v636 k h
  by_cases h' : k.val + 20 < 28
  · exact trip3_run_mid c XW Y0 q fq fw fu v636 k (by omega) h'
  · exact trip3_run_hi c XW Y0 q fq fw fu v636 k (by omega)

set_option warn.classDefReducibility false in
@[sl_loop] def loopInv3 :
    LoopInvTy_k0_t3 (F := F) Unit ℕ (UU nD τ) ℕ 𝒱₀ c none Set.univ (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 v636 0#32 where
  inv k _ := inv3 c XW Y0 q fq fw fu v636 k
  step k _ := trip3_run c XW Y0 q fq fw fu v636 k

end Cert.Proof.Printed

end
-- ==== Proof.Printed.Vals.lean ====
/-
  What the kernel computes, as plain functions of its inputs; and that its lists of partial stores hold them.
-/
module

public import proofs.«01_k».proof.Proof.Printed.Loop2
public import proofs.«01_k».proof.Proof.Printed.Loop3
public import Idealize.ShloMosaic.Lib.WritesUnit
public import Idealize.ShloMosaic.Lib.Pipeline.Value

@[expose] public section

set_option maxRecDepth 16384

noncomputable section

namespace Cert.Proof.Printed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

open Idealize.ShloMosaic.ValueIdx

abbrev rdM : Memref sig .tc .vmem S256x768 .bf16 := Memref.whole cc0_scratch7
abbrev ruM : Memref sig .tc .vmem S2x128x512 .bf16 := Memref.whole cc0_scratch8
abbrev t1M : Memref sig .tc .vmem S256x1024 .bf16 := Memref.whole cc0_scratch10
abbrev xsM : Memref sig .tc .vmem S2x128 .f32 := Memref.whole cc0_scratch14

/-! ## A list of writes, one piece at a time -/

section Push
variable {sig : RefSig} {κ : Kind} {sp : Space} {s : Shape} {e : EltTy} {Val : EltTy → Type} [∀ e, Nonempty (Val e)] (v : View sig κ sp s e)

/-- One more piece: where it lies it holds `V`; elsewhere what the rest of the list holds. -/
theorem read_push {off size : Fin s.rank → ℕ} (inb : ∀ a, off a + size a ≤ s.size a) (w : (Rect.unit off size inb).shape.Idx → Val e)
    (L : List (View.Piece Val s e)) (f : v.ty.Contents Val) (V : s.Idx → Val e) (P Q : s.Idx → Prop)
    (hin : ∀ (y : s.Idx) (h : ∀ a, off a ≤ (y a).val ∧ (y a).val < off a + size a), w (Rect.unitLocal (s := s) (off := off) (size := size) y h) = V y)
    (hout : ∀ y, Q y → ¬ P y → ∀ a, off a ≤ (y a).val ∧ (y a).val < off a + size a)
    (h : ∀ y, P y → v.read Val (v.writes Val f L) y = V y) :
    ∀ y, Q y → v.read Val (v.writes Val f ((⟨Rect.unit off size inb, w⟩ : View.Piece Val s e) :: L)) y = V y := by
  intro y hy
  rw [View.read_writes_cons_unit v f inb w L y rfl]
  split
  · next hm => exact hin y hm
  · next hm => exact h y (Classical.byContradiction fun hp => hm (hout y hy hp))

/-- A load of a rectangle of a buffer whose list of writes reads `V`. -/
theorem readCov_of_read (L : List (View.Piece Val s e)) (V : s.Idx → Val e) (h : v.read Val (v.writes Val v.junk L) = V) (B : LoadRect s) :
    v.readCov L B = fun y => V (B.idx y) := by
  subst h; rfl
end Push

/-- A load of a rectangle of a buffer written whole by one transfer. -/
theorem readCov_whole {sig : RefSig} {κ : Kind} {sp : Space} {s : Shape} {e : EltTy} {Val : EltTy → Type} [∀ e, Nonempty (Val e)] (v : View sig κ sp s e)
    (x : s.Idx → Val e) (B : LoadRect s) : v.readCov [(⟨Rect.whole s, x⟩ : View.Piece Val s e)] B = fun y => x (B.idx y) :=
  readCov_of_read v _ x (View.read_writes_whole v _ x) B

/-! ## The two small factors, spread over blocks -/

/-- Block `b` of the first: the factor's forty rows at rows `64 b` and columns `192 b`, zero elsewhere. -/
def rdV (dd : S40x192.Idx → Elt F .bf16) : S256x768.Idx → Elt F .bf16 := fun i =>
  if h : (i 1).val / 192 = (i 0).val / 64 ∧ (i 0).val % 64 < 40 then
    dd (ix2 (n0 := 40) (n1 := 192) ⟨(i 0).val % 64, h.2⟩ ⟨(i 1).val % 192, Nat.mod_lt _ (by decide)⟩)
  else (Scalar.ofBits .bf16 0x0000#16 : F .bf16)

theorem rd_push (dd : S40x192.Idx → Elt F .bf16) (n : ℕ) (inb : ∀ a, (![64 * n, 192 * n] : Fin 2 → ℕ) a + S40x192.size a ≤ S256x768.size a)
    (w : S40x192.Idx → Elt F .bf16) (hw : w = dd) (L : List (View.Piece (Elt F) S256x768 .bf16)) (f : rdM.view.ty.Contents (Elt F))
    (h : ∀ y : S256x768.Idx, ¬ ((y 1).val / 192 = (y 0).val / 64 ∧ (y 0).val % 64 < 40 ∧ n ≤ (y 0).val / 64) → rdM.view.read (Elt F) (rdM.view.writes (Elt F) f L) y = rdV dd y) :
    ∀ y : S256x768.Idx, ¬ ((y 1).val / 192 = (y 0).val / 64 ∧ (y 0).val % 64 < 40 ∧ n + 1 ≤ (y 0).val / 64) →
      rdM.view.read (Elt F) (rdM.view.writes (Elt F) f ((⟨Rect.unit (s := S256x768) ![64 * n, 192 * n] S40x192.size inb, w⟩ : View.Piece (Elt F) S256x768 .bf16) :: L)) y = rdV dd y := by
  subst hw
  refine read_push rdM.view inb w L f (rdV w) _ _ ?_ ?_ h
  · intro y hy
    have h0 : 64 * n ≤ (y 0).val ∧ (y 0).val < 64 * n + 40 := hy 0
    have h1 : 192 * n ≤ (y 1).val ∧ (y 1).val < 192 * n + 192 := hy 1
    unfold rdV
    rw [dif_pos ⟨by omega, by omega⟩]
    refine congrArg w (funext fun a => Fin.ext ?_)
    rw [Rect.unitLocal_val]
    fin_cases a
    · show (y 0).val - 64 * n = (y 0).val % 64; omega
    · show (y 1).val - 192 * n = (y 1).val % 192; omega
  · intro y hy hp a
    fin_cases a
    · show 64 * n ≤ (y 0).val ∧ (y 0).val < 64 * n + 40; omega
    · show 192 * n ≤ (y 1).val ∧ (y 1).val < 192 * n + 192; omega

theorem rd_base (dd : S40x192.Idx → Elt F .bf16) (inb) (f : rdM.view.ty.Contents (Elt F)) :
    ∀ y : S256x768.Idx, ¬ ((y 1).val / 192 = (y 0).val / 64 ∧ (y 0).val % 64 < 40 ∧ 0 ≤ (y 0).val / 64) →
      rdM.view.read (Elt F) (rdM.view.writes (Elt F) f [⟨Rect.unit (s := S256x768) ![0, 0] S256x768.size inb, k0_pay2 (F := F)⟩]) y = rdV dd y := by
  intro y hy
  rw [View.read_writes_cons_unit_of_mem rdM.view f inb _ _ y y rfl (by intro a; fin_cases a <;> exact (Nat.zero_add _).symm)]
  unfold rdV
  rw [dif_neg (by omega)]
  unfold k0_pay2
  rw [shapeCast_self]
  rfl

/-- Part `r` of the second: the factor's forty rows at rows `64 r`, zero elsewhere. -/
def ruV (du : S40x512.Idx → Elt F .bf16) : S2x128x512.Idx → Elt F .bf16 := fun i =>
  if h : (i 1).val / 64 = (i 0).val ∧ (i 1).val % 64 < 40 then
    du (ix2 (n0 := 40) (n1 := 512) ⟨(i 1).val % 64, h.2⟩ (i 2))
  else (Scalar.ofBits .bf16 0x0000#16 : F .bf16)

theorem ru_push (du : S40x512.Idx → Elt F .bf16) (n : ℕ) (inb : ∀ a, (![n, 64 * n, 0] : Fin 3 → ℕ) a + S1x40x512.size a ≤ S2x128x512.size a)
    (w : S1x40x512.Idx → Elt F .bf16) (hw : w = shapeCast S1x40x512 du shapeCasts_S40x512_S1x40x512)
    (L : List (View.Piece (Elt F) S2x128x512 .bf16)) (f : ruM.view.ty.Contents (Elt F))
    (h : ∀ y : S2x128x512.Idx, ¬ ((y 1).val / 64 = (y 0).val ∧ (y 1).val % 64 < 40 ∧ n ≤ (y 0).val) → ruM.view.read (Elt F) (ruM.view.writes (Elt F) f L) y = ruV du y) :
    ∀ y : S2x128x512.Idx, ¬ ((y 1).val / 64 = (y 0).val ∧ (y 1).val % 64 < 40 ∧ n + 1 ≤ (y 0).val) →
      ruM.view.read (Elt F) (ruM.view.writes (Elt F) f ((⟨Rect.unit (s := S2x128x512) ![n, 64 * n, 0] S1x40x512.size inb, w⟩ : View.Piece (Elt F) S2x128x512 .bf16) :: L)) y = ruV du y := by
  subst hw
  refine read_push ruM.view inb _ L f (ruV du) _ _ ?_ ?_ h
  · intro y hy
    have h0 : n ≤ (y 0).val ∧ (y 0).val < n + 1 := hy 0
    have h1 : 64 * n ≤ (y 1).val ∧ (y 1).val < 64 * n + 40 := hy 1
    unfold ruV
    rw [dif_pos ⟨by omega, by omega⟩]
    have e : Rect.unitLocal (s := S2x128x512) (off := ![n, 64 * n, 0]) (size := S1x40x512.size) y hy
        = Fin.cons ⟨0, Nat.one_pos⟩ (ix2 (n0 := 40) (n1 := 512) ⟨(y 1).val % 64, by omega⟩ (y 2)) := by
      funext a; apply Fin.ext; rw [Rect.unitLocal_val]
      fin_cases a
      · show (y 0).val - n = 0; omega
      · show (y 1).val - 64 * n = (y 1).val % 64; omega
      · show (y 2).val - 0 = (y 2).val; omega
    rw [e]
    exact shapeCast_addUnit_apply (n := 2) S40x512.size du shapeCasts_S40x512_S1x40x512 _
  · intro y hy hp a
    have h2 : (y 2).val < 512 := (y 2).isLt
    fin_cases a
    · show n ≤ (y 0).val ∧ (y 0).val < n + 1; omega
    · show 64 * n ≤ (y 1).val ∧ (y 1).val < 64 * n + 40; omega
    · show 0 ≤ (y 2).val ∧ (y 2).val < 0 + 512; omega

theorem ru_base (du : S40x512.Idx → Elt F .bf16) (inb) (f : ruM.view.ty.Contents (Elt F)) :
    ∀ y : S2x128x512.Idx, ¬ ((y 1).val / 64 = (y 0).val ∧ (y 1).val % 64 < 40 ∧ 0 ≤ (y 0).val) →
      ruM.view.read (Elt F) (ruM.view.writes (Elt F) f [⟨Rect.unit (s := S2x128x512) ![0, 0, 0] S2x128x512.size inb, k0_pay3 (F := F)⟩]) y = ruV du y := by
  intro y hy
  rw [View.read_writes_cons_unit_of_mem ruM.view f inb _ _ y y rfl (by intro a; fin_cases a <;> exact (Nat.zero_add _).symm)]
  unfold ruV
  rw [dif_neg (by omega)]
  unfold k0_pay3
  rw [shapeCast_self]
  rfl

/-! ## The mixing matrix -/

/-- Rows `16 a … 16 a + 15` of the mixing matrix, from the spread-out weights `v76` and the mask `v95`. -/
def kcRow (v76 : FVec F S28x256 .f32) (a : ℕ) : FVec F S16x256 .bf16 :=
  truncf .bf16 (select k0_pay13 (fun i : S16x256.Idx => v76 (ix2 (n0 := 28) (n1 := 256) ⟨a % 28, Nat.mod_lt _ (by decide)⟩ (i 1)))
    (broadcast S16x256 (Scalar.ofBits .f32 0x00000000#32 : F .f32))) bitsLt_bf16_f32
/-- The same rows, as the kernel computes them. -/
def kcRowK (v76 : FVec F S28x256 .f32) (a : ℕ) (h : S28x256.Slices ![a, 0] S1x256) : FVec F S16x256 .bf16 :=
  truncf .bf16 (select k0_pay13 (broadcastTo S16x256 (shapeCast S1x256 (extractStridedSlice S1x256 ![a, 0] v76 h) shapeCasts_S1x256_S1x256) broadcasts_S1x256_S16x256)
    (broadcast S16x256 (Scalar.ofBits .f32 0x00000000#32 : F .f32))) bitsLt_bf16_f32
theorem kcRowK_eq (v76 : FVec F S28x256 .f32) (a : ℕ) (ha : a < 28) (h) : kcRowK v76 a h = kcRow v76 a := by
  unfold kcRowK kcRow
  rw [shapeCast_self]
  refine congrArg (fun z => truncf .bf16 (select k0_pay13 z (broadcast S16x256 (Scalar.ofBits .f32 0x00000000#32 : F .f32))) bitsLt_bf16_f32) (funext fun i => ?_)
  rw [broadcastTo_apply _ _ i (ix2 (n0 := 1) (n1 := 256) 0 (i 1)) (by intro b; fin_cases b <;> rfl)]
  refine extractStridedSlice_apply _ v76 h _ _ ?_
  intro b
  fin_cases b
  · show a % 28 = a + 0; omega
  · show (i 1).val = 0 + (i 1).val; omega

def kcV (v76 : FVec F S28x256 .f32) : S448x256.Idx → Elt F .bf16 := fun i =>
  kcRow v76 ((i 0).val / 16) (ix2 (n0 := 16) (n1 := 256) ⟨(i 0).val % 16, Nat.mod_lt _ (by decide)⟩ (i 1))

theorem kc_push (v76 : FVec F S28x256 .f32) (n : ℕ) (inb : ∀ a, (![16 * n, 0] : Fin 2 → ℕ) a + S16x256.size a ≤ S448x256.size a)
    (hs : S28x256.Slices ![n, 0] S1x256) (w : S16x256.Idx → Elt F .bf16) (hw : w = shapeCast S16x256 (kcRowK v76 n hs) shapeCasts_S16x256_S16x256)
    (L : List (View.Piece (Elt F) S448x256 .bf16)) (f : kcM.view.ty.Contents (Elt F))
    (h : ∀ y : S448x256.Idx, (y 0).val < 16 * n → kcM.view.read (Elt F) (kcM.view.writes (Elt F) f L) y = kcV v76 y) :
    ∀ y : S448x256.Idx, (y 0).val < 16 * (n + 1) →
      kcM.view.read (Elt F) (kcM.view.writes (Elt F) f ((⟨Rect.unit (s := S448x256) ![16 * n, 0] S16x256.size inb, w⟩ : View.Piece (Elt F) S448x256 .bf16) :: L)) y = kcV v76 y := by
  have hn : n < 28 := by
    have h0 : 16 * n + 16 ≤ 448 := inb 0
    omega
  rw [shapeCast_self, kcRowK_eq v76 n hn] at hw
  subst hw
  refine read_push kcM.view inb _ L f (kcV v76) _ _ ?_ ?_ h
  · intro y hy
    have h0 : 16 * n ≤ (y 0).val ∧ (y 0).val < 16 * n + 16 := hy 0
    unfold kcV
    rw [show (y 0).val / 16 = n by omega]
    refine congrArg (kcRow v76 n) (funext fun a => Fin.ext ?_)
    rw [Rect.unitLocal_val]
    fin_cases a
    · show (y 0).val - 16 * n = (y 0).val % 16; omega
    · show (y 1).val - 0 = (y 1).val; omega
  · intro y hy hp a
    have h1 : (y 1).val < 256 := (y 1).isLt
    fin_cases a
    · show 16 * n ≤ (y 0).val ∧ (y 0).val < 16 * n + 16; omega
    · show 0 ≤ (y 1).val ∧ (y 1).val < 0 + 256; omega

/-! ## The first product -/

/-- Columns `768 m …` of the input. -/
def xBlk (x : S256x3072.Idx → Elt F .bf16) (m : ℕ) : S256x768.Idx → Elt F .bf16 := fun i =>
  x (ix2 (n0 := 256) (n1 := 3072) (i 0) ⟨768 * (m % 4) + (i 1).val, by have h : (i 1).val < 768 := (i 1).isLt; omega⟩)
def t1V (x : S256x3072.Idx → Elt F .bf16) (rd : S256x768.Idx → Elt F .bf16) : S256x1024.Idx → Elt F .bf16 := fun i =>
  k0_pay58 (xBlk x ((i 1).val / 256)) rd (ix2 (n0 := 256) (n1 := 256) (i 0) ⟨(i 1).val % 256, Nat.mod_lt _ (by decide)⟩)

theorem t1_push (x : S256x3072.Idx → Elt F .bf16) (rd : S256x768.Idx → Elt F .bf16) (n : ℕ)
    (inb : ∀ a, (![0, 256 * n] : Fin 2 → ℕ) a + S256x256.size a ≤ S256x1024.size a)
    (inbx : ∀ a, (![0, 768 * n] : Fin 2 → ℕ) a + S256x768.size a ≤ S256x3072.size a)
    (w : S256x256.Idx → Elt F .bf16) (hw : w = k0_pay58 (fun y => x ((Rect.unit (s := S256x3072) ![0, 768 * n] S256x768.size inbx).toLoadRect.idx y)) rd)
    (L : List (View.Piece (Elt F) S256x1024 .bf16)) (f : t1M.view.ty.Contents (Elt F))
    (h : ∀ y : S256x1024.Idx, (y 1).val < 256 * n → t1M.view.read (Elt F) (t1M.view.writes (Elt F) f L) y = t1V x rd y) :
    ∀ y : S256x1024.Idx, (y 1).val < 256 * (n + 1) →
      t1M.view.read (Elt F) (t1M.view.writes (Elt F) f ((⟨Rect.unit (s := S256x1024) ![0, 256 * n] S256x256.size inb, w⟩ : View.Piece (Elt F) S256x1024 .bf16) :: L)) y = t1V x rd y := by
  have hn : n < 4 := by
    have h0 : 256 * n + 256 ≤ 1024 := inb 1
    omega
  subst hw
  refine read_push t1M.view inb _ L f (t1V x rd) _ _ ?_ ?_ h
  · intro y hy
    have h1 : 256 * n ≤ (y 1).val ∧ (y 1).val < 256 * n + 256 := hy 1
    have ex : (fun y => x ((Rect.unit (s := S256x3072) ![0, 768 * n] S256x768.size inbx).toLoadRect.idx y)) = xBlk x n := by
      funext z
      unfold xBlk
      refine congrArg x (funext fun a => Fin.ext ?_)
      rw [LoadRect.idx_apply]
      fin_cases a
      · show 0 + 1 * (z 0).val = (z 0).val; omega
      · show 768 * n + 1 * (z 1).val = 768 * (n % 4) + (z 1).val; omega
    unfold t1V
    rw [show (y 1).val / 256 = n by omega]
    refine (congrFun (congrArg (fun z => k0_pay58 z rd) ex) _).trans ?_
    refine congrArg (k0_pay58 (xBlk x n) rd) (funext fun a => Fin.ext ?_)
    rw [Rect.unitLocal_val]
    fin_cases a
    · show (y 0).val - 0 = (y 0).val; omega
    · show (y 1).val - 256 * n = (y 1).val % 256; omega
  · intro y hy hp a
    have h1 : (y 0).val < 256 := (y 0).isLt
    fin_cases a
    · show 0 ≤ (y 0).val ∧ (y 0).val < 0 + 256; omega
    · show 256 * n ≤ (y 1).val ∧ (y 1).val < 256 * n + 256; omega

/-! ## The second product -/

/-- Columns `128 q …` of the first product. -/
def t1Blk (t1 : S256x1024.Idx → Elt F .bf16) (q : ℕ) : S256x128.Idx → Elt F .bf16 := fun i =>
  t1 (ix2 (n0 := 256) (n1 := 1024) (i 0) ⟨128 * (q % 8) + (i 1).val, by have h : (i 1).val < 128 := (i 1).isLt; omega⟩)
def ruBlk (ru : S2x128x512.Idx → Elt F .bf16) (r : ℕ) : S1x128x512.Idx → Elt F .bf16 := fun i =>
  ru (ix3 (n0 := 2) (n1 := 128) (n2 := 512) ⟨r % 2, Nat.mod_lt _ (by decide)⟩ (i 1) (i 2))
def tV (t1 : S256x1024.Idx → Elt F .bf16) (ru : S2x128x512.Idx → Elt F .bf16) : S16x256x512.Idx → Elt F .bf16 := fun i =>
  k0_pay62 (t1Blk t1 ((i 0).val / 2)) (ruBlk ru ((i 0).val % 2)) (ix3 (n0 := 1) (n1 := 256) (n2 := 512) 0 (i 1) (i 2))

theorem t_push (t1 : S256x1024.Idx → Elt F .bf16) (ru : S2x128x512.Idx → Elt F .bf16) (n : ℕ)
    (inb : ∀ a, (![n, 0, 0] : Fin 3 → ℕ) a + S1x256x512.size a ≤ S16x256x512.size a)
    (inb1 : ∀ a, (![0, 128 * (n / 2)] : Fin 2 → ℕ) a + S256x128.size a ≤ S256x1024.size a)
    (inb2 : ∀ a, (![n % 2, 0, 0] : Fin 3 → ℕ) a + S1x128x512.size a ≤ S2x128x512.size a)
    (w : S1x256x512.Idx → Elt F .bf16)
    (L1 : List (View.Piece (Elt F) S256x1024 .bf16)) (h1 : t1M.view.read (Elt F) (t1M.view.writes (Elt F) t1M.view.junk L1) = t1)
    (L2 : List (View.Piece (Elt F) S2x128x512 .bf16)) (h2 : ruM.view.read (Elt F) (ruM.view.writes (Elt F) ruM.view.junk L2) = ru)
    (hw : w = k0_pay62 (t1M.view.readCov L1 (Rect.unit (s := S256x1024) ![0, 128 * (n / 2)] S256x128.size inb1).toLoadRect)
        (ruM.view.readCov L2 (Rect.unit (s := S2x128x512) ![n % 2, 0, 0] S1x128x512.size inb2).toLoadRect))
    (L : List (View.Piece (Elt F) S16x256x512 .bf16)) (f : tM.view.ty.Contents (Elt F))
    (h : ∀ y : S16x256x512.Idx, (y 0).val < n → tM.view.read (Elt F) (tM.view.writes (Elt F) f L) y = tV t1 ru y) :
    ∀ y : S16x256x512.Idx, (y 0).val < n + 1 →
      tM.view.read (Elt F) (tM.view.writes (Elt F) f ((⟨Rect.unit (s := S16x256x512) ![n, 0, 0] S1x256x512.size inb, w⟩ : View.Piece (Elt F) S16x256x512 .bf16) :: L)) y = tV t1 ru y := by
  have hn : n < 16 := by
    have h0 : n + 1 ≤ 16 := inb 0
    omega
  rw [readCov_of_read _ _ _ h1, readCov_of_read _ _ _ h2] at hw
  have e1 : (fun y => t1 ((Rect.unit (s := S256x1024) ![0, 128 * (n / 2)] S256x128.size inb1).toLoadRect.idx y)) = t1Blk t1 (n / 2) := by
    funext z
    unfold t1Blk
    refine congrArg t1 (funext fun a => Fin.ext ?_)
    rw [LoadRect.idx_apply]
    fin_cases a
    · show 0 + 1 * (z 0).val = (z 0).val; omega
    · show 128 * (n / 2) + 1 * (z 1).val = 128 * (n / 2 % 8) + (z 1).val; omega
  have e2 : (fun y => ru ((Rect.unit (s := S2x128x512) ![n % 2, 0, 0] S1x128x512.size inb2).toLoadRect.idx y)) = ruBlk ru (n % 2) := by
    funext z
    unfold ruBlk
    refine congrArg ru (funext fun a => Fin.ext ?_)
    rw [LoadRect.idx_apply]
    have hz : (z 0).val < 1 := (z 0).isLt
    fin_cases a
    · show n % 2 + 1 * (z 0).val = n % 2 % 2; omega
    · show 0 + 1 * (z 1).val = (z 1).val; omega
    · show 0 + 1 * (z 2).val = (z 2).val; omega
  rw [e1, e2] at hw
  subst hw
  refine read_push tM.view inb _ L f (tV t1 ru) _ _ ?_ ?_ h
  · intro y hy
    have h0 : n ≤ (y 0).val ∧ (y 0).val < n + 1 := hy 0
    unfold tV
    rw [show (y 0).val = n by omega]
    refine congrArg (k0_pay62 (t1Blk t1 (n / 2)) (ruBlk ru (n % 2))) (funext fun a => Fin.ext ?_)
    rw [Rect.unitLocal_val]
    fin_cases a
    · show (y 0).val - n = 0; omega
    · show (y 1).val - 0 = (y 1).val; omega
    · show (y 2).val - 0 = (y 2).val; omega
  · intro y hy hp a
    have h1 : (y 1).val < 256 := (y 1).isLt
    have h2 : (y 2).val < 512 := (y 2).isLt
    fin_cases a
    · show n ≤ (y 0).val ∧ (y 0).val < n + 1; omega
    · show 0 ≤ (y 1).val ∧ (y 1).val < 0 + 256; omega
    · show 0 ≤ (y 2).val ∧ (y 2).val < 0 + 512; omega

/-! ## The quantiser -/

def sclV (x : S256x3072.Idx → Elt F .bf16) : FVec F S256x1 .f32 :=
  k0_pay52 (k0_pay48 (k0_pay47 x)) (k0_pay49 (k0_pay47 x)) (k0_pay50 (k0_pay47 x))
def xcV (x : S256x3072.Idx → Elt F .bf16) : FVec F S256x3072 .fp8e4m3 :=
  k0_pay54 x (k0_pay53 (k0_pay48 (k0_pay47 x)) (k0_pay49 (k0_pay47 x)) (k0_pay50 (k0_pay47 x)))
def xsBlk (x : S256x3072.Idx → Elt F .bf16) (m : ℕ) : S128x128.Idx → Elt F .f32 := fun i =>
  k0_pay55 (sclV x) (ix2 (n0 := 256) (n1 := 128) ⟨128 * (m % 2) + (i 0).val, by have h : (i 0).val < 128 := (i 0).isLt; omega⟩ (i 1))
/-- The scales, one row for each sequence. -/
def xsV (x : S256x3072.Idx → Elt F .bf16) : S2x128.Idx → Elt F .f32 := fun i =>
  k0_pay56 (xsBlk x (i 0).val) (ix2 (n0 := 1) (n1 := 128) 0 (i 1))

theorem xs_push (x : S256x3072.Idx → Elt F .bf16) (n : ℕ)
    (inb : ∀ a, (![n, 0] : Fin 2 → ℕ) a + S1x128.size a ≤ S2x128.size a)
    (inbx : ∀ a, (![128 * n, 0] : Fin 2 → ℕ) a + S128x128.size a ≤ S256x128.size a)
    (w : S1x128.Idx → Elt F .f32) (hw : w = k0_pay56 (fun y => k0_pay55 (sclV x) ((Rect.unit (s := S256x128) ![128 * n, 0] S128x128.size inbx).toLoadRect.idx y)))
    (L : List (View.Piece (Elt F) S2x128 .f32)) (f : xsM.view.ty.Contents (Elt F))
    (h : ∀ y : S2x128.Idx, (y 0).val < n → xsM.view.read (Elt F) (xsM.view.writes (Elt F) f L) y = xsV x y) :
    ∀ y : S2x128.Idx, (y 0).val < n + 1 →
      xsM.view.read (Elt F) (xsM.view.writes (Elt F) f ((⟨Rect.unit (s := S2x128) ![n, 0] S1x128.size inb, w⟩ : View.Piece (Elt F) S2x128 .f32) :: L)) y = xsV x y := by
  have hn : n < 2 := by
    have h0 : n + 1 ≤ 2 := inb 0
    omega
  subst hw
  refine read_push xsM.view inb _ L f (xsV x) _ _ ?_ ?_ h
  · intro y hy
    have h0 : n ≤ (y 0).val ∧ (y 0).val < n + 1 := hy 0
    have ex : (fun y => k0_pay55 (sclV x) ((Rect.unit (s := S256x128) ![128 * n, 0] S128x128.size inbx).toLoadRect.idx y)) = xsBlk x n := by
      funext z
      unfold xsBlk
      refine congrArg (k0_pay55 (sclV x)) (funext fun a => Fin.ext ?_)
      rw [LoadRect.idx_apply]
      fin_cases a
      · show 128 * n + 1 * (z 0).val = 128 * (n % 2) + (z 0).val; omega
      · show 0 + 1 * (z 1).val = (z 1).val; omega
    unfold xsV
    rw [show (y 0).val = n by omega]
    refine (congrFun (congrArg (fun z => k0_pay56 z) ex) _).trans ?_
    refine congrArg (k0_pay56 (xsBlk x n)) (funext fun a => Fin.ext ?_)
    rw [Rect.unitLocal_val]
    fin_cases a
    · show (y 0).val - n = 0; omega
    · show (y 1).val - 0 = (y 1).val; omega
  · intro y hy hp a
    have h1 : (y 1).val < 128 := (y 1).isLt
    fin_cases a
    · show n ≤ (y 0).val ∧ (y 0).val < n + 1; omega
    · show 0 ≤ (y 1).val ∧ (y 1).val < 0 + 128; omega

/-! ## The kernel's values from its inputs -/

/-- The spread-out weights from the mixing weights. -/
def k76V (cv : S16x28.Idx → Elt F .bf16) : FVec F S28x256 .f32 :=
  k0_pay12 (iota .tc S16x256 32 [1] iota_S16x256_d1_w32) 16#32 k0_pay10 k0_pay11 1#32 cv
def uV (x : S256x3072.Idx → Elt F .bf16) (cv : S16x28.Idx → Elt F .bf16) (dd : S40x192.Idx → Elt F .bf16) (du : S40x512.Idx → Elt F .bf16) :
    S28x256x512.Idx → Elt F .f32 :=
  uVal (tV (t1V x (rdV dd)) (ruV du)) (kcV (k76V cv))
/-- An output tile. -/
def yV (x : S256x3072.Idx → Elt F .bf16) (w : S14336x3072.Idx → Elt F .fp8e4m3) (ws : S1x14336.Idx → Elt F .f32) (cv : S16x28.Idx → Elt F .bf16)
    (dd : S40x192.Idx → Elt F .bf16) (du : S40x512.Idx → Elt F .bf16) : TileVal F :=
  tileVal (xcV x) w ws (uV x cv dd du) (k0_pay80 (k0_pay55 (sclV x)))

end Cert.Proof.Printed

end
-- ==== Proof.Printed.Loop1.lean ====
/-
  The loop that starts the first twenty weight tiles: before trip `k` tiles `0 … k - 1` are in flight, the slots from `k` on
  are free and the tiles from `k` on are at home.
-/
module

public import proofs.«01_k».proof.Proof.Printed.Pieces

@[expose] public section

set_option maxRecDepth 16384

noncomputable section

namespace Cert.Proof.Printed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (c : Dev nD) (XW : Buf (Elt F) ((c : Thread nD τ).loc main_arg1))

abbrev wFlyP (p : ℕ) : sProp 𝕄 := iprop(∃ f, wFlightP c XW p f)

/-- Before trip `k`. -/
def inv1 (k : ℕ) : sProp 𝕄 :=
  iprop(bigSep (Finset.Ico 0 k) (wFlyP c XW) ∗ bigSep (Finset.Ico k 20) (wFreeP c) ∗ bigSep (Finset.Ico k 28) (wHomeP c XW)
    ∗ ∃ W, owes (c : Thread nD τ) 0 W)

abbrev trip1 (k : Fin k0_t1_loop.trips) : Prog (TpuEff nD τ sig (Elt F) Λ₀ .tc) Unit :=
  k0_t1_body (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 k ()

theorem trips1 : k0_t1_loop.trips = 20 := by decide +kernel

theorem trip1_run (k : Fin k0_t1_loop.trips) :
    inv1 c XW k.val ⊢ wp frame (wpE (defs₀ (F := F)) 𝒱₀ (c : Thread nD τ) none) Set.univ (trip1 k) (fun _ => inv1 c XW (k.val + 1)) := by
  have hk : k.val < 20 := lt_of_lt_of_eq k.isLt trips1
  unfold inv1
  rw [bigSep_Ico_take k.val 20 hk, bigSep_Ico_take k.val 28 (by omega), bigSep_Ico_put 0 k.val (by omega)]
  iintro ⟨Hfly, ⟨⟨⟨%f, Hs⟩, Hc⟩, Hfree⟩, ⟨Hh, Hhome⟩, ⟨%W, HW⟩⟩
  dsimp only [trip1]
  sl_unfold [k0_t1_body]
  sl_exec
  sl_step
  isplitl [Hfly Hc]
  · isplitl [Hc]
    · iexists f; iexact Hc
    iexact Hfly
  isplitl [Hfree]; · iexact Hfree
  isplitl [Hhome]; · iexact Hhome
  iexists _; iexact HW

set_option warn.classDefReducibility false in
@[sl_loop] def loopInv1 :
    LoopInvTy_k0_t1 (F := F) Unit ℕ (UU nD τ) ℕ 𝒱₀ c none Set.univ (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 where
  inv k _ := inv1 c XW k
  step k _ := trip1_run c XW k

end Cert.Proof.Printed

end
-- ==== Proof.Printed.Body.lean ====
/-
  The whole kernel, run.
-/
module

public import proofs.«01_k».proof.Proof.Printed.Vals
public import proofs.«01_k».proof.Proof.Printed.Loop1
public import proofs.«01_k».proof.Proof.Printed.Loop3
public import Idealize.ShloMosaic.Lib.VecWindow

@[expose] public section

set_option maxRecDepth 16384

noncomputable section

namespace Cert.Proof.Printed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (c : Dev nD) (XW : Buf (Elt F) ((c : Thread nD τ).loc main_arg1)) (Y0 : Buf (Elt F) ((c : Thread nD τ).loc main_v4_0))
  (X : (Buf (Elt F) ((Memref.whole main_v0).view.loc (c : Thread nD τ)))) (WS : (Buf (Elt F) ((Memref.whole main_v1).view.loc (c : Thread nD τ)))) (C : (Buf (Elt F) ((Memref.whole main_v2).view.loc (c : Thread nD τ)))) (DD : (Buf (Elt F) ((Memref.whole main_arg4).view.loc (c : Thread nD τ)))) (DU : (Buf (Elt F) ((Memref.whole main_v3).view.loc (c : Thread nD τ))))

abbrev sCellP (s : Fin 4) : sProp 𝕄 := semVal ((c : Thread nD τ), SemLoc.dma (sSem s).sem) 0
abbrev oCellP (s : Fin 2) : sProp 𝕄 := semVal ((c : Thread nD τ), SemLoc.dma (oSem s).sem) 0
abbrev xCellP : sProp 𝕄 := semVal ((c : Thread nD τ), SemLoc.dma (SemArray.sem cc0_scratch16)) 0

theorem fly_role : bigSep (Finset.Ico 0 k0_t1_loop.trips) (wFlyP c XW) ⊢ bigSep (Finset.Ico 0 (0 + 20)) (wRole c XW) := by
  rw [trips1]
  refine Entails.of_eq (bigSep_congr fun p hp => ?_)
  rw [wRole_lt c XW p (by have := Finset.mem_Ico.mp hp; omega)]
theorem home_rest : bigSep (Finset.Ico k0_t1_loop.trips 28) (wHomeP c XW) ⊢ bigSep (Finset.Ico (0 + 20) 28) (wHomeP c XW) := by
  rw [trips1]
theorem free_none : bigSep (Finset.Ico k0_t1_loop.trips 20) (wFreeP c) ⊢ (BI.emp : sProp 𝕄) := by
  rw [trips1, bigSep_Ico_empty 20 20 le_rfl]
theorem yfree_role (T : TileVal F) : bigSep (Finset.Ico 0 3) (yFreeP c) ⊢ bigSep (Finset.Ico 0 (0 + 3)) (yRole c Y0 T) := by
  refine Entails.of_eq (bigSep_congr fun p hp => ?_)
  rw [yRole_lt c Y0 T p (by have := Finset.mem_Ico.mp hp; omega)]
theorem none_any (Φ : ℕ → sProp 𝕄) (n : ℕ) : (BI.emp : sProp 𝕄) ⊢ bigSep (Finset.Ico n n) Φ := by
  rw [bigSep_Ico_empty n n le_rfl]

theorem ring_turn (Φ : ℕ → sProp 𝕄) (m : ℕ) (hΦ : ∀ n, Φ (n + m) = Φ n) (n : ℕ) : bigSep (Finset.Ico n (n + m)) Φ = bigSep (Finset.Ico 0 (0 + m)) Φ := by
  induction n with
  | zero => rfl
  | succ n ih =>
    rcases Nat.eq_zero_or_pos m with h0 | h0
    · subst h0; rw [bigSep_Ico_empty _ _ (by omega), bigSep_Ico_empty _ _ (by omega)]
    · rw [← ih, bigSep_Ico_take n (n + m) (by omega), show n + 1 + m = n + m + 1 by omega, bigSep_Ico_put (n + 1) (n + m) (by omega), hΦ]
theorem role_free : bigSep (Finset.Ico k0_t3_loop.trips (k0_t3_loop.trips + 20)) (wRole c XW) ⊢ bigSep (Finset.Ico 0 20) (wFreeP c) := by
  rw [trips3]
  have e : bigSep (Finset.Ico 28 (28 + 20)) (wRole c XW) = bigSep (Finset.Ico 28 (28 + 20)) (wFreeP c) :=
    bigSep_congr fun p hp => wRole_ge c XW p (Finset.mem_Ico.mp hp).1
  rw [e, ring_turn (wFreeP c) 20 (fun n => by simp only [wFreeP, wSlotP, wCellP]; rw [wSlot_turn, wSem_turn]) 28]
theorem yrole_tail (T T' : TileVal F) (hT : T = T') : bigSep (Finset.Ico k0_t3_loop.trips (k0_t3_loop.trips + 3)) (yRole c Y0 T)
    ⊢ iprop((∃ f, ⌜(ySlot 25).view.read (Elt F) f = T' 25⌝ ∗ yFlightP c Y0 25 25 f) ∗ (∃ f, ⌜(ySlot 26).view.read (Elt F) f = T' 26⌝ ∗ yFlightP c Y0 26 26 f)
      ∗ ∃ f, ⌜(ySlot 27).view.read (Elt F) f = T' 27⌝ ∗ yFlightP c Y0 27 27 f) := by
  subst hT
  rw [trips3, bigSep_Ico_take 28 (28 + 3) (by omega), bigSep_Ico_take (28 + 1) (28 + 3) (by omega), bigSep_Ico_take (28 + 1 + 1) (28 + 3) (by omega), bigSep_Ico_empty _ _ (by omega)]
  rw [show 28 = 25 + 3 by rfl, yRole_turn, show 25 + 3 + 1 = 26 + 3 by rfl, yRole_turn, show 26 + 3 + 1 = 27 + 3 by rfl, yRole_turn]
  iintro ⟨A, B, C, -⟩
  isplitl [A]
  · iexact A
  isplitl [B]
  · iexact B
  iexact C

theorem done_convert (T T' : TileVal F) (hT : T = T') : bigSep (Finset.Ico 0 (k0_t3_loop.trips - 3)) (yDoneP c T) ⊢ bigSep (Finset.Ico 0 25) (yDoneP c T') := by
  subst hT; rw [trips3]
theorem done_join (T : TileVal F) : iprop(yDoneP c T 27 ∗ yDoneP c T 26 ∗ yDoneP c T 25 ∗ bigSep (Finset.Ico 0 25) (yDoneP c T)) ⊢ bigSep (Finset.Ico 0 28) (yDoneP c T) := by
  rw [show 28 = 25 + 1 + 1 + 1 by rfl, bigSep_Ico_put 0 (25 + 1 + 1) (by omega), bigSep_Ico_put 0 (25 + 1) (by omega), bigSep_Ico_put 0 25 (by omega)]
theorem home_all : bigSep (Finset.Ico 0 k0_t3_loop.trips) (wHomeP c XW) ⊢ bigSep (Finset.Ico 0 28) (wHomeP c XW) := by rw [trips3]
theorem yfree_all : (iprop(yFreeP c 25 ∗ yFreeP c 26 ∗ yFreeP c 27) : sProp 𝕄) ⊢ bigSep (Finset.Ico 0 3) (yFreeP c) := by
  have h : (iprop(yFreeP c 25 ∗ yFreeP c 26 ∗ yFreeP c 27) : sProp 𝕄) ⊢ bigSep (Finset.Ico 25 (25 + 3)) (yFreeP c) := by
    rw [bigSep_Ico_take 25 (25 + 3) (by omega), bigSep_Ico_take (25 + 1) (25 + 3) (by omega), bigSep_Ico_take (25 + 1 + 1) (25 + 3) (by omega), bigSep_Ico_empty _ _ (by omega)]
    iintro ⟨A, B, C⟩
    isplitl [A]; · iexact A
    isplitl [B]; · iexact B
    isplitl [C]; · iexact C
    iempintro
  rw [ring_turn (yFreeP c) 3 (fun n => by simp only [yFreeP, ySlotP, yCellP]; rw [ySlot_turn, ySem_turn]) 25] at h
  exact h
/-- The two halves of a buffer's share, held at contents that read alike, are the whole of it. -/
theorem halves_join {sp : Space} {s : Shape} {e : EltTy} (m : Memref sig .tc sp s e) (f g : Buf (Elt F) (m.view.loc (c : Thread nD τ))) (X : s.Idx → Elt F e)
    (hf : m.view.read (Elt F) f = X) (hg : m.view.read (Elt F) g = X) :
    iprop((m.view.loc (c : Thread nD τ) ↦[m.view.set]{fullShare.left} f) ∗ (m.view.loc (c : Thread nD τ) ↦[m.view.set]{fullShare.right} g))
      ⊢ (m.view.loc (c : Thread nD τ) ↦[m.view.set]{fullShare} m.view.rep X : sProp 𝕄) := by
  iintro ⟨A, B⟩
  ihave A2 := (pointsTo_rep_of_read (c : Thread nD τ) m f fullShare.left X hf) $$ A
  ihave B2 := (pointsTo_rep_of_read (c : Thread nD τ) m g fullShare.right X hg) $$ B
  ihave H := (pointsTo_share (PosShare.mem_left_op_right fullShare)).2 $$ [A2 B2]
  · isplitl [A2]; · iexact A2
    iexact B2
  iexact H
/-- A load of all of a buffer whose list of writes reads `V` is `V`. -/
theorem readCov_full_of_read {s : Shape} {e : EltTy} {sp : Space} (v : View sig .tc sp s e) (L : List (View.Piece (Elt F) s e)) (V : s.Idx → Elt F e)
    (h : v.read (Elt F) (v.writes (Elt F) v.junk L) = V) {off : Fin s.rank → ℕ} (inb : ∀ a, off a + s.size a ≤ s.size a) :
    v.readCov L (Rect.unit off s.size inb).toLoadRect = V := by
  rw [readCov_of_read v L V h]
  funext y
  refine congrArg V (funext fun a => Fin.ext ?_)
  rw [LoadRect.idx_apply]
  show off a + 1 * (y a).val = (y a).val
  have := inb a
  omega

/-- Two readings that agree wherever `P` holds agree when it holds everywhere. -/
theorem all_of {α : Type} {s : Shape} {V W : s.Idx → α} (P : s.Idx → Prop) (hP : ∀ y, P y) (h : ∀ y, P y → V y = W y) : V = W :=
  funext fun y => h y (hP y)

abbrev rX (X : (Buf (Elt F) ((Memref.whole main_v0).view.loc (c : Thread nD τ)))) : S256x3072.Idx → Elt F .bf16 := (Memref.whole main_v0).view.read (Elt F) X

set_option maxHeartbeats 8000000 in
set_option sl_exec.lendShare "H1" in
theorem body_run (fc : (Buf (Elt F) ((Memref.whole main_v4_1).view.loc (c : Thread nD τ)))) (fs : (Buf (Elt F) ((Memref.whole main_v4_2).view.loc (c : Thread nD τ)))) (f0 : (Buf (Elt F) ((Memref.whole cc0_scratch0).view.loc (c : Thread nD τ)))) (f1 : (Buf (Elt F) ((Memref.whole cc0_scratch1).view.loc (c : Thread nD τ)))) (f3 : (Buf (Elt F) ((Memref.whole cc0_scratch3).view.loc (c : Thread nD τ)))) (f4 : (Buf (Elt F) ((Memref.whole cc0_scratch4).view.loc (c : Thread nD τ)))) (f5 : (Buf (Elt F) ((Memref.whole cc0_scratch5).view.loc (c : Thread nD τ)))) (f6 : (Buf (Elt F) ((Memref.whole cc0_scratch6).view.loc (c : Thread nD τ)))) (f7 : (Buf (Elt F) ((Memref.whole cc0_scratch7).view.loc (c : Thread nD τ)))) (f8 : (Buf (Elt F) ((Memref.whole cc0_scratch8).view.loc (c : Thread nD τ)))) (f9 : (Buf (Elt F) ((Memref.whole cc0_scratch9).view.loc (c : Thread nD τ)))) (f10 : (Buf (Elt F) ((Memref.whole cc0_scratch10).view.loc (c : Thread nD τ)))) (f11 : (Buf (Elt F) ((Memref.whole cc0_scratch11).view.loc (c : Thread nD τ)))) (f12 : (Buf (Elt F) ((Memref.whole cc0_scratch12).view.loc (c : Thread nD τ)))) (f13 : (Buf (Elt F) ((Memref.whole cc0_scratch13).view.loc (c : Thread nD τ)))) (f14 : (Buf (Elt F) ((Memref.whole cc0_scratch14).view.loc (c : Thread nD τ)))) :
    iprop(((Memref.whole main_v0).view.loc (c : Thread nD τ) ↦[(Memref.whole main_v0).view.set]{fullShare} X)
      ∗ ((Memref.whole main_v1).view.loc (c : Thread nD τ) ↦[(Memref.whole main_v1).view.set]{fullShare} WS)
      ∗ ((Memref.whole main_v2).view.loc (c : Thread nD τ) ↦[(Memref.whole main_v2).view.set]{fullShare} C)
      ∗ ((Memref.whole main_arg4).view.loc (c : Thread nD τ) ↦[(Memref.whole main_arg4).view.set]{fullShare} DD)
      ∗ ((Memref.whole main_v3).view.loc (c : Thread nD τ) ↦[(Memref.whole main_v3).view.set]{fullShare} DU)
      ∗ ((Memref.whole main_v4_1).view.loc (c : Thread nD τ) ↦[(Memref.whole main_v4_1).view.set]{fullShare} fc)
      ∗ ((Memref.whole main_v4_2).view.loc (c : Thread nD τ) ↦[(Memref.whole main_v4_2).view.set]{fullShare} fs)
      ∗ ((Memref.whole cc0_scratch0).view.loc (c : Thread nD τ) ↦[(Memref.whole cc0_scratch0).view.set]{fullShare} f0)
      ∗ ((Memref.whole cc0_scratch1).view.loc (c : Thread nD τ) ↦[(Memref.whole cc0_scratch1).view.set]{fullShare} f1)
      ∗ ((Memref.whole cc0_scratch3).view.loc (c : Thread nD τ) ↦[(Memref.whole cc0_scratch3).view.set]{fullShare} f3)
      ∗ ((Memref.whole cc0_scratch4).view.loc (c : Thread nD τ) ↦[(Memref.whole cc0_scratch4).view.set]{fullShare} f4)
      ∗ ((Memref.whole cc0_scratch5).view.loc (c : Thread nD τ) ↦[(Memref.whole cc0_scratch5).view.set]{fullShare} f5)
      ∗ ((Memref.whole cc0_scratch6).view.loc (c : Thread nD τ) ↦[(Memref.whole cc0_scratch6).view.set]{fullShare} f6)
      ∗ ((Memref.whole cc0_scratch7).view.loc (c : Thread nD τ) ↦[(Memref.whole cc0_scratch7).view.set]{fullShare} f7)
      ∗ ((Memref.whole cc0_scratch8).view.loc (c : Thread nD τ) ↦[(Memref.whole cc0_scratch8).view.set]{fullShare} f8)
      ∗ ((Memref.whole cc0_scratch9).view.loc (c : Thread nD τ) ↦[(Memref.whole cc0_scratch9).view.set]{fullShare} f9)
      ∗ ((Memref.whole cc0_scratch10).view.loc (c : Thread nD τ) ↦[(Memref.whole cc0_scratch10).view.set]{fullShare} f10)
      ∗ ((Memref.whole cc0_scratch11).view.loc (c : Thread nD τ) ↦[(Memref.whole cc0_scratch11).view.set]{fullShare} f11)
      ∗ ((Memref.whole cc0_scratch12).view.loc (c : Thread nD τ) ↦[(Memref.whole cc0_scratch12).view.set]{fullShare} f12)
      ∗ ((Memref.whole cc0_scratch13).view.loc (c : Thread nD τ) ↦[(Memref.whole cc0_scratch13).view.set]{fullShare} f13)
      ∗ ((Memref.whole cc0_scratch14).view.loc (c : Thread nD τ) ↦[(Memref.whole cc0_scratch14).view.set]{fullShare} f14)
      ∗ xCellP c
      ∗ sCellP c 0
      ∗ sCellP c 1
      ∗ sCellP c 2
      ∗ sCellP c 3
      ∗ oCellP c 0
      ∗ oCellP c 1
      ∗ bigSep (Finset.Ico 0 20) (wFreeP c)
      ∗ bigSep (Finset.Ico 0 28) (wHomeP c XW)
      ∗ bigSep (Finset.Ico 0 3) (yFreeP c)
      ∗ bigSep (Finset.Ico 0 28) (yStartP c Y0)
      ∗ ∃ W, owes (c : Thread nD τ) 0 W)
    ⊢ wp frame (wpE (defs₀ (F := F)) 𝒱₀ (c : Thread nD τ) none) Set.univ (cc0_fp8_lokr (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20) (fun _ => iprop(((Memref.whole main_v0).view.loc (c : Thread nD τ) ↦[(Memref.whole main_v0).view.set]{fullShare} X)
      ∗ ((Memref.whole main_v1).view.loc (c : Thread nD τ) ↦[(Memref.whole main_v1).view.set]{fullShare} WS)
      ∗ ((Memref.whole main_v2).view.loc (c : Thread nD τ) ↦[(Memref.whole main_v2).view.set]{fullShare} C)
      ∗ ((Memref.whole main_arg4).view.loc (c : Thread nD τ) ↦[(Memref.whole main_arg4).view.set]{fullShare} DD)
      ∗ ((Memref.whole main_v3).view.loc (c : Thread nD τ) ↦[(Memref.whole main_v3).view.set]{fullShare} DU)
      ∗ (∃ g, ⌜(Memref.whole main_v4_1).view.read (Elt F) g = xcV (rX c X)⌝ ∗ ((Memref.whole main_v4_1).view.loc (c : Thread nD τ) ↦[(Memref.whole main_v4_1).view.set]{fullShare} g))
      ∗ (∃ g, ⌜(Memref.whole main_v4_2).view.read (Elt F) g = xsV (rX c X)⌝ ∗ ((Memref.whole main_v4_2).view.loc (c : Thread nD τ) ↦[(Memref.whole main_v4_2).view.set]{fullShare} g))
      ∗ (∃ f, ((Memref.whole cc0_scratch0).view.loc (c : Thread nD τ) ↦[(Memref.whole cc0_scratch0).view.set]{fullShare} f))
      ∗ (∃ f, ((Memref.whole cc0_scratch1).view.loc (c : Thread nD τ) ↦[(Memref.whole cc0_scratch1).view.set]{fullShare} f))
      ∗ (∃ f, ((Memref.whole cc0_scratch3).view.loc (c : Thread nD τ) ↦[(Memref.whole cc0_scratch3).view.set]{fullShare} f))
      ∗ (∃ f, ((Memref.whole cc0_scratch4).view.loc (c : Thread nD τ) ↦[(Memref.whole cc0_scratch4).view.set]{fullShare} f))
      ∗ (∃ f, ((Memref.whole cc0_scratch5).view.loc (c : Thread nD τ) ↦[(Memref.whole cc0_scratch5).view.set]{fullShare} f))
      ∗ (∃ f, ((Memref.whole cc0_scratch6).view.loc (c : Thread nD τ) ↦[(Memref.whole cc0_scratch6).view.set]{fullShare} f))
      ∗ (∃ f, ((Memref.whole cc0_scratch7).view.loc (c : Thread nD τ) ↦[(Memref.whole cc0_scratch7).view.set]{fullShare} f))
      ∗ (∃ f, ((Memref.whole cc0_scratch8).view.loc (c : Thread nD τ) ↦[(Memref.whole cc0_scratch8).view.set]{fullShare} f))
      ∗ (∃ f, ((Memref.whole cc0_scratch9).view.loc (c : Thread nD τ) ↦[(Memref.whole cc0_scratch9).view.set]{fullShare} f))
      ∗ (∃ f, ((Memref.whole cc0_scratch10).view.loc (c : Thread nD τ) ↦[(Memref.whole cc0_scratch10).view.set]{fullShare} f))
      ∗ (∃ f, ((Memref.whole cc0_scratch11).view.loc (c : Thread nD τ) ↦[(Memref.whole cc0_scratch11).view.set]{fullShare} f))
      ∗ (∃ f, ((Memref.whole cc0_scratch12).view.loc (c : Thread nD τ) ↦[(Memref.whole cc0_scratch12).view.set]{fullShare} f))
      ∗ (∃ f, ((Memref.whole cc0_scratch13).view.loc (c : Thread nD τ) ↦[(Memref.whole cc0_scratch13).view.set]{fullShare} f))
      ∗ (∃ f, ((Memref.whole cc0_scratch14).view.loc (c : Thread nD τ) ↦[(Memref.whole cc0_scratch14).view.set]{fullShare} f))
      ∗ xCellP c
      ∗ sCellP c 0
      ∗ sCellP c 1
      ∗ sCellP c 2
      ∗ sCellP c 3
      ∗ oCellP c 0
      ∗ oCellP c 1
      ∗ bigSep (Finset.Ico 0 20) (wFreeP c)
      ∗ bigSep (Finset.Ico 0 28) (wHomeP c XW)
      ∗ bigSep (Finset.Ico 0 3) (yFreeP c)
      ∗ bigSep (Finset.Ico 0 28) (yDoneP c (yV (rX c X) (wM.view.read (Elt F) XW) ((Memref.whole main_v1).view.read (Elt F) WS) ((Memref.whole main_v2).view.read (Elt F) C) ((Memref.whole main_arg4).view.read (Elt F) DD) ((Memref.whole main_v3).view.read (Elt F) DU)))
      ∗ ∃ W, owes (c : Thread nD τ) 0 W)) := by
  iintro ⟨Hx, Hws, Hc, Hdd, Hdu, Hxc, Hxs, H0, H1, H3, H4, H5, H6, H7, H8, H9, H10, H11, H12, H13, H14, Cx, C0, C1, C2, C3, O0, O1, Hwf, Hwh, Hyf, Hys, ⟨%W, HW⟩⟩
  ihave Hfly : (bigSep (Finset.Ico 0 0) (wFlyP c XW)) $$ []
  · rw [bigSep_Ico_empty 0 0 le_rfl]; iempintro
  irw [cc0_fp8_lokr_eq_skeleton]
  sl_unfold [cc0_fp8_lokr_skel, k0_part20_eq_skeleton, k0_part20_skel, k0_part2_eq_skeleton, k0_part2_skel]
  sl_exec
  have hx : ∀ (B : LoadRect S256x3072), (Memref.whole cc0_scratch0).view.readCov [⟨Rect.whole cc0_scratch0.ty.shape, body_run.sl.dma0 c X⟩] B = fun y => rX c X (B.idx y) :=
    fun B => readCov_whole _ _ B
  have hx0 : body_run.sl.v348 c X = rX c X := readCov_full_of_read _ _ _ (View.read_writes_whole _ _ _) _
  have hfq : ∀ f, xqM.view.read (Elt F) (xqM.view.writes (Elt F) f (body_run.sl.H1_1 c X)) = xcV (rX c X) := fun f => by
    refine (View.read_writes_full _ f _ _ _).trans ?_
    show k0_pay54 (body_run.sl.v348 c X) (k0_pay53 (k0_pay48 (k0_pay47 (body_run.sl.v348 c X))) (k0_pay49 (k0_pay47 (body_run.sl.v348 c X))) (k0_pay50 (k0_pay47 (body_run.sl.v348 c X)))) = _
    rw [hx0]; rfl
  have hscl : body_run.sl.r_10 c X = sclV (rX c X) := by
    show k0_pay52 (k0_pay48 (k0_pay47 (body_run.sl.v348 c X))) (k0_pay49 (k0_pay47 (body_run.sl.v348 c X))) (k0_pay50 (k0_pay47 (body_run.sl.v348 c X))) = _
    rw [hx0]; rfl
  have h13 : (Memref.whole cc0_scratch13).view.read (Elt F) ((Memref.whole cc0_scratch13).view.writes (Elt F) (Memref.whole cc0_scratch13).view.junk (body_run.sl.H13_1 c X)) = k0_pay55 (sclV (rX c X)) := by
    refine (View.read_writes_full _ _ _ _ _).trans ?_
    rw [hscl]
  have hv636 : body_run.sl.r_13 c X = k0_pay80 (k0_pay55 (sclV (rX c X))) :=
    congrArg (k0_pay80 (F := F)) (readCov_full_of_read _ _ _ h13 _)
  have hxs : ∀ f, xsM.view.read (Elt F) (xsM.view.writes (Elt F) f (body_run.sl.H14_2 c X)) = xsV (rX c X) := fun f => by
    refine all_of (fun y : S2x128.Idx => (y 0).val < 1 + 1) (fun y => (y 0).isLt) ?_
    refine xs_push _ 1 _ (by decide) _ (congrArg (k0_pay57 (F := F)) (readCov_of_read _ _ _ h13 _)) _ _ ?_
    refine xs_push _ 0 _ (by decide) _ (congrArg (k0_pay56 (F := F)) (readCov_of_read _ _ _ h13 _)) _ _ ?_
    intro y hy; exact absurd hy (Nat.not_lt_zero _)
  have hrd : rdM.view.read (Elt F) (rdM.view.writes (Elt F) rdM.view.junk (body_run.sl.H7_5 c DD)) = rdV ((Memref.whole main_arg4).view.read (Elt F) DD) := by
    have hw : body_run.sl.v28 c DD = (Memref.whole main_arg4).view.read (Elt F) DD := (shapeCast_self _ _).trans (readCov_full_of_read _ _ _ (View.read_writes_whole _ _ _) _)
    refine all_of (fun y : S256x768.Idx => ¬ ((y 1).val / 192 = (y 0).val / 64 ∧ (y 0).val % 64 < 40 ∧ 3 + 1 ≤ (y 0).val / 64)) (fun y => by have h : (y 0).val < 256 := (y 0).isLt; omega) ?_
    refine rd_push _ 3 _ _ hw _ _ ?_
    refine rd_push _ 2 _ _ hw _ _ ?_
    refine rd_push _ 1 _ _ hw _ _ ?_
    refine rd_push _ 0 _ _ hw _ _ ?_
    exact rd_base _ _ _
  have hru : ruM.view.read (Elt F) (ruM.view.writes (Elt F) ruM.view.junk (body_run.sl.H8_3 c DU)) = ruV ((Memref.whole main_v3).view.read (Elt F) DU) := by
    have hw : body_run.sl.v41 c DU = shapeCast S1x40x512 ((Memref.whole main_v3).view.read (Elt F) DU) shapeCasts_S40x512_S1x40x512 :=
      congrArg (fun z => shapeCast S1x40x512 z shapeCasts_S40x512_S1x40x512) (readCov_full_of_read (Memref.whole cc0_scratch6).view _ _ (View.read_writes_whole _ _ _) _)
    refine all_of (fun y : S2x128x512.Idx => ¬ ((y 1).val / 64 = (y 0).val ∧ (y 1).val % 64 < 40 ∧ 1 + 1 ≤ (y 0).val)) (fun y => by have h : (y 0).val < 2 := (y 0).isLt; omega) ?_
    refine ru_push _ 1 _ _ hw _ _ ?_
    refine ru_push _ 0 _ _ hw _ _ ?_
    exact ru_base _ _ _
  have ht1 : t1M.view.read (Elt F) (t1M.view.writes (Elt F) t1M.view.junk (body_run.sl.H10_4 c X DD)) = t1V (rX c X) (rdV ((Memref.whole main_arg4).view.read (Elt F) DD)) := by
    have h479 : body_run.sl.v479 c DD = rdV ((Memref.whole main_arg4).view.read (Elt F) DD) := readCov_full_of_read _ _ _ hrd _
    refine all_of (fun y : S256x1024.Idx => (y 1).val < 256 * 4) (fun y => (y 1).isLt) ?_
    iterate 4
      refine t1_push _ _ _ _ (by decide) _ (congr (congrArg (k0_pay58 (F := F)) (hx _)) h479) _ _ ?_
    intro y hy; exact absurd hy (Nat.not_lt_zero _)
  have ht : tM.view.read (Elt F) (tM.view.writes (Elt F) tM.view.junk (body_run.sl.H11_16 c X DD DU))
      = tV (t1V (rX c X) (rdV ((Memref.whole main_arg4).view.read (Elt F) DD))) (ruV ((Memref.whole main_v3).view.read (Elt F) DU)) := by
    refine all_of (fun y : S16x256x512.Idx => (y 0).val < 16) (fun y => (y 0).isLt) ?_
    iterate 16
      refine t_push _ _ _ _ (by decide) (by decide) _ _ ht1 _ hru rfl _ _ ?_
    intro y hy; exact absurd hy (Nat.not_lt_zero _)
  have hkc : kcM.view.read (Elt F) (kcM.view.writes (Elt F) kcM.view.junk (body_run.sl.H9_28 c C)) = kcV (k76V ((Memref.whole main_v2).view.read (Elt F) C)) := by
    have hr : body_run.sl.r c C = k76V ((Memref.whole main_v2).view.read (Elt F) C) := by
      have h72 : body_run.sl.v72 c C = (Memref.whole main_v2).view.read (Elt F) C := readCov_full_of_read _ _ _ (View.read_writes_whole _ _ _) _
      exact congrArg (k76V (F := F)) h72
    rw [← hr]
    refine all_of (fun y : S448x256.Idx => (y 0).val < 16 * 28) (fun y => (y 0).isLt) ?_
    iterate 28
      refine kc_push _ _ _ (by decide) _ rfl _ _ ?_
    intro y hy; exact absurd hy (Nat.not_lt_zero _)
  have hu0 : ∀ i : S28x256x512.Idx, (i 1).val < 16 * k0_t2_loop.trips → uM.view.read (Elt F) fuL1 i
      = uVal (tM.view.read (Elt F) (tM.view.writes (Elt F) tM.view.junk (body_run.sl.H11_16 c X DD DU))) (kcM.view.read (Elt F) (kcM.view.writes (Elt F) kcM.view.junk (body_run.sl.H9_28 c C))) i := by assumption
  have hu : uM.view.read (Elt F) fuL1 = uV (rX c X) ((Memref.whole main_v2).view.read (Elt F) C) ((Memref.whole main_arg4).view.read (Elt F) DD) ((Memref.whole main_v3).view.read (Elt F) DU) := by
    funext i
    rw [hu0 i (by rw [trips2]; exact (i 1).isLt), ht, hkc]; rfl
  have hT : T3 c XW ((Memref.whole cc0_scratch1).view.writes (Elt F) (Memref.whole cc0_scratch1).view.junk (body_run.sl.H1_1 c X))
      ((Memref.whole cc0_scratch3).view.writes (Elt F) (Memref.whole cc0_scratch3).view.junk [⟨Rect.whole cc0_scratch3.ty.shape, body_run.sl.dma0_4 c WS⟩]) fuL1 (body_run.sl.r_13 c X)
      = yV (rX c X) (wM.view.read (Elt F) XW) ((Memref.whole main_v1).view.read (Elt F) WS) ((Memref.whole main_v2).view.read (Elt F) C) ((Memref.whole main_arg4).view.read (Elt F) DD) ((Memref.whole main_v3).view.read (Elt F) DU) := by
    show tileVal _ _ _ _ _ = _
    rw [hfq, hu, hv636]
    refine congrArg (fun z => tileVal _ _ z _ _) ?_
    exact View.read_writes_whole _ _ _
  ihave Ha := (fly_role c XW) $$ Hfly
  ihave Hb := (home_rest c XW) $$ Hwh
  ihave Hc2 := (free_none c) $$ Hwf
  ihave Hd : (bigSep (Finset.Ico 0 0) (wHomeP c XW)) $$ []
  · rw [bigSep_Ico_empty 0 0 le_rfl]; iempintro
  ihave He := (yfree_role c Y0 (T3 c XW ((Memref.whole cc0_scratch1).view.writes (Elt F) (Memref.whole cc0_scratch1).view.junk (body_run.sl.H1_1 c X))
    ((Memref.whole cc0_scratch3).view.writes (Elt F) (Memref.whole cc0_scratch3).view.junk [⟨Rect.whole cc0_scratch3.ty.shape, body_run.sl.dma0_4 c WS⟩]) fuL1 (body_run.sl.r_13 c X))) $$ Hyf
  ihave Hg : (bigSep (Finset.Ico 0 (0 - 3)) (yDoneP c (T3 c XW ((Memref.whole cc0_scratch1).view.writes (Elt F) (Memref.whole cc0_scratch1).view.junk (body_run.sl.H1_1 c X))
    ((Memref.whole cc0_scratch3).view.writes (Elt F) (Memref.whole cc0_scratch3).view.junk [⟨Rect.whole cc0_scratch3.ty.shape, body_run.sl.dma0_4 c WS⟩]) fuL1 (body_run.sl.r_13 c X)))) $$ []
  · rw [bigSep_Ico_empty 0 (0 - 3) le_rfl]; iempintro
  sl_exec
  ihave He2 := (yrole_tail c Y0 _ _ hT) $$ He
  icases He2 with ⟨⟨%f25, %h25, F25⟩, ⟨%f26, %h26, F26⟩, ⟨%f27, %h27, F27⟩⟩
  unfold yFlightP
  sl_exec
  sl_step
  ihave Hg2 := (done_convert c _ _ hT) $$ Hg
  ihave H1b := (halves_join c (Memref.whole cc0_scratch1) _ _ (xcV (rX c X)) (hfq _) (hfq _)) $$ [H1 H1_lend]
  · isplitl [H1]; · iexact H1
    iexact H1_lend
  isplitl [Hx]; · iexact Hx
  isplitl [Hws]; · iexact Hws
  isplitl [Hc]; · iexact Hc
  isplitl [Hdd]; · iexact Hdd
  isplitl [Hdu]; · iexact Hdu
  isplitl [Hxc]
  · iexists _
    isplitr
    swap
    · iexact Hxc
    ipureintro
    exact (View.read_writes_whole _ _ _).trans (hfq _)
  isplitl [Hxs]
  · iexists _
    isplitr
    swap
    · iexact Hxs
    ipureintro
    exact (View.read_writes_whole _ _ _).trans (hxs _)
  isplitl [H0]; · iexists _; iexact H0
  isplitl [H1b]; · iexists _; iexact H1b
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [Cx]; · iexact Cx
  isplitl [C0]; · iexact C0
  isplitl [C1]; · iexact C1
  isplitl [C2]; · iexact C2
  isplitl [C3]; · iexact C3
  isplitl [O0]; · iexact O0
  isplitl [O1]; · iexact O1
  isplitl [Ha]
  · ihave Q := (role_free c XW) $$ Ha
    iexact Q
  isplitl [Hd]
  · ihave Q := (home_all c XW) $$ Hd
    iexact Q
  isplitl [F25 F25_src F26 F26_src F27 F27_src]
  · ihave Q := (yfree_all c) $$ [F25 F25_src F26 F26_src F27 F27_src]
    · isplitl [F25 F25_src]
      · isplitl [F25_src]
        · iexists _; iexact F25_src
        iexact F25
      isplitl [F26 F26_src]
      · isplitl [F26_src]
        · iexists _; iexact F26_src
        iexact F26
      isplitl [F27_src]
      · iexists _; iexact F27_src
      iexact F27
    iexact Q
  isplitl [Hg2 F25_dst F26_dst F27_dst]
  · ihave Q := (done_join c _) $$ [Hg2 F25_dst F26_dst F27_dst]
    · isplitl [F27_dst]
      · unfold yDoneP
        iexists _
        isplitr
        swap
        · iexact F27_dst
        ipureintro
        exact (yTile_landed c Y0 27 27 f27).trans h27
      isplitl [F26_dst]
      · unfold yDoneP
        iexists _
        isplitr
        swap
        · iexact F26_dst
        ipureintro
        exact (yTile_landed c Y0 26 26 f26).trans h26
      isplitl [F25_dst]
      · unfold yDoneP
        iexists _
        isplitr
        swap
        · iexact F25_dst
        ipureintro
        exact (yTile_landed c Y0 25 25 f25).trans h25
      iexact Hg2
    iexact Q
  iexists _; iexact HW

end Cert.Proof.Printed

end
-- ==== Proof.Printed.Split.lean ====
/-
  Buffers held whole, cut into the tiles and slots the kernel moves, and put together again.
-/
module

public import proofs.«01_k».proof.Proof.Printed.Body
public import proofs.«01_k».proof.Proof.Gen.Kernel.Launch
public import Idealize.ShloMosaic.Lib.Ring

@[expose] public section

set_option maxRecDepth 16384

noncomputable section

namespace Cert.Proof.Printed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

open Idealize.ShloMosaic.ValueIdx

/-! ## Families -/

theorem bigSep_Ico_fin (n : ℕ) (Φ : ℕ → sProp 𝕄) : bigSep (Finset.Ico 0 n) Φ = bigSep Finset.univ fun i : Fin n => Φ i.val := by
  have e : Finset.Ico 0 n = Finset.univ.map (Fin.valEmbedding (n := n)) := by
    ext x
    simp only [Finset.mem_Ico, Finset.mem_map, Finset.mem_univ, true_and]
    exact ⟨fun h => ⟨⟨x, h.2⟩, rfl⟩, fun ⟨a, h⟩ => by have := a.isLt; have h2 : a.val = x := h; omega⟩
  rw [e, bigSep_map]; rfl
theorem bigSep_Ico_cut (a b d : ℕ) (h1 : a ≤ b) (h2 : b ≤ d) (Φ : ℕ → sProp 𝕄) :
    bigSep (Finset.Ico a d) Φ = iprop(bigSep (Finset.Ico a b) Φ ∗ bigSep (Finset.Ico b d) Φ) := by
  rw [← Finset.Ico_union_Ico_eq_Ico h1 h2, bigSep_union (Finset.Ico_disjoint_Ico_consecutive a b d)]
  rfl
theorem bigSep_Ico_move (k n : ℕ) (Φ : ℕ → sProp 𝕄) : bigSep (Finset.Ico k (n + k)) Φ = bigSep (Finset.Ico 0 n) fun i => Φ (i + k) := by
  have e : Finset.Ico k (n + k) = (Finset.Ico 0 n).map (addRightEmbedding k) := by
    rw [Finset.map_add_right_Ico]; simp
  rw [e, bigSep_map]; rfl

theorem bigSep_Ico_single (a : ℕ) (Φ : ℕ → sProp 𝕄) : bigSep (Finset.Ico a (a + 1)) Φ = Φ a := by
  rw [Nat.Ico_succ_singleton, bigSep_singleton]

/-- A family of element sets told apart by a key is pairwise disjoint … -/
theorem keyed_disjoint {α : Type} [DecidableEq α] {n : ℕ} (I : Fin n → Finset α) (key : α → ℕ) (h : ∀ b y, y ∈ I b ↔ key y = b.val) :
    ∀ b b' : Fin n, b ≠ b' → Disjoint (I b) (I b') := by
  intro b b' hne; rw [Finset.disjoint_left]; intro y hy hy'; rw [h] at hy hy'; exact hne (Fin.ext (hy.symm.trans hy'))
/-- … and covers when every key is a member's. -/
theorem keyed_cover {α : Type} [DecidableEq α] [Fintype α] {n : ℕ} (I : Fin n → Finset α) (key : α → ℕ) (h : ∀ b y, y ∈ I b ↔ key y = b.val)
    (hk : ∀ y, key y < n) : (Finset.univ : Finset (Fin n)).biUnion I = Finset.univ := by
  ext y; simp only [Finset.mem_biUnion, Finset.mem_univ, true_and, iff_true]; exact ⟨⟨key y, hk y⟩, (h _ _).mpr rfl⟩

/-! ## The element sets -/

abbrev WTileS (b : Fin 28) : Finset S14336x3072.Idx := (Rect.unit (s := S14336x3072) (wTileOff b.val) S512x3072.size (wTileOff_inb b.val)).set
abbrev YTileS (b : Fin 28) : Finset S256x14336.Idx := (Rect.unit (s := S256x14336) (yTileOff b.val) S256x512.size (yTileOff_inb b.val)).set
abbrev WSlotS (b : Fin 20) : Finset S20x512x3072.Idx := (Rect.unit (s := S20x512x3072) (wSlotOff b.val) S1x512x3072.size (wSlotOff_inb b.val)).set
abbrev YSlotS (b : Fin 3) : Finset S3x256x512.Idx := (Rect.unit (s := S3x256x512) (ySlotOff b.val) S1x256x512.size (ySlotOff_inb b.val)).set

theorem mem_WTileS (b : Fin 28) (y : S14336x3072.Idx) : y ∈ WTileS b ↔ (y 0).val / 512 = b.val := by
  have hb := b.isLt
  rw [Rect.mem_set_unit]
  have h1 : (y 1).val < 3072 := (y 1).isLt
  constructor
  · intro H; have a0 : 512 * (b.val % 28) ≤ (y 0).val ∧ (y 0).val < 512 * (b.val % 28) + 512 := H 0; omega
  · intro H i; fin_cases i
    · show 512 * (b.val % 28) ≤ (y 0).val ∧ (y 0).val < 512 * (b.val % 28) + 512; omega
    · show 0 ≤ (y 1).val ∧ (y 1).val < 0 + 3072; omega
theorem mem_YTileS (b : Fin 28) (y : S256x14336.Idx) : y ∈ YTileS b ↔ (y 1).val / 512 = b.val := by
  have hb := b.isLt
  rw [Rect.mem_set_unit]
  have h1 : (y 0).val < 256 := (y 0).isLt
  constructor
  · intro H; have a0 : 512 * (b.val % 28) ≤ (y 1).val ∧ (y 1).val < 512 * (b.val % 28) + 512 := H 1; omega
  · intro H i; fin_cases i
    · show 0 ≤ (y 0).val ∧ (y 0).val < 0 + 256; omega
    · show 512 * (b.val % 28) ≤ (y 1).val ∧ (y 1).val < 512 * (b.val % 28) + 512; omega
theorem mem_WSlotS (b : Fin 20) (y : S20x512x3072.Idx) : y ∈ WSlotS b ↔ (y 0).val = b.val := by
  have hb := b.isLt
  rw [Rect.mem_set_unit]
  have h1 : (y 1).val < 512 := (y 1).isLt
  have h2 : (y 2).val < 3072 := (y 2).isLt
  constructor
  · intro H; have a0 : b.val % 20 ≤ (y 0).val ∧ (y 0).val < b.val % 20 + 1 := H 0; omega
  · intro H i; fin_cases i
    · show b.val % 20 ≤ (y 0).val ∧ (y 0).val < b.val % 20 + 1; omega
    · show 0 ≤ (y 1).val ∧ (y 1).val < 0 + 512; omega
    · show 0 ≤ (y 2).val ∧ (y 2).val < 0 + 3072; omega
theorem mem_YSlotS (b : Fin 3) (y : S3x256x512.Idx) : y ∈ YSlotS b ↔ (y 0).val = b.val := by
  have hb := b.isLt
  rw [Rect.mem_set_unit]
  have h1 : (y 1).val < 256 := (y 1).isLt
  have h2 : (y 2).val < 512 := (y 2).isLt
  constructor
  · intro H; have a0 : b.val % 3 ≤ (y 0).val ∧ (y 0).val < b.val % 3 + 1 := H 0; omega
  · intro H i; fin_cases i
    · show b.val % 3 ≤ (y 0).val ∧ (y 0).val < b.val % 3 + 1; omega
    · show 0 ≤ (y 1).val ∧ (y 1).val < 0 + 256; omega
    · show 0 ≤ (y 2).val ∧ (y 2).val < 0 + 512; omega

theorem wTile_set (b : Fin 28) : (wTile b.val).view.set = WTileS b := View.set_slice_whole _ _
theorem yTile_set (b : Fin 28) : (yTile b.val).view.set = YTileS b := View.set_slice_whole _ _
theorem wSlot_set (b : Fin 20) : (wSlot b.val).view.set = WSlotS b := (View.set_reshape _ _).trans (View.set_slice_whole _ _)
theorem ySlot_set (b : Fin 3) : (ySlot b.val).view.set = YSlotS b := (View.set_reshape _ _).trans (View.set_slice_whole _ _)

theorem wkey_lt (y : S14336x3072.Idx) : (y 0).val / 512 < 28 := by have h : (y 0).val < 14336 := (y 0).isLt; omega
theorem ykey_lt (y : S256x14336.Idx) : (y 1).val / 512 < 28 := by have h : (y 1).val < 14336 := (y 1).isLt; omega

/-! ## Splitting and joining -/

section
variable (c : Dev nD)

/-- The weight whole is its tiles at home. -/
theorem w_tiles (XW : Buf (Elt F) ((c : Thread nD τ).loc main_arg1)) :
    (((c : Thread nD τ).loc main_arg1) ↦{fullShare} XW : sProp 𝕄) = bigSep (Finset.Ico 0 28) (wHomeP c XW) := by
  rw [Ring.pointsTo_blocks (ℓ := (c : Thread nD τ).loc main_arg1) WTileS (keyed_disjoint _ _ mem_WTileS) (keyed_cover _ _ mem_WTileS wkey_lt), bigSep_Ico_fin]
  exact bigSep_congr fun b _ => by rw [← wTile_set]; rfl
/-- The output whole is its tiles. -/
theorem y_tiles (Y0 : Buf (Elt F) ((c : Thread nD τ).loc main_v4_0)) :
    (((c : Thread nD τ).loc main_v4_0) ↦{fullShare} Y0 : sProp 𝕄) = bigSep (Finset.Ico 0 28) (yStartP c Y0) := by
  rw [Ring.pointsTo_blocks (ℓ := (c : Thread nD τ).loc main_v4_0) YTileS (keyed_disjoint _ _ mem_YTileS) (keyed_cover _ _ mem_YTileS ykey_lt), bigSep_Ico_fin]
  exact bigSep_congr fun b _ => by rw [← yTile_set]; rfl

/-- The output assembled from its tiles. -/
def yAll (T : TileVal F) : S256x14336.Idx → Elt F .bf16 := fun i =>
  T ((i 1).val / 512) (ix2 (n0 := 256) (n1 := 512) (i 0) ⟨(i 1).val % 512, Nat.mod_lt _ (by decide)⟩)

theorem yTile_of_read (T : TileVal F) (p : ℕ) (hp : p < 28) (g : Buf (Elt F) ((c : Thread nD τ).loc main_v4_0))
    (h : (yTile p).view.read (Elt F) g = T p) : ∀ i ∈ YTileS ⟨p, hp⟩, g i = yAll T i := by
  intro i hi
  have hk : (i 1).val / 512 = p := (mem_YTileS _ _).mp hi
  have e := congrFun h (ix2 (n0 := 256) (n1 := 512) (i 0) ⟨(i 1).val % 512, Nat.mod_lt _ (by decide)⟩)
  unfold yAll
  rw [hk, ← e]
  show g i = g ((Rect.unit (s := S256x14336) (yTileOff p) S256x512.size (yTileOff_inb p)).emb _)
  refine congrArg g (funext fun a => Fin.ext ?_)
  fin_cases a
  · show (i 0).val = 0 + 1 * (i 0).val; omega
  · show (i 1).val = 512 * (p % 28) + 1 * ((i 1).val % 512)
    rw [Nat.mod_eq_of_lt hp]; omega

theorem y_done_one (T : TileVal F) (p : ℕ) (hp : p < 28) : yDoneP c T p ⊢ yStartP c (yAll T : Buf (Elt F) ((c : Thread nD τ).loc main_v4_0)) p := by
  unfold yDoneP
  iintro ⟨%g, %hg, H⟩
  have e : (yTileP c p g : sProp 𝕄) = yTileP c p (yAll T) := by
    refine pointsTo_congr fun i hi => ?_
    rw [yTile_set ⟨p, hp⟩] at hi
    exact yTile_of_read c T p hp g hg i hi
  ihave H2 := (Entails.of_eq e) $$ H
  iexact H2
/-- The output's tiles, each written, are the output whole at the assembled contents. -/
theorem y_done (T : TileVal F) : bigSep (Finset.Ico 0 28) (yDoneP c T)
    ⊢ (((c : Thread nD τ).loc main_v4_0) ↦{fullShare} (yAll T : Buf (Elt F) ((c : Thread nD τ).loc main_v4_0)) : sProp 𝕄) := by
  rw [y_tiles c (yAll T)]
  exact bigSep_mono fun p hp => y_done_one c T p (Finset.mem_Ico.mp hp).2

theorem ring_out (b : Fin 20) (f : Buf (Elt F) ((c : Thread nD τ).loc cc0_scratch2)) :
    (((c : Thread nD τ).loc cc0_scratch2) ↦[WSlotS b]{fullShare} f : sProp 𝕄) ⊢ iprop(∃ f, wSlotP c b.val f) := by
  rw [← wSlot_set]; iintro H; iexists f; iexact H
theorem ring_in (b : Fin 20) : (iprop(∃ f, wSlotP c b.val f) : sProp 𝕄) ⊢ iprop(∃ f, ((c : Thread nD τ).loc cc0_scratch2) ↦[WSlotS b]{fullShare} f) := by
  rw [← wSlot_set]; iintro ⟨%f, H⟩; iexists f; iexact H
/-- The weight ring whole splits into its slots … -/
theorem ring_split : iprop(∃ f : Buf (Elt F) ((c : Thread nD τ).loc cc0_scratch2), ((c : Thread nD τ).loc cc0_scratch2) ↦{fullShare} f)
    ⊢ (bigSep (Finset.Ico 0 20) (fun p => iprop(∃ f, wSlotP c p f)) : sProp 𝕄) := by
  iintro ⟨%f, H⟩
  have h : (((c : Thread nD τ).loc cc0_scratch2) ↦{fullShare} f : sProp 𝕄) ⊢ bigSep (Finset.Ico 0 20) (fun p => iprop(∃ f, wSlotP c p f)) := by
    rw [bigSep_Ico_fin, Ring.pointsTo_blocks (ℓ := (c : Thread nD τ).loc cc0_scratch2) WSlotS (keyed_disjoint _ _ mem_WSlotS) (keyed_cover _ _ mem_WSlotS fun y => (y 0).isLt)]
    exact bigSep_mono fun b _ => ring_out c b f
  iapply h
  iexact H
/-- … and back. -/
theorem ring_join : (bigSep (Finset.Ico 0 20) (fun p => iprop(∃ f, wSlotP c p f)) : sProp 𝕄)
    ⊢ iprop(∃ f : Buf (Elt F) ((c : Thread nD τ).loc cc0_scratch2), ((c : Thread nD τ).loc cc0_scratch2) ↦{fullShare} f) := by
  have h : (bigSep (Finset.Ico 0 20) (fun p => iprop(∃ f, wSlotP c p f)) : sProp 𝕄)
      ⊢ bigSep Finset.univ (fun b : Fin 20 => iprop(∃ f, ((c : Thread nD τ).loc cc0_scratch2) ↦[WSlotS b]{fullShare} f)) := by
    rw [bigSep_Ico_fin]
    exact bigSep_mono fun b _ => ring_in c b
  iintro H
  iapply (Ring.pointsTo_blocks_join_exists (ℓ := (c : Thread nD τ).loc cc0_scratch2) WSlotS (keyed_disjoint _ _ mem_WSlotS) (keyed_cover _ _ mem_WSlotS fun y => (y 0).isLt) (Classical.arbitrary _))
  iapply h
  iexact H
theorem yring_out (b : Fin 3) (f : Buf (Elt F) ((c : Thread nD τ).loc cc0_scratch15)) :
    (((c : Thread nD τ).loc cc0_scratch15) ↦[YSlotS b]{fullShare} f : sProp 𝕄) ⊢ iprop(∃ f, ySlotP c b.val f) := by
  rw [← ySlot_set]; iintro H; iexists f; iexact H
theorem yring_in (b : Fin 3) : (iprop(∃ f, ySlotP c b.val f) : sProp 𝕄) ⊢ iprop(∃ f, ((c : Thread nD τ).loc cc0_scratch15) ↦[YSlotS b]{fullShare} f) := by
  rw [← ySlot_set]; iintro ⟨%f, H⟩; iexists f; iexact H
/-- The output ring likewise. -/
theorem yring_split : iprop(∃ f : Buf (Elt F) ((c : Thread nD τ).loc cc0_scratch15), ((c : Thread nD τ).loc cc0_scratch15) ↦{fullShare} f)
    ⊢ (bigSep (Finset.Ico 0 3) (fun p => iprop(∃ f, ySlotP c p f)) : sProp 𝕄) := by
  iintro ⟨%f, H⟩
  have h : (((c : Thread nD τ).loc cc0_scratch15) ↦{fullShare} f : sProp 𝕄) ⊢ bigSep (Finset.Ico 0 3) (fun p => iprop(∃ f, ySlotP c p f)) := by
    rw [bigSep_Ico_fin, Ring.pointsTo_blocks (ℓ := (c : Thread nD τ).loc cc0_scratch15) YSlotS (keyed_disjoint _ _ mem_YSlotS) (keyed_cover _ _ mem_YSlotS fun y => (y 0).isLt)]
    exact bigSep_mono fun b _ => yring_out c b f
  iapply h
  iexact H

theorem yring_join : (bigSep (Finset.Ico 0 3) (fun p => iprop(∃ f, ySlotP c p f)) : sProp 𝕄)
    ⊢ iprop(∃ f : Buf (Elt F) ((c : Thread nD τ).loc cc0_scratch15), ((c : Thread nD τ).loc cc0_scratch15) ↦{fullShare} f) := by
  have h : (bigSep (Finset.Ico 0 3) (fun p => iprop(∃ f, ySlotP c p f)) : sProp 𝕄)
      ⊢ bigSep Finset.univ (fun b : Fin 3 => iprop(∃ f, ((c : Thread nD τ).loc cc0_scratch15) ↦[YSlotS b]{fullShare} f)) := by
    rw [bigSep_Ico_fin]
    exact bigSep_mono fun b _ => yring_in c b
  iintro H
  iapply (Ring.pointsTo_blocks_join_exists (ℓ := (c : Thread nD τ).loc cc0_scratch15) YSlotS (keyed_disjoint _ _ mem_YSlotS) (keyed_cover _ _ mem_YSlotS fun y => (y 0).isLt) (Classical.arbitrary _))
  iapply h
  iexact H

/-! ## The kernel's own semaphores -/

/-- The thirty cells, in the order the kernel declares them. -/
def cellN (n : ℕ) : sProp 𝕄 := semVal ((c : Thread nD τ), SemLoc.dma (⟨n % 30, Nat.mod_lt _ (by decide)⟩ : DmaSem sig)) 0

theorem wSem_val : ∀ n : Fin 20, (wSem n.val).sem = (⟨(n.val + 5) % 30, Nat.mod_lt _ (by decide)⟩ : DmaSem sig) := by decide +kernel
theorem ySem_val : ∀ n : Fin 3, (ySem n.val).sem = (⟨(n.val + 25) % 30, Nat.mod_lt _ (by decide)⟩ : DmaSem sig) := by decide +kernel
theorem sSem_val : ∀ n : Fin 4, (sSem n).sem = (⟨(n.val + 1) % 30, Nat.mod_lt _ (by decide)⟩ : DmaSem sig) := by decide +kernel
theorem oSem_val : ∀ n : Fin 2, (oSem n).sem = (⟨(n.val + 28) % 30, Nat.mod_lt _ (by decide)⟩ : DmaSem sig) := by decide +kernel
theorem xSem_val : SemArray.sem cc0_scratch16 = (⟨0 % 30, Nat.mod_lt _ (by decide)⟩ : DmaSem sig) := by decide +kernel

theorem cells_eq : (bigSep (Finset.Ico 0 30) (cellN (F := F) c) : sProp 𝕄)
    = iprop(xCellP c ∗ (sCellP c 0 ∗ sCellP c 1 ∗ sCellP c 2 ∗ sCellP c 3) ∗ bigSep (Finset.Ico 0 20) (wCellP c) ∗ bigSep (Finset.Ico 0 3) (yCellP c) ∗ oCellP c 0 ∗ oCellP c 1) := by
  have ew : bigSep (Finset.Ico 5 (20 + 5)) (cellN (F := F) c) = bigSep (Finset.Ico 0 20) (wCellP c) := by
    rw [bigSep_Ico_move]
    refine bigSep_congr fun n hn => ?_
    have h := wSem_val ⟨n, (Finset.mem_Ico.mp hn).2⟩
    unfold cellN wCellP; rw [show (wSem n).sem = _ from h]
  have ey : bigSep (Finset.Ico 25 (3 + 25)) (cellN (F := F) c) = bigSep (Finset.Ico 0 3) (yCellP c) := by
    rw [bigSep_Ico_move]
    refine bigSep_congr fun n hn => ?_
    have h := ySem_val ⟨n, (Finset.mem_Ico.mp hn).2⟩
    unfold cellN yCellP; rw [show (ySem n).sem = _ from h]
  have es : ∀ n : Fin 4, cellN (F := F) c (n.val + 1) = sCellP c n := fun n => by unfold cellN sCellP; rw [sSem_val n]
  have eo : ∀ n : Fin 2, cellN (F := F) c (n.val + 28) = oCellP c n := fun n => by unfold cellN oCellP; rw [oSem_val n]
  have ex : cellN (F := F) c 0 = xCellP c := by unfold cellN xCellP; rw [xSem_val]
  have es0 : cellN (F := F) c 1 = sCellP c 0 := es 0
  have es1 : cellN (F := F) c 2 = sCellP c 1 := es 1
  have es2 : cellN (F := F) c 3 = sCellP c 2 := es 2
  have es3 : cellN (F := F) c 4 = sCellP c 3 := es 3
  have eo0 : cellN (F := F) c 28 = oCellP c 0 := eo 0
  have eo1 : cellN (F := F) c 29 = oCellP c 1 := eo 1
  have e5 : (bigSep (Finset.Ico 1 5) (cellN (F := F) c) : sProp 𝕄) = iprop(sCellP c 0 ∗ sCellP c 1 ∗ sCellP c 2 ∗ sCellP c 3) := by
    rw [bigSep_Ico_take 1 5 (by omega), bigSep_Ico_take (1 + 1) 5 (by omega), bigSep_Ico_take (1 + 1 + 1) 5 (by omega), bigSep_Ico_single (1 + 1 + 1 + 1)]
    rw [es0, es1, es2, es3]
  have e28 : (bigSep (Finset.Ico 28 30) (cellN (F := F) c) : sProp 𝕄) = iprop(oCellP c 0 ∗ oCellP c 1) := by
    rw [bigSep_Ico_take 28 30 (by omega), bigSep_Ico_single (28 + 1), eo0, eo1]
  rw [bigSep_Ico_take 0 30 (by omega), bigSep_Ico_cut (0 + 1) 5 30 (by omega) (by omega), bigSep_Ico_cut 5 (20 + 5) 30 (by omega) (by omega),
    bigSep_Ico_cut (20 + 5) (3 + 25) 30 (by omega) (by omega), ew, show 20 + 5 = 25 by rfl, ey, e28, ex, show 0 + 1 = 1 by rfl, e5]

abbrev osem : Fin 30 → SemLoc sig := fun s => SemLoc.dma (⟨s.val % 30, Nat.mod_lt _ (by decide)⟩ : DmaSem sig)
theorem ownSemFacts : Pipeline.OwnSemFacts (cfg0.spec) osem := by decide +kernel
theorem ownSems0_eq : (Pipeline.ownSems0 (Ix := Unit) (Name := ℕ) (U := UU nD τ) (Lvl := ℕ) (Val := Elt F) (τ := τ) osem c : sProp 𝕄)
    = iprop(xCellP c ∗ (sCellP c 0 ∗ sCellP c 1 ∗ sCellP c 2 ∗ sCellP c 3) ∗ bigSep (Finset.Ico 0 20) (wCellP c) ∗ bigSep (Finset.Ico 0 3) (yCellP c) ∗ oCellP c 0 ∗ oCellP c 1) := by
  rw [← cells_eq, bigSep_Ico_fin]; rfl

theorem wFree_eq : (bigSep (Finset.Ico 0 20) (wFreeP (F := F) c) : sProp 𝕄) = iprop(bigSep (Finset.Ico 0 20) (fun p => iprop(∃ f, wSlotP c p f)) ∗ bigSep (Finset.Ico 0 20) (wCellP c)) :=
  bigSep_sep _ _ _
theorem yFree_eq : (bigSep (Finset.Ico 0 3) (yFreeP (F := F) c) : sProp 𝕄) = iprop(bigSep (Finset.Ico 0 3) (fun p => iprop(∃ f, ySlotP c p f)) ∗ bigSep (Finset.Ico 0 3) (yCellP c)) :=
  bigSep_sep _ _ _

end

end Cert.Proof.Printed

end
-- ==== Proof.Printed.Launch.lean ====
/-
The run of the whole program: the body on the buffers the region owns, and what every final state holds.
-/
module

public import proofs.«01_k».proof.Proof.Printed.Split
public import proofs.«01_k».proof.Proof.Gen.Kernel.Frame
public import proofs.«01_k».proof.Proof.Gen.Kernel.Points
public import Idealize.ShloMosaic.Lib.Pipeline.FrameSuffixV

@[expose] public section

set_option maxRecDepth 16384

noncomputable section

namespace Cert.Proof.Printed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section
variable (m : (ℓ : Loc nD τ sig) → Buf (Elt F) ℓ) (c : Dev nD)

/-- The buffers the body only reads, and those it writes whole. -/
abbrev Hset : Finset (Ref sig .tc) := {main_v0, main_arg1, main_v1, main_v2, main_arg4, main_v3}
abbrev Rset : Finset (Ref sig .tc) := {main_v4_0, main_v4_1, main_v4_2}

/-- The three results as the region leaves them, from the contents at its entry. -/
def yOut : Buf (Elt F) ((c : Thread nD τ).loc main_v4_0) :=
  yAll (yV (V m c main_v0) (V m c main_arg1) (V m c main_v1) (V m c main_v2) (V m c main_arg4) (V m c main_v3))
def xcOut : Buf (Elt F) ((c : Thread nD τ).loc main_v4_1) := xcV (V m c main_v0)
def xsOut : Buf (Elt F) ((c : Thread nD τ).loc main_v4_2) := xsV (V m c main_v0)

def Gout (b : Ref sig .tc) : Buf (Elt F) ((c : Thread nD τ).loc b) :=
  Function.update (Function.update (Function.update (V m c) main_v4_0 (yOut m c)) main_v4_1 (xcOut m c)) main_v4_2 (xsOut m c) b

theorem G_y : Gout m c main_v4_0 = yOut m c := by
  unfold Gout
  rw [Function.update_of_ne (show (main_v4_0 : Ref sig .tc) ≠ main_v4_2 by decide), Function.update_of_ne (show (main_v4_0 : Ref sig .tc) ≠ main_v4_1 by decide), Function.update_self]
theorem G_xc : Gout m c main_v4_1 = xcOut m c := by
  unfold Gout
  rw [Function.update_of_ne (show (main_v4_1 : Ref sig .tc) ≠ main_v4_2 by decide), Function.update_self]
theorem G_xs : Gout m c main_v4_2 = xsOut m c := by
  unfold Gout
  rw [Function.update_self]

theorem whole_eq (b : Ref sig .tc) (f : Buf (Elt F) ((c : Thread nD τ).loc b)) :
    (((c : Thread nD τ).loc b) ↦{fullShare} f : sProp 𝕄) = ((Memref.whole b).view.loc (c : Thread nD τ) ↦[(Memref.whole b).view.set]{fullShare} f) := by
  rw [show (Memref.whole b).view.set = Finset.univ from View.set_whole b]
theorem whole_in (b : Ref sig .tc) (f : Buf (Elt F) ((c : Thread nD τ).loc b)) :
    (((c : Thread nD τ).loc b) ↦{fullShare} f : sProp 𝕄) ⊢ ((Memref.whole b).view.loc (c : Thread nD τ) ↦[(Memref.whole b).view.set]{fullShare} f) := Entails.of_eq (whole_eq c b f)
theorem whole_out (b : Ref sig .tc) (f : Buf (Elt F) ((c : Thread nD τ).loc b)) :
    ((Memref.whole b).view.loc (c : Thread nD τ) ↦[(Memref.whole b).view.set]{fullShare} f : sProp 𝕄) ⊢ (((c : Thread nD τ).loc b) ↦{fullShare} f) := Entails.of_eq (whole_eq c b f).symm
theorem whole_out_ex (b : Ref sig .tc) :
    (iprop(∃ f, ((Memref.whole b).view.loc (c : Thread nD τ) ↦[(Memref.whole b).view.set]{fullShare} f)) : sProp 𝕄)
      ⊢ iprop(∃ f : Buf (Elt F) ((c : Thread nD τ).loc b), ((c : Thread nD τ).loc b) ↦{fullShare} f) := by
  iintro ⟨%f, H⟩; iexists f; iapply (whole_out c b f); iexact H

theorem sep_reads (Φ : Ref sig .tc → sProp 𝕄) :
    bigSep Hset Φ = iprop(Φ main_v0 ∗ Φ main_arg1 ∗ Φ main_v1 ∗ Φ main_v2 ∗ Φ main_arg4 ∗ Φ main_v3) :=
  (bigSep_eq_bigSepL_of_eq [main_v0, main_arg1, main_v1, main_v2, main_arg4, main_v3] (by decide) (by decide) Φ).trans (by
    simp only [bigSepL_cons_cons, bigSepL_singleton]; rfl)
theorem sep_writes (Φ : Ref sig .tc → sProp 𝕄) :
    bigSep Rset Φ = iprop(Φ main_v4_0 ∗ Φ main_v4_1 ∗ Φ main_v4_2) :=
  (bigSep_eq_bigSepL_of_eq [main_v4_0, main_v4_1, main_v4_2] (by decide) (by decide) Φ).trans (by
    simp only [bigSepL_cons_cons, bigSepL_singleton]; rfl)

/-- What the region owns at the body's entry, and at its exit. -/
abbrev Pin : sProp 𝕄 := Pipeline.ΦDRV osem cfg0.spec Hset Rset (fun c b => V m c b) (fun c b => V m c b) c
abbrev Pout : sProp 𝕄 := Pipeline.ΦDRV osem cfg0.spec Hset Rset (fun c b => V m c b) (fun c b => Gout m c b) c

set_option maxHeartbeats 1600000 in
theorem body_whole : iprop(Pin m c ∗ ∃ W, owes (c : Thread nD τ) 0 W)
    ⊢ wp frame (wpE (defs₀ (F := F)) 𝒱₀ (c : Thread nD τ) none) Set.univ (cc0_fp8_lokr (F := F) (Memref.whole main_v0) (Memref.isWhole_whole _) (Memref.whole main_arg1) (Memref.isWhole_whole _) (Memref.whole main_v1) (Memref.isWhole_whole _) (Memref.whole main_v2) (Memref.isWhole_whole _) (Memref.whole main_arg4) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20) (fun _ => iprop((∃ W, owes (c : Thread nD τ) 0 W) ∗ Pout m c)) := by
  unfold Pin Pout Pipeline.ΦDRV
  rw [scopedRest0_eq, ownSems0_eq, sep_reads, sep_writes, sep_writes]
  iintro ⟨⟨⟨⟨%f0, S0⟩, ⟨%f1, S1⟩, S2, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, S15⟩, ⟨Cxc, ⟨Cs0, Cs1, Cs2, Cs3⟩, CW, CY, Co0, Co1⟩, ⟨Hmain_v0, Hmain_arg1, Hmain_v1, Hmain_v2, Hmain_arg4, Hmain_v3⟩, ⟨Hmain_v4_0, Hmain_v4_1, Hmain_v4_2⟩⟩, O⟩
  ihave RW := (ring_split c) $$ S2
  ihave RY := (yring_split c) $$ S15
  ihave HW := (Entails.of_eq (w_tiles c _)) $$ Hmain_arg1
  ihave HY := (Entails.of_eq (y_tiles c _)) $$ Hmain_v4_0
  ihave T := (body_run c (V m c main_arg1) (V m c main_v4_0) (V m c main_v0) (V m c main_v1) (V m c main_v2) (V m c main_arg4) (V m c main_v3) (V m c main_v4_1) (V m c main_v4_2) f0 f1 f3 f4 f5 f6 f7 f8 f9 f10 f11 f12 f13 f14) $$ [Hmain_v0 Hmain_v1 Hmain_v2 Hmain_arg4 Hmain_v3 Hmain_v4_1 Hmain_v4_2 S0 S1 S3 S4 S5 S6 S7 S8 S9 S10 S11 S12 S13 S14 Cxc Cs0 Cs1 Cs2 Cs3 Co0 Co1 RW CW HW RY CY HY O]
  · isplitl [Hmain_v0]; · iapply (whole_in c main_v0 _); iexact Hmain_v0
    isplitl [Hmain_v1]; · iapply (whole_in c main_v1 _); iexact Hmain_v1
    isplitl [Hmain_v2]; · iapply (whole_in c main_v2 _); iexact Hmain_v2
    isplitl [Hmain_arg4]; · iapply (whole_in c main_arg4 _); iexact Hmain_arg4
    isplitl [Hmain_v3]; · iapply (whole_in c main_v3 _); iexact Hmain_v3
    isplitl [Hmain_v4_1]; · iapply (whole_in c main_v4_1 _); iexact Hmain_v4_1
    isplitl [Hmain_v4_2]; · iapply (whole_in c main_v4_2 _); iexact Hmain_v4_2
    isplitl [S0]; · iapply (whole_in c cc0_scratch0 _); iexact S0
    isplitl [S1]; · iapply (whole_in c cc0_scratch1 _); iexact S1
    isplitl [S3]; · iapply (whole_in c cc0_scratch3 _); iexact S3
    isplitl [S4]; · iapply (whole_in c cc0_scratch4 _); iexact S4
    isplitl [S5]; · iapply (whole_in c cc0_scratch5 _); iexact S5
    isplitl [S6]; · iapply (whole_in c cc0_scratch6 _); iexact S6
    isplitl [S7]; · iapply (whole_in c cc0_scratch7 _); iexact S7
    isplitl [S8]; · iapply (whole_in c cc0_scratch8 _); iexact S8
    isplitl [S9]; · iapply (whole_in c cc0_scratch9 _); iexact S9
    isplitl [S10]; · iapply (whole_in c cc0_scratch10 _); iexact S10
    isplitl [S11]; · iapply (whole_in c cc0_scratch11 _); iexact S11
    isplitl [S12]; · iapply (whole_in c cc0_scratch12 _); iexact S12
    isplitl [S13]; · iapply (whole_in c cc0_scratch13 _); iexact S13
    isplitl [S14]; · iapply (whole_in c cc0_scratch14 _); iexact S14
    isplitl [Cxc]; · iexact Cxc
    isplitl [Cs0]; · iexact Cs0
    isplitl [Cs1]; · iexact Cs1
    isplitl [Cs2]; · iexact Cs2
    isplitl [Cs3]; · iexact Cs3
    isplitl [Co0]; · iexact Co0
    isplitl [Co1]; · iexact Co1
    isplitl [RW CW]
    · iapply (Entails.of_eq (wFree_eq c).symm)
      isplitl [RW]; · iexact RW
      iexact CW
    isplitl [HW]; · iexact HW
    isplitl [RY CY]
    · iapply (Entails.of_eq (yFree_eq c).symm)
      isplitl [RY]; · iexact RY
      iexact CY
    isplitl [HY]; · iexact HY
    iexact O
  iapply (wp_wand Idealize.ShloMosaic.frame (wpE (defs₀ (F := F)) 𝒱₀ (c : Thread nD τ) none) Set.univ) $$ [T]
  · iexact T
  iintro %u
  iintro ⟨Hmain_v0, Hmain_v1, Hmain_v2, Hmain_arg4, Hmain_v3, ⟨%gc, %ec, Hmain_v4_1⟩, ⟨%gs, %es, Hmain_v4_2⟩, S0, S1, S3, S4, S5, S6, S7, S8, S9, S10, S11, S12, S13, S14, Cxc, Cs0, Cs1, Cs2, Cs3, Co0, Co1, HRW, HW, HRY, HY, O⟩
  ihave W1 := (Entails.of_eq (wFree_eq c)) $$ HRW
  icases W1 with ⟨RW, CW⟩
  ihave W2 := (Entails.of_eq (yFree_eq c)) $$ HRY
  icases W2 with ⟨RY, CY⟩
  isplitl [O]; · iexact O
  isplitl [S0 S1 RW S3 S4 S5 S6 S7 S8 S9 S10 S11 S12 S13 S14 RY]
  · isplitl [S0]; · iapply (whole_out_ex c cc0_scratch0); iexact S0
    isplitl [S1]; · iapply (whole_out_ex c cc0_scratch1); iexact S1
    isplitl [RW]; · iapply (ring_join c); iexact RW
    isplitl [S3]; · iapply (whole_out_ex c cc0_scratch3); iexact S3
    isplitl [S4]; · iapply (whole_out_ex c cc0_scratch4); iexact S4
    isplitl [S5]; · iapply (whole_out_ex c cc0_scratch5); iexact S5
    isplitl [S6]; · iapply (whole_out_ex c cc0_scratch6); iexact S6
    isplitl [S7]; · iapply (whole_out_ex c cc0_scratch7); iexact S7
    isplitl [S8]; · iapply (whole_out_ex c cc0_scratch8); iexact S8
    isplitl [S9]; · iapply (whole_out_ex c cc0_scratch9); iexact S9
    isplitl [S10]; · iapply (whole_out_ex c cc0_scratch10); iexact S10
    isplitl [S11]; · iapply (whole_out_ex c cc0_scratch11); iexact S11
    isplitl [S12]; · iapply (whole_out_ex c cc0_scratch12); iexact S12
    isplitl [S13]; · iapply (whole_out_ex c cc0_scratch13); iexact S13
    isplitl [S14]; · iapply (whole_out_ex c cc0_scratch14); iexact S14
    iapply (yring_join c); iexact RY
  isplitl [Cxc Cs0 Cs1 Cs2 Cs3 CW CY Co0 Co1]
  · isplitl [Cxc]; · iexact Cxc
    isplitl [Cs0 Cs1 Cs2 Cs3]
    · isplitl [Cs0]; · iexact Cs0
      isplitl [Cs1]; · iexact Cs1
      isplitl [Cs2]; · iexact Cs2
      iexact Cs3
    isplitl [CW]; · iexact CW
    isplitl [CY]; · iexact CY
    isplitl [Co0]; · iexact Co0
    iexact Co1
  isplitl [Hmain_v0 HW Hmain_v1 Hmain_v2 Hmain_arg4 Hmain_v3]
  · isplitl [Hmain_v0]; · iapply (whole_out c main_v0 _); iexact Hmain_v0
    isplitl [HW]; · iapply (Entails.of_eq (w_tiles c _).symm); iexact HW
    isplitl [Hmain_v1]; · iapply (whole_out c main_v1 _); iexact Hmain_v1
    isplitl [Hmain_v2]; · iapply (whole_out c main_v2 _); iexact Hmain_v2
    isplitl [Hmain_arg4]; · iapply (whole_out c main_arg4 _); iexact Hmain_arg4
    iapply (whole_out c main_v3 _); iexact Hmain_v3
  isplitl [HY]; · iapply (Entails.of_eq (congrArg (fun f => (((c : Thread nD τ).loc main_v4_0) ↦{fullShare} f : sProp 𝕄)) (G_y m c).symm)); iapply (y_done c _); iexact HY
  isplitl [Hmain_v4_1]
  · iapply (Entails.of_eq (congrArg (fun f => (((c : Thread nD τ).loc main_v4_1) ↦{fullShare} f : sProp 𝕄)) (Eq.trans (show gc = xcOut m c from ec) (G_xc m c).symm)))
    iapply (whole_out c main_v4_1 _); iexact Hmain_v4_1
  iapply (Entails.of_eq (congrArg (fun f => (((c : Thread nD τ).loc main_v4_2) ↦{fullShare} f : sProp 𝕄)) (Eq.trans (show gs = xsOut m c from es) (G_xs m c).symm)))
  iapply (whole_out c main_v4_2 _); iexact Hmain_v4_2
end

end Cert.Proof.Printed

end
-- ==== Proof.Printed.Run.lean ====
/-
The launch of the program around the body, and the contents of the results and arguments at every final state.
-/
module

public import proofs.«01_k».proof.Proof.Printed.Launch

@[expose] public section

set_option maxRecDepth 16384

noncomputable section

namespace Cert.Proof.Printed

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section
variable (m : (ℓ : Loc nD τ sig) → Buf (Elt F) ℓ) (ρ : Dev nD → PrngReg)

/-- The region's data: no window, one grid point; the invariant is what the region owns, before the body and after it. -/
def dats (_ : Fin 1) (c : Dev nD) : Dat τ (Elt F) Unit ℕ (UU nD τ) ℕ cfg0 c where
  A w := w.elim0
  after w := w.elim0
  Φ t := if t.val = 0 then Pin m c else Pout m c
  q _ := fullShare
  owed _ := 0

theorem defs_tc : (defs₀ (F := F)) .tc cfg0.body = fun a => bodyAt0 t0_0 := rfl
theorem prog_eq (t : Fin cfg0.N) : (defs₀ (F := F)) .tc cfg0.body (cfg0.bodyArgs t (cfg0.slots t)) = bodyAt0 t0_0 := (congrFun defs_tc _).trans rfl

theorem body_at (c : Dev nD) (t : Fin cfg0.N) :
    iprop(Pin m c ∗ ∃ W, owes (c : Thread nD τ) 0 W)
    ⊢ wp frame (wpE (defs₀ (F := F)) 𝒱₀ (c : Thread nD τ) none) Set.univ ((defs₀ (F := F)) .tc cfg0.body (cfg0.bodyArgs t (cfg0.slots t)))
      (fun _ => iprop((∃ W, owes (c : Thread nD τ) 0 W) ∗ Pout m c)) := by
  rw [prog_eq t]; exact body_whole m c

set_option backward.isDefEq.respectTransparency.types false in
theorem body_obligation (c : Dev nD) : BodyObligation (dats (F := F) m 0 c) (defs₀ (F := F)) 𝒱₀ () Set.univ := fun t => by
  rw [fin_N0 t]
  rw [show (dats m 0 c).Φ (Fin.castSucc t0_0) = Pin m c from rfl, show (dats m 0 c).Φ (Fin.succ t0_0) = Pout m c from rfl]
  unfold Dat.owesAt Pipeline.owesWithin
  rw [show (dats m 0 c).owed (Fin.castSucc t0_0) = 0 from rfl, show (dats m 0 c).owed (Fin.succ t0_0) = 0 from rfl]
  iintro ⟨HP, ⟨%W, -, HW⟩, HE⟩
  ihave T := (body_at m c t0_0) $$ [HP HW]
  · isplitl [HP]; · iexact HP
    iexists W; iexact HW
  iapply (wp_wand Idealize.ShloMosaic.frame (wpE (defs₀ (F := F)) 𝒱₀ (c : Thread nD τ) none) Set.univ) $$ [T]
  · iexact T
  iintro %u
  iintro ⟨⟨%W', HW⟩, HP⟩
  isplitl [HP]; · iexact HP
  isplitl [HW]
  · iexists W'
    isplitr
    · ipureintro; exact fun _ _ => Or.inl trivial
    iexact HW
  iexact HE

set_option maxHeartbeats 800000 in
theorem hmainU : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The contents at the region's exit, as a valuation. -/
abbrev Wx (c : Dev nD) : Valuation τ sig (Elt F) :=
  Pipeline.withArrays cfg0.spec c (Pipeline.withR (V0 m c) Rset c (Gout m c)) fun w => (dats m 0 c).arrAt w cfg0.N
abbrev Wend (c : Dev nD) : Valuation τ sig (Elt F) := StableHlo.after (List.flatten [hostOps1]) (Wx m c)

theorem Wx_R (c : Dev nD) (b : Ref sig .tc) (hb : b ∈ Rset) : Wx m c (Proc.devRef .tc b) = Gout m c b :=
  (Pipeline.withArrays_of_ne _ c _ _ b (fun w => w.elim0)).trans (Pipeline.withR_of_mem _ _ _ _ b hb)
theorem Wx_not (c : Dev nD) (b : Ref sig .tc) (hb : b ∉ Rset) : Wx m c (Proc.devRef .tc b) = V m c b :=
  (Pipeline.withArrays_of_ne _ c _ _ b (fun w => w.elim0)).trans (Pipeline.withR_of_not_mem _ _ _ _ b hb)

theorem Wend_keep (c : Dev nD) (b : Ref sig .tc) (h5 : b ≠ main_v5) (h6 : b ≠ main_v6) : Wend m c (Proc.devRef .tc b) = Wx m c (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.reshape_writes, Finset.mem_singleton]
    exact ⟨StableHlo.devRef_ne_of_ne h5, StableHlo.devRef_ne_of_ne h6⟩))

theorem Wend_v5 (c : Dev nD) : Wend m c (Proc.devRef .tc main_v5) = shapeCast S2x128x14336 (yOut m c) shapeCasts_S256x14336_S2x128x14336 := by
  simp only [Wend, hostOps1, List.flatten_cons, List.flatten_nil, List.append_nil, StableHlo.after_cons, StableHlo.after_nil]
  rw [StableHlo.reshape_result_ne _ _ _ _ _ (by decide), StableHlo.reshape_result, Wx_R m c main_v4_0 (by decide), G_y]
  · rfl
  · decide
theorem Wend_v6 (c : Dev nD) : Wend m c (Proc.devRef .tc main_v6) = shapeCast S2x128x3072 (xcOut m c) shapeCasts_S256x3072_S2x128x3072 := by
  simp only [Wend, hostOps1, List.flatten_cons, List.flatten_nil, List.append_nil, StableHlo.after_cons, StableHlo.after_nil]
  rw [StableHlo.reshape_result, StableHlo.reshape_result_ne _ _ _ _ _ (by decide), Wx_R m c main_v4_1 (by decide), G_xc]
  · rfl
  · decide
theorem Wend_v4_2 (c : Dev nD) : Wend m c (Proc.devRef .tc main_v4_2) = xsOut m c := by
  rw [Wend_keep m c main_v4_2 (by decide) (by decide), Wx_R m c main_v4_2 (by decide), G_xs]
theorem Wend_arg (c : Dev nD) (b : Ref sig .tc) (h5 : b ≠ main_v5) (h6 : b ≠ main_v6) (hb : b ∉ Rset) : Wend m c (Proc.devRef .tc b) = V m c b :=
  (Wend_keep m c b h5 h6).trans (Wx_not m c b hb)

set_option backward.isDefEq.respectTransparency.types false in
/-- Every final state: each buffer outside the region at `Wend`, every semaphore counter at zero. -/
theorem run_all : θ_run defs (onTc (τ := τ) (main (F := F))) (s₀ m ρ)
    (fun r => (∀ c : Dev nD, ∀ b ∈ Pipeline.restRefs sig cfg0.spec, r.2.mem ((c : Thread nD τ).loc b) = Wend m c (Proc.devRef .tc b)) ∧ r.2.sem = fun _ => 0) :=
  Pipeline.θ_run_frame_dmaR_aroundV cfgs (dats m) 0 launch0 osem defs₀ 𝒱₀ ownSemFacts Hset Rset (by decide) (by decide) m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (G := Gout m) (hmain := hmainU m)
    (hA := fun _ w => w.elim0) (hin := fun c => Entails.of_eq rfl) (hout := fun c => Entails.of_eq rfl)
    (Q' := _) (hQ' := fun r h => ⟨fun c b hb => (h.1 c).2 b hb, h.2⟩)

/-- The three results and the six arguments at every final state. -/
theorem run_main : θ_run defs (onTc (τ := τ) (main (F := F))) ⟨m, fun _ => 0, ρ⟩
    (fun r => (∀ c : Dev nD, r.2.mem ((c : Thread nD τ).loc main_v5) = shapeCast S2x128x14336 (yOut m c) shapeCasts_S256x14336_S2x128x14336
        ∧ r.2.mem ((c : Thread nD τ).loc main_v6) = shapeCast S2x128x3072 (xcOut m c) shapeCasts_S256x3072_S2x128x3072
        ∧ r.2.mem ((c : Thread nD τ).loc main_v4_2) = xsOut m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0) :=
  (θ_run defs _ _).mono (fun r h => ⟨fun c =>
    ⟨(h.1 c main_v5 (Pipeline.mem_restRefs_of main_v5 (by decide) (by decide))).trans (Wend_v5 m c),
     (h.1 c main_v6 (Pipeline.mem_restRefs_of main_v6 (by decide) (by decide))).trans (Wend_v6 m c),
     (h.1 c main_v4_2 (Pipeline.mem_restRefs_of main_v4_2 (by decide) (by decide))).trans (Wend_v4_2 m c),
     ((h.1 c main_arg0 (Pipeline.mem_restRefs_of main_arg0 (by decide) (by decide))).trans (Wend_arg m c main_arg0 (by decide) (by decide) (by decide))).trans (V_main_arg0 m c),
     ((h.1 c main_arg1 (Pipeline.mem_restRefs_of main_arg1 (by decide) (by decide))).trans (Wend_arg m c main_arg1 (by decide) (by decide) (by decide))).trans (V_main_arg1 m c),
     ((h.1 c main_arg2 (Pipeline.mem_restRefs_of main_arg2 (by decide) (by decide))).trans (Wend_arg m c main_arg2 (by decide) (by decide) (by decide))).trans (V_main_arg2 m c),
     ((h.1 c main_arg3 (Pipeline.mem_restRefs_of main_arg3 (by decide) (by decide))).trans (Wend_arg m c main_arg3 (by decide) (by decide) (by decide))).trans (V_main_arg3 m c),
     ((h.1 c main_arg4 (Pipeline.mem_restRefs_of main_arg4 (by decide) (by decide))).trans (Wend_arg m c main_arg4 (by decide) (by decide) (by decide))).trans (V_main_arg4 m c),
     ((h.1 c main_arg5 (Pipeline.mem_restRefs_of main_arg5 (by decide) (by decide))).trans (Wend_arg m c main_arg5 (by decide) (by decide) (by decide))).trans (V_main_arg5 m c)⟩, h.2⟩) (run_all m ρ)

/-- The program runs, its arguments end as launched and every semaphore counter is zero again. -/
theorem frame_run : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0) :=
  (θ_run defs _ _).mono (fun r h => ⟨fun c => (h.1 c).2.2.2, h.2⟩) (run_main m ρ)

end

end Cert.Proof.Printed

end
-- ==== Proof.Value.Scale.lean ====
/-
  The quantiser's power of two, on extended reals: the binary search for the biased exponent of a number, and the
  logarithm and powers the reference uses for the same exponent.
-/
module

public import Idealize.ShloMosaic.PureOps.Ideal
public import Idealize.ShloMosaic.PureOps.Ideal.Laws
public import Idealize.ShloMosaic.Lib.ValueIdx
public import Idealize.ShloMosaic.Lib.IdealHost
public import Mathlib.Analysis.SpecialFunctions.Pow.Real
public import proofs.«01_k».proof.Proof.Printed.Run

@[expose] public section

noncomputable section

namespace Cert.Proof.Value

open Idealize.ShloMosaic

/-- The 32-bit float whose exponent field is `k` and whose other bits are zero. -/
def P (k : ℕ) : EReal := Ideal.ofBits .f32 (BitVec.ofNat 32 k <<< 23)

theorem field_ex : ∀ k : Fin 256, ((BitVec.ofNat 32 k.val <<< 23 : BitVec 32).extractLsb' 23 8).toNat = k.val := by decide +kernel
theorem field_fr : ∀ k : Fin 256, ((BitVec.ofNat 32 k.val <<< 23 : BitVec 32).extractLsb' 0 23).toNat = 0 := by decide +kernel
theorem field_sg : ∀ k : Fin 256, ((BitVec.ofNat 32 k.val <<< 23 : BitVec 32).extractLsb' 31 1 == 1#1) = false := by decide +kernel

theorem ofBits_ieee (w : BitVec 32) : Ideal.ofBits .f32 w = Ideal.ieee 8 23 w := rfl

theorem ieee_field (w : BitVec 32) (k : ℕ) (hk : (w.extractLsb' 23 8).toNat = k) (h0 : (w.extractLsb' 0 23).toNat = 0)
    (hs : (w.extractLsb' 31 1 == 1#1) = false) (h1 : 1 ≤ k) (h2 : k ≤ 254) :
    Ideal.ieee 8 23 w = (((2 : ℝ) ^ ((k : ℤ) - 127) : ℝ) : EReal) := by
  simp only [Ideal.ieee, hk, h0, hs]
  rw [if_neg (by omega), if_neg (by omega)]
  congr 1
  rw [if_neg (by simp), one_mul, Nat.add_zero]
  have e : ((2 ^ 23 : ℕ) : ℝ) = (2 : ℝ) ^ (23 : ℤ) := by norm_num
  rw [e, ← zpow_add₀ (by norm_num)]
  congr 1
  push_cast
  ring

theorem ieee_top (w : BitVec 32) (hk : (w.extractLsb' 23 8).toNat = 255) (h0 : (w.extractLsb' 0 23).toNat = 0)
    (hs : (w.extractLsb' 31 1 == 1#1) = false) : Ideal.ieee 8 23 w = ⊤ := by
  simp only [Ideal.ieee, hk, h0, hs]
  simp

/-- For a normal exponent field it is that power of two. -/
theorem P_coe {k : ℕ} (h1 : 1 ≤ k) (h2 : k ≤ 254) : P k = (((2 : ℝ) ^ ((k : ℤ) - 127) : ℝ) : EReal) := by
  unfold P
  rw [ofBits_ieee]
  exact ieee_field _ k (field_ex ⟨k, by omega⟩) (field_fr ⟨k, by omega⟩) (field_sg ⟨k, by omega⟩) h1 h2

theorem P_top : P 255 = ⊤ := by
  unfold P
  rw [ofBits_ieee]
  exact ieee_top _ (field_ex 255) (field_fr 255) (field_sg 255)

/-- One step of the search: keep `K`, or add `b` when the number is at least the float with that exponent field. -/
def step (v : EReal) (b K : BitVec 32) : BitVec 32 :=
  Scalar.select (BitVec.ofBool (decide (v < Ideal.ofBits .f32 (IntOp.shli .vector (K + b) 23#32)))) K (K + b)

/-- The search's state: `K` is a number `n`, the float of exponent `n` is at most `v` (or `n` is zero), and `v` is below the float of
    exponent `n + b` (or that is past the range). -/
def Inv (v : EReal) (b : ℕ) (K : BitVec 32) : Prop :=
  ∃ n : ℕ, K = BitVec.ofNat 32 n ∧ n + b ≤ 256 ∧ (n = 0 ∨ P n ≤ v) ∧ (n + b = 256 ∨ v < P (n + b))

theorem shli_P {n : ℕ} (h : n < 256) : Ideal.ofBits .f32 (IntOp.shli .vector (BitVec.ofNat 32 n) 23#32) = P n := by
  unfold P IntOp.shli
  rfl

theorem step_inv {v : EReal} {b : ℕ} {K : BitVec 32} (hb : 0 < b) (h : Inv v (2 * b) K) : Inv v b (step v (BitVec.ofNat 32 b) K) := by
  obtain ⟨n, rfl, h0, h1, h2⟩ := h
  have hs : BitVec.ofNat 32 n + BitVec.ofNat 32 b = BitVec.ofNat 32 (n + b) := by
    rw [BitVec.ofNat_add]
  unfold step
  rw [hs, shli_P (by omega)]
  by_cases hv : v < P (n + b)
  · rw [decide_eq_true hv]
    exact ⟨n, rfl, by omega, h1, Or.inr hv⟩
  · rw [decide_eq_false hv]
    refine ⟨n + b, rfl, by omega, Or.inr (not_lt.1 hv), ?_⟩
    rw [show n + b + b = n + 2 * b by omega]
    exact h2

/-- The whole search. -/
def expo (v : EReal) : BitVec 32 :=
  step v 1#32 (step v 2#32 (step v 4#32 (step v 8#32 (step v 16#32 (step v 32#32 (step v 64#32 (step v 128#32 0#32)))))))

theorem expo_inv (v : EReal) : Inv v 1 (expo v) := by
  unfold expo
  have h : Inv v 256 0#32 := ⟨0, rfl, by omega, Or.inl rfl, Or.inl rfl⟩
  exact step_inv (b := 1) (by omega) (step_inv (b := 2) (by omega) (step_inv (b := 4) (by omega) (step_inv (b := 8) (by omega)
    (step_inv (b := 16) (by omega) (step_inv (b := 32) (by omega) (step_inv (b := 64) (by omega) (step_inv (b := 128) (by omega) h)))))))

/-- The exponent from the field: zero stays zero, else the field minus 126. -/
def eOf (K : BitVec 32) : BitVec 32 := Scalar.select (IntOp.cmpi .eq K 0#32) 0#32 (K - 126#32)

/-- The kernel's scale and its inverse at a number. -/
def kScale (v : EReal) : EReal := Ideal.ofBits .f32 (IntOp.shli .vector (eOf (expo v) + 127#32) 23#32)
def kInv (v : EReal) : EReal := Ideal.ofBits .f32 (IntOp.shli .vector (127#32 - eOf (expo v)) 23#32)

/-- The reference's exponent at a number `m` and row maximum `a`. -/
def rExp (a m : EReal) : EReal :=
  Scalar.select (BitVec.ofBool (decide (a = Ideal.ofBits .f32 0x00000000#32))) (Ideal.ofBits .f32 0x00000000#32)
    (Scalar.select (BitVec.ofBool (decide (m < Ideal.ofBits .f32 0x00800000#32))) (Ideal.ofBits .f32 0x00000000#32)
      (Ideal.liftRound Int.floor (Ideal.div (Ideal.log m) (Ideal.log (Ideal.ofBits .f32 0x40000000#32))) + Ideal.ofBits .f32 0x3F800000#32))

theorem ofBits_two : Ideal.ofBits .f32 0x40000000#32 = ((2 : ℝ) : EReal) := by
  simp [Ideal.ofBits, Ideal.ieee, -EReal.coe_mul]; norm_num

theorem pow_int (e : ℤ) : Ideal.pow (Ideal.ofBits .f32 0x40000000#32) ((e : ℝ) : EReal) = (((2 : ℝ) ^ e : ℝ) : EReal) := by
  rw [ofBits_two]
  show ((Real.rpow 2 (e : ℝ) : ℝ) : EReal) = _
  rw [Real.rpow_eq_pow, Real.rpow_intCast]

/-- The integer both sides find: zero for a number below the least normal float, else its binary exponent plus one. -/
theorem scale_facts (a m : EReal) (ha : a = 0 → m = 0) (hm0 : 0 ≤ m) (hm : m < P 247) :
    ∃ e : ℤ, -125 ≤ e ∧ e ≤ 120 ∧ rExp a m = ((e : ℝ) : EReal) ∧ kScale m = (((2 : ℝ) ^ e : ℝ) : EReal) ∧ kInv m = (((2 : ℝ) ^ (-e) : ℝ) : EReal) := by
  obtain ⟨n, hn, h0, h1, h2⟩ := expo_inv m
  have hP1 : Ideal.ofBits .f32 0x00800000#32 = P 1 := rfl
  have hz : Ideal.ofBits .f32 0x00000000#32 = 0 := Ideal.ofBits_zero_f32
  by_cases hn0 : n = 0
  · subst hn0
    have hlt : m < P 1 := by rcases h2 with h2 | h2 <;> [omega; simpa using h2]
    refine ⟨0, by omega, by omega, ?_, ?_, ?_⟩
    · unfold rExp
      rw [hP1, decide_eq_true hlt, hz]
      have : ∀ (c : BitVec 1) (y : EReal), Scalar.select c 0 (Scalar.select (BitVec.ofBool true) 0 y) = 0 := by
        intro c y; unfold Scalar.select; simp
      rw [this]; simp
    · unfold kScale; rw [hn]
      show P 127 = _
      rw [P_coe (by omega) (by omega)]; norm_num
    · unfold kInv; rw [hn]
      show P 127 = _
      rw [P_coe (by omega) (by omega)]; norm_num
  · have hle : P n ≤ m := by rcases h1 with h1 | h1 <;> [omega; exact h1]
    have hmtop : m ≠ ⊤ := ne_top_of_lt hm
    have hmbot : m ≠ ⊥ := fun h => by rw [h] at hm0; simp at hm0
    obtain ⟨r, rfl⟩ : ∃ r : ℝ, m = (r : EReal) := ⟨m.toReal, (EReal.coe_toReal hmtop hmbot).symm⟩
    have hn246 : n ≤ 246 := by
      by_contra hc
      have hn255 : n ≤ 255 := by omega
      by_cases h255 : n = 255
      · subst h255
        rw [P_top] at hle; exact hmtop (top_le_iff.1 hle)
      · rw [P_coe (by omega) (by omega)] at hle hm
        have h3 := lt_of_le_of_lt hle hm
        rw [EReal.coe_lt_coe_iff] at h3
        have := (zpow_lt_zpow_iff_right₀ (by norm_num : (1 : ℝ) < 2)).1 h3
        omega
    have hlt : (r : EReal) < P (n + 1) := by rcases h2 with h2 | h2 <;> [omega; exact h2]
    rw [P_coe (by omega) (by omega), EReal.coe_lt_coe_iff] at hlt
    have hge := hle
    rw [P_coe (by omega) (by omega), EReal.coe_le_coe_iff] at hge
    have hrpos : 0 < r := lt_of_lt_of_le (zpow_pos (by norm_num) _) hge
    have hnl : ¬ ((r : EReal) < P 1) := by
      rw [not_lt]; refine le_trans ?_ hle
      rw [P_coe (by omega) (by omega), P_coe (by omega) (by omega), EReal.coe_le_coe_iff]
      exact (zpow_le_zpow_iff_right₀ (by norm_num : (1 : ℝ) < 2)).2 (by omega)
    have hane : ¬ (a = 0) := fun h => by
      have := ha h; rw [EReal.coe_eq_zero] at this; linarith
    have hlog2 : 0 < Real.log 2 := Real.log_pos (by norm_num)
    have hfl : ⌊Real.log r * (1 / Real.log 2)⌋ = (n : ℤ) - 127 := by
      rw [Int.floor_eq_iff, ← div_eq_mul_one_div, le_div_iff₀ hlog2, div_lt_iff₀ hlog2]
      constructor
      · have := Real.log_le_log (zpow_pos (by norm_num) _) hge
        rw [Real.log_zpow] at this; exact_mod_cast this
      · have := Real.log_lt_log hrpos hlt
        rw [Real.log_zpow] at this
        refine lt_of_lt_of_eq this ?_
        push_cast; ring
    refine ⟨(n : ℤ) - 126, by omega, by omega, ?_, ?_, ?_⟩
    · unfold rExp
      rw [hP1, decide_eq_false hnl, hz, decide_eq_false hane]
      have : ∀ (y : EReal), Scalar.select (BitVec.ofBool false) 0 (Scalar.select (BitVec.ofBool false) 0 y) = y := by
        intro y; unfold Scalar.select; simp
      rw [this, ofBits_two, Ideal.ofBits_one_f32]
      have l1 : Ideal.log ((r : ℝ) : EReal) = ((Real.log r : ℝ) : EReal) := by
        show (if r ≤ 0 then ⊥ else (Real.log r : EReal)) = _
        rw [if_neg (not_le.2 hrpos)]
      have l2 : Ideal.log ((2 : ℝ) : EReal) = ((Real.log 2 : ℝ) : EReal) := by
        show (if (2 : ℝ) ≤ 0 then ⊥ else (Real.log 2 : EReal)) = _
        rw [if_neg (by norm_num)]
      rw [l1, l2, Ideal.div_coe hlog2.ne', ← EReal.coe_mul]
      show ((⌊Real.log r * (1 / Real.log 2)⌋ : ℝ) : EReal) + 1 = _
      rw [hfl, ← EReal.coe_one, ← EReal.coe_add]
      congr 1; push_cast; ring
    · unfold kScale; rw [hn]
      have : eOf (BitVec.ofNat 32 n) + 127#32 = BitVec.ofNat 32 (n + 1) :=
        (by decide +kernel : ∀ n : Fin 247, n.val ≠ 0 → eOf (BitVec.ofNat 32 n.val) + 127#32 = BitVec.ofNat 32 (n.val + 1)) ⟨n, by omega⟩ hn0
      rw [this, shli_P (by omega), P_coe (by omega) (by omega)]
      congr 2; push_cast; ring
    · unfold kInv; rw [hn]
      have : 127#32 - eOf (BitVec.ofNat 32 n) = BitVec.ofNat 32 (253 - n) :=
        (by decide +kernel : ∀ n : Fin 247, n.val ≠ 0 → 127#32 - eOf (BitVec.ofNat 32 n.val) = BitVec.ofNat 32 (253 - n.val)) ⟨n, by omega⟩ hn0
      rw [this, shli_P (by omega), P_coe (by omega) (by omega)]
      congr 2; rw [Nat.cast_sub (by omega)]; push_cast; ring

end Cert.Proof.Value

end
-- ==== Proof.Value.RefRun.lean ====
/-
  The reference's run, read as functions of its arguments: its host lines, its one region on whole arrays, its three results.
-/
module

public import proofs.«01_k».proof.Proof.Value.Scale
public import proofs.«01_k».proof.Proof.Gen.ReferenceIdeal.Frame
public import Idealize.ShloMosaic.Lib.Pipeline.Value

@[expose] public section

set_option maxRecDepth 16384

noncomputable section

namespace Cert.Proof.Reference

open Cert.ReferenceIdeal Cert.ReferenceIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F]

/-! ## The host lines -/

/-- Each row's greatest magnitude. -/
def rMax (x : FVec F S2x128x3072 .bf16) : FVec F S2x128 .f32 :=
  Host.reduce FloatOps.maximumf (Host.absf (extf .f32 x bitsLt_bf16_f32)) (constant S_ .f32 0xFF800000#32) reducesTo_S2x128x3072_S2x128_d2 h_S_

/-- A number at every row. -/
def rConst (b : BitVec 32) : FVec F S2x128 .f32 := broadcastInDim S2x128 ![] bcast_S_S2x128 (constant S_ .f32 b)

/-- The row maximum times the reciprocal of the format's largest number. -/
def rM (x : FVec F S2x128x3072 .bf16) : FVec F S2x128 .f32 := mulf (rMax x) (rConst 0x3B124925#32)

/-- The exponent of the row's scale. -/
def rE (x : FVec F S2x128x3072 .bf16) : FVec F S2x128 .f32 :=
  select (cmpf .oeq (rMax x) (rConst 0x00000000#32)) (rConst 0x00000000#32)
    (select (cmpf .olt (rM x) (rConst 0x00800000#32)) (rConst 0x00000000#32)
      (addf (Host.floor (Host.divf (Host.log (rM x)) (broadcastInDim S2x128 ![] bcast_S_S2x128 (Host.log (constant S_ .f32 0x40000000#32)))))
        (rConst 0x3F800000#32)))

/-- The row scales, the third result. -/
def rScale (x : FVec F S2x128x3072 .bf16) : FVec F S2x128 .f32 := Host.powf (rConst 0x40000000#32) (rE x)

/-- The quantised rows before the cast. -/
def rQ (x : FVec F S2x128x3072 .bf16) : FVec F S2x128x3072 .f32 :=
  minimumf (broadcastInDim S2x128x3072 ![] bcast_S_S2x128x3072 (constant S_ .f32 0x43E00000#32))
    (maximumf (broadcastInDim S2x128x3072 ![] bcast_S_S2x128x3072 (constant S_ .f32 0xC3E00000#32))
      (mulf (extf .f32 x bitsLt_bf16_f32)
        (broadcastInDim S2x128x3072 ![0, 1, 2] bcast_S2x128x1_S2x128x3072_0_1_2
          (broadcastInDim S2x128x1 ![0, 1] bcast_S2x128_S2x128x1_0_1 (Host.powf (rConst 0x40000000#32) (Host.negf (rE x)))))))

/-- The low-rank factors' product with the rows, per input group. -/
def rT1 (x : FVec F S2x128x3072 .bf16) (dd : FVec F S40x192 .bf16) : FVec F S2x128x16x40 .bf16 :=
  truncf .bf16 (Host.dotGeneral dot_S2x128x16x192_S40x192_S2x128x16x40_3_1_012_0_n_n none (shapeCast S2x128x16x192 x shapeCasts_S2x128x3072_S2x128x16x192) dd) bitsLt_bf16_f32
def rT (x : FVec F S2x128x3072 .bf16) (dd : FVec F S40x192 .bf16) (du : FVec F S512x40 .bf16) : FVec F S2x128x16x512 .bf16 :=
  truncf .bf16 (Host.dotGeneral dot_S2x128x16x40_S512x40_S2x128x16x512_3_1_012_0_n_n none (rT1 x dd) du) bitsLt_bf16_f32
/-- The correction, one row per token. -/
def rU (x : FVec F S2x128x3072 .bf16) (cc : FVec F S28x16 .bf16) (dd : FVec F S40x192 .bf16) (du : FVec F S512x40 .bf16) : FVec F S256x14336 .f32 :=
  mulf (broadcastInDim S256x14336 ![] bcast_S_S256x14336 (constant S_ .f32 0x3ECCCCCD#32))
    (shapeCast S256x14336
      (transpose S2x128x28x512 [0, 1, 3, 2]
        (Host.dotGeneral dot_S2x128x16x512_S28x16_S2x128x512x28_2_1_013_0_n_n none (rT x dd du) cc)
        transposes_S2x128x512x28_S2x128x28x512_0_1_3_2) shapeCasts_S2x128x28x512_S256x14336)

/-- The second result, one row per token. -/
def rCodes (x : FVec F S2x128x3072 .bf16) : FVec F S256x3072 .fp8e4m3 := k0_pay1 (shapeCast S256x3072 (rQ x) shapeCasts_S2x128x3072_S256x3072)
/-- The first result, one row per token. -/
def rY (x : FVec F S2x128x3072 .bf16) (w : FVec F S14336x3072 .fp8e4m3) (ws : FVec F S14336 .f32) (cc : FVec F S28x16 .bf16) (dd : FVec F S40x192 .bf16)
    (du : FVec F S512x40 .bf16) : FVec F S256x14336 .bf16 :=
  k0_pay2 (rCodes x) w (shapeCast S256x1 (rScale x) shapeCasts_S2x128_S256x1) (shapeCast S1x14336 ws shapeCasts_S14336_S1x14336) (rU x cc dd du)

section
variable (m : (ℓ : Loc nD τ sig) → Buf (Elt F) ℓ) (ρ : Dev nD → PrngReg)

theorem V_v20 (c : Dev nD) : V m c main_v20 = rScale (m ((c : Thread nD τ).loc main_arg0)) := by
  show StableHlo.after _ _ _ = _
  simp only [hostOps0, hostOps0_1, hostOps0_2, hostOps0_3, hostOps0_4, hostOps0_5, hostOps0_6, List.flatten_cons, List.flatten_nil, List.append_nil, List.cons_append, List.nil_append]
  after_results_simp
  rfl
theorem V_v36 (c : Dev nD) : V m c main_v36 = shapeCast S256x3072 (rQ (m ((c : Thread nD τ).loc main_arg0))) shapeCasts_S2x128x3072_S256x3072 := by
  show StableHlo.after _ _ _ = _
  simp only [hostOps0, hostOps0_1, hostOps0_2, hostOps0_3, hostOps0_4, hostOps0_5, hostOps0_6, List.flatten_cons, List.flatten_nil, List.append_nil, List.cons_append, List.nil_append]
  after_results_simp
  rfl
theorem V_v37 (c : Dev nD) : V m c main_v37 = shapeCast S256x1 (rScale (m ((c : Thread nD τ).loc main_arg0))) shapeCasts_S2x128_S256x1 := by
  show StableHlo.after _ _ _ = _
  simp only [hostOps0, hostOps0_1, hostOps0_2, hostOps0_3, hostOps0_4, hostOps0_5, hostOps0_6, List.flatten_cons, List.flatten_nil, List.append_nil, List.cons_append, List.nil_append]
  after_results_simp
  rfl
theorem V_v38 (c : Dev nD) : V m c main_v38 = shapeCast S1x14336 (m ((c : Thread nD τ).loc main_arg2)) shapeCasts_S14336_S1x14336 := by
  show StableHlo.after _ _ _ = _
  simp only [hostOps0, hostOps0_1, hostOps0_2, hostOps0_3, hostOps0_4, hostOps0_5, hostOps0_6, List.flatten_cons, List.flatten_nil, List.append_nil, List.cons_append, List.nil_append]
  after_results_simp
  rfl
theorem V_v40 (c : Dev nD) : V m c main_v40 = rU (m ((c : Thread nD τ).loc main_arg0)) (m ((c : Thread nD τ).loc main_arg3)) (m ((c : Thread nD τ).loc main_arg4)) (m ((c : Thread nD τ).loc main_arg5)) := by
  show StableHlo.after _ _ _ = _
  simp only [hostOps0, hostOps0_1, hostOps0_2, hostOps0_3, hostOps0_4, hostOps0_5, hostOps0_6, List.flatten_cons, List.flatten_nil, List.append_nil, List.cons_append, List.nil_append]
  after_results_simp
  rfl

/-! ## The region -/

theorem hz2 : (![0, 0] : Fin 2 → Nat) = fun _ => 0 := funext fun a => by fin_cases a <;> rfl

theorem idx_zero0 : ∀ t : Fin cfg0.N, win0_0.index t (0 : Fin 2) = 0 ∧ win0_0.index t (1 : Fin 2) = 0 :=
  (by decide +kernel : ∀ t : Fin grid0.N, _)
/-- An index of window 0's block is the same index of its array. -/
theorem emb0 (t : Fin cfg0.N) (j : S256x3072.Idx) : ((cfg0.win 0).blk t).view.emb j = j := by
  obtain ⟨e0, e1⟩ := idx_zero0 t
  funext a; apply Fin.ext
  match a with
  | ⟨0, _⟩ => show win0_0.index t (0 : Fin 2) * 256 + 1 * (j 0).val = (j 0).val; omega
  | ⟨1, _⟩ => show win0_0.index t (1 : Fin 2) * 3072 + 1 * (j 1).val = (j 1).val; omega
theorem iblk0_eq (c : Dev nD) (t : Fin cfg0.N) : iblk m c 0 t = V m c main_v36 := by
  funext j; show V m c main_v36 (((cfg0.win 0).blk t).view.emb j) = V m c main_v36 j; rw [emb0]

theorem idx_zero1 : ∀ t : Fin cfg0.N, win0_1.index t (0 : Fin 2) = 0 ∧ win0_1.index t (1 : Fin 2) = 0 :=
  (by decide +kernel : ∀ t : Fin grid0.N, _)
/-- An index of window 1's block is the same index of its array. -/
theorem emb1 (t : Fin cfg0.N) (j : S256x1.Idx) : ((cfg0.win 1).blk t).view.emb j = j := by
  obtain ⟨e0, e1⟩ := idx_zero1 t
  funext a; apply Fin.ext
  match a with
  | ⟨0, _⟩ => show win0_1.index t (0 : Fin 2) * 256 + 1 * (j 0).val = (j 0).val; omega
  | ⟨1, _⟩ => show win0_1.index t (1 : Fin 2) * 1 + 1 * (j 1).val = (j 1).val; omega
theorem iblk1_eq (c : Dev nD) (t : Fin cfg0.N) : iblk m c 1 t = V m c main_v37 := by
  funext j; show V m c main_v37 (((cfg0.win 1).blk t).view.emb j) = V m c main_v37 j; rw [emb1]

theorem idx_zero2 : ∀ t : Fin cfg0.N, win0_2.index t (0 : Fin 2) = 0 ∧ win0_2.index t (1 : Fin 2) = 0 :=
  (by decide +kernel : ∀ t : Fin grid0.N, _)
/-- An index of window 2's block is the same index of its array. -/
theorem emb2 (t : Fin cfg0.N) (j : S14336x3072.Idx) : ((cfg0.win 2).blk t).view.emb j = j := by
  obtain ⟨e0, e1⟩ := idx_zero2 t
  funext a; apply Fin.ext
  match a with
  | ⟨0, _⟩ => show win0_2.index t (0 : Fin 2) * 14336 + 1 * (j 0).val = (j 0).val; omega
  | ⟨1, _⟩ => show win0_2.index t (1 : Fin 2) * 3072 + 1 * (j 1).val = (j 1).val; omega
theorem iblk2_eq (c : Dev nD) (t : Fin cfg0.N) : iblk m c 2 t = V m c main_arg1 := by
  funext j; show V m c main_arg1 (((cfg0.win 2).blk t).view.emb j) = V m c main_arg1 j; rw [emb2]

theorem idx_zero3 : ∀ t : Fin cfg0.N, win0_3.index t (0 : Fin 2) = 0 ∧ win0_3.index t (1 : Fin 2) = 0 :=
  (by decide +kernel : ∀ t : Fin grid0.N, _)
/-- An index of window 3's block is the same index of its array. -/
theorem emb3 (t : Fin cfg0.N) (j : S1x14336.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 14336 + 1 * (j 1).val = (j 1).val; omega
theorem iblk3_eq (c : Dev nD) (t : Fin cfg0.N) : iblk m c 3 t = V m c main_v38 := by
  funext j; show V m c main_v38 (((cfg0.win 3).blk t).view.emb j) = V m c main_v38 j; rw [emb3]

theorem idx_zero4 : ∀ t : Fin cfg0.N, win0_4.index t (0 : Fin 2) = 0 ∧ win0_4.index t (1 : Fin 2) = 0 :=
  (by decide +kernel : ∀ t : Fin grid0.N, _)
/-- An index of window 4's block is the same index of its array. -/
theorem emb4 (t : Fin cfg0.N) (j : S256x14336.Idx) : ((cfg0.win 4).blk t).view.emb j = j := by
  obtain ⟨e0, e1⟩ := idx_zero4 t
  funext a; apply Fin.ext
  match a with
  | ⟨0, _⟩ => show win0_4.index t (0 : Fin 2) * 256 + 1 * (j 0).val = (j 0).val; omega
  | ⟨1, _⟩ => show win0_4.index t (1 : Fin 2) * 14336 + 1 * (j 1).val = (j 1).val; omega
theorem iblk4_eq (c : Dev nD) (t : Fin cfg0.N) : iblk m c 4 t = V m c main_v40 := by
  funext j; show V m c main_v40 (((cfg0.win 4).blk t).view.emb j) = V m c main_v40 j; rw [emb4]

theorem idx_zero5 : ∀ t : Fin cfg0.N, win0_5.index t (0 : Fin 2) = 0 ∧ win0_5.index t (1 : Fin 2) = 0 :=
  (by decide +kernel : ∀ t : Fin grid0.N, _)
/-- An index of window 5's block is the same index of its array. -/
theorem emb5 (t : Fin cfg0.N) (j : S256x14336.Idx) : ((cfg0.win 5).blk t).view.emb j = j := by
  obtain ⟨e0, e1⟩ := idx_zero5 t
  funext a; apply Fin.ext
  match a with
  | ⟨0, _⟩ => show win0_5.index t (0 : Fin 2) * 256 + 1 * (j 0).val = (j 0).val; omega
  | ⟨1, _⟩ => show win0_5.index t (1 : Fin 2) * 14336 + 1 * (j 1).val = (j 1).val; omega
theorem cut5_eq (t : Fin cfg0.N) (X : Vec F S256x14336 .bf16) :
    (cfg0.win 5).cut (grid0.coords t) X = ((cfg0.win 5).blk t).view.read (Elt F) X := by
  funext j
  show X j = X (((cfg0.win 5).blk t).view.emb j)
  rw [emb5]
theorem covered5 (i : S256x14336.Idx) : ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

theorem idx_zero6 : ∀ t : Fin cfg0.N, win0_6.index t (0 : Fin 2) = 0 ∧ win0_6.index t (1 : Fin 2) = 0 :=
  (by decide +kernel : ∀ t : Fin grid0.N, _)
/-- An index of window 6's block is the same index of its array. -/
theorem emb6 (t : Fin cfg0.N) (j : S256x3072.Idx) : ((cfg0.win 6).blk t).view.emb j = j := by
  obtain ⟨e0, e1⟩ := idx_zero6 t
  funext a; apply Fin.ext
  match a with
  | ⟨0, _⟩ => show win0_6.index t (0 : Fin 2) * 256 + 1 * (j 0).val = (j 0).val; omega
  | ⟨1, _⟩ => show win0_6.index t (1 : Fin 2) * 3072 + 1 * (j 1).val = (j 1).val; omega
theorem cut6_eq (t : Fin cfg0.N) (X : Vec F S256x3072 .fp8e4m3) :
    (cfg0.win 6).cut (grid0.coords t) X = ((cfg0.win 6).blk t).view.read (Elt F) X := by
  funext j
  show X j = X (((cfg0.win 6).blk t).view.emb j)
  rw [emb6]
theorem covered6 (i : S256x3072.Idx) : ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

theorem out5_eq (c : Dev nD) (arg0 : Memref sig .tc .vmem S256x3072 .f32) (harg0 : arg0.IsWhole) (arg1 : Memref sig .tc .vmem S256x1 .f32) (harg1 : arg1.IsWhole) (arg2 : Memref sig .tc .vmem S14336x3072 .fp8e4m3) (harg2 : arg2.IsWhole) (arg3 : Memref sig .tc .vmem S1x14336 .f32) (harg3 : arg3.IsWhole) (arg4 : Memref sig .tc .vmem S256x14336 .f32) (harg4 : arg4.IsWhole) (arg5 : Memref sig .tc .vmem S256x14336 .bf16) (harg5 : arg5.IsWhole) (arg6 : Memref sig .tc .vmem S256x3072 .fp8e4m3) (harg6 : arg6.IsWhole)
    (x0 : Vec F S256x3072 .f32) (x1 : Vec F S256x1 .f32) (x2 : Vec F S14336x3072 .fp8e4m3) (x3 : Vec F S1x14336 .f32) (x4 : Vec F S256x14336 .f32) :
    out0_A_5 c arg0 harg0 arg1 harg1 arg2 harg2 arg3 harg3 arg4 harg4 arg5 harg5 arg6 harg6 x0 x1 x2 x3 x4 = k0_pay2 (k0_pay1 x0) x2 x1 x3 x4 := by
  unfold out0_A_5
  rw [View.read_writes_eq_canon _ _ _ (cover0_A_5 c arg0 harg0 arg1 harg1 arg2 harg2 arg3 harg3 arg4 harg4 arg5 harg5 arg6 harg6 x0 x1 x2 x3 x4)]
  unfold kernelRun0_A
  dsimp only
  try sl_unfold_words
  rw [View.canon_unit_zero hz2]
  rw [View.readCov_unit_zero (S := S256x3072) _ hz2]
  simp only [View.readAt_eq_ld, harg0.read_unread, harg1.read_unread, harg2.read_unread, harg3.read_unread, harg4.read_unread, harg5.read_unread, harg6.read_unread, View.ld_unit_zero (S := S256x3072) hz2, View.ld_unit_zero (S := S256x1) hz2, View.ld_unit_zero (S := S14336x3072) hz2, View.ld_unit_zero (S := S1x14336) hz2, View.ld_unit_zero (S := S256x14336) hz2, shapeCast_self]

theorem out6_eq (c : Dev nD) (arg0 : Memref sig .tc .vmem S256x3072 .f32) (harg0 : arg0.IsWhole) (arg1 : Memref sig .tc .vmem S256x1 .f32) (harg1 : arg1.IsWhole) (arg2 : Memref sig .tc .vmem S14336x3072 .fp8e4m3) (harg2 : arg2.IsWhole) (arg3 : Memref sig .tc .vmem S1x14336 .f32) (harg3 : arg3.IsWhole) (arg4 : Memref sig .tc .vmem S256x14336 .f32) (harg4 : arg4.IsWhole) (arg5 : Memref sig .tc .vmem S256x14336 .bf16) (harg5 : arg5.IsWhole) (arg6 : Memref sig .tc .vmem S256x3072 .fp8e4m3) (harg6 : arg6.IsWhole)
    (x0 : Vec F S256x3072 .f32) (x1 : Vec F S256x1 .f32) (x2 : Vec F S14336x3072 .fp8e4m3) (x3 : Vec F S1x14336 .f32) (x4 : Vec F S256x14336 .f32) :
    out0_A_6 c arg0 harg0 arg1 harg1 arg2 harg2 arg3 harg3 arg4 harg4 arg5 harg5 arg6 harg6 x0 x1 x2 x3 x4 = k0_pay1 x0 := by
  unfold out0_A_6
  rw [View.read_writes_eq_canon _ _ _ (cover0_A_6 c arg0 harg0 arg1 harg1 arg2 harg2 arg3 harg3 arg4 harg4 arg5 harg5 arg6 harg6 x0 x1 x2 x3 x4)]
  unfold kernelRun0_A
  dsimp only
  try sl_unfold_words
  rw [View.canon_unit_zero hz2]
  skip
  simp only [View.readAt_eq_ld, harg0.read_unread, harg1.read_unread, harg2.read_unread, harg3.read_unread, harg4.read_unread, harg5.read_unread, harg6.read_unread, View.ld_unit_zero (S := S256x3072) hz2, View.ld_unit_zero (S := S256x1) hz2, View.ld_unit_zero (S := S14336x3072) hz2, View.ld_unit_zero (S := S1x14336) hz2, View.ld_unit_zero (S := S256x14336) hz2, shapeCast_self]

theorem flushed5_eq (c : Dev nD) (t : Fin cfg0.N) :
    (dats m 0 c).flushed 5 t = ((cfg0.win 5).blk t).view.read (Elt F) (k0_pay2 (k0_pay1 (V m c main_v36)) (V m c main_arg1) (V m c main_v37) (V m c main_v38) (V m c main_v40)) := by
  show (cfg0.win 5).cut (grid0.coords t) ((dats m 0 c).after 5 t) = _
  rw [after0_5]
  unfold outsAt0
  dsimp only
  rw [out5_eq, iblk0_eq, iblk1_eq, iblk2_eq, iblk3_eq, iblk4_eq]
  exact cut5_eq t _
theorem final5 (c : Dev nD) : (dats m 0 c).arrAt 5 cfg0.N = k0_pay2 (k0_pay1 (V m c main_v36)) (V m c main_arg1) (V m c main_v37) (V m c main_v38) (V m c main_v40) :=
  (dats m 0 c).arrAt_eq_of_cover 5 (k0_pay2 (k0_pay1 (V m c main_v36)) (V m c main_arg1) (V m c main_v37) (V m c main_v38) (V m c main_v40)) (fun t _ => flushed5_eq m c t) covered5

theorem flushed6_eq (c : Dev nD) (t : Fin cfg0.N) :
    (dats m 0 c).flushed 6 t = ((cfg0.win 6).blk t).view.read (Elt F) (k0_pay1 (V m c main_v36)) := by
  show (cfg0.win 6).cut (grid0.coords t) ((dats m 0 c).after 6 t) = _
  rw [after0_6]
  unfold outsAt0
  dsimp only
  rw [out6_eq, iblk0_eq]
  exact cut6_eq t _
theorem final6 (c : Dev nD) : (dats m 0 c).arrAt 6 cfg0.N = k0_pay1 (V m c main_v36) :=
  (dats m 0 c).arrAt_eq_of_cover 6 (k0_pay1 (V m c main_v36)) (fun t _ => flushed6_eq m c t) covered6

/-! ## The results -/

theorem arrRef_inj : Function.Injective (Pipeline.arrRef spec0) := by decide

theorem Wx_v41_0 (c : Dev nD) : Pipeline.withArrays (cfgs 0).spec c (V0 m c) (fun w => (dats m 0 c).arrAt w (cfgs 0).N) (Proc.devRef .tc main_v41_0)
    = k0_pay2 (k0_pay1 (V m c main_v36)) (V m c main_arg1) (V m c main_v37) (V m c main_v38) (V m c main_v40) :=
  (Pipeline.withArrays_arr spec0 arrRef_inj c (V0 m c) _ 5).trans (final5 m c)
theorem Wx_v41_1 (c : Dev nD) : Pipeline.withArrays (cfgs 0).spec c (V0 m c) (fun w => (dats m 0 c).arrAt w (cfgs 0).N) (Proc.devRef .tc main_v41_1)
    = k0_pay1 (V m c main_v36) :=
  (Pipeline.withArrays_arr spec0 arrRef_inj c (V0 m c) _ 6).trans (final6 m c)

theorem W_v42 (c : Dev nD) : Pipeline.afterTail₀ cfgs (dats m) 0 (V0 m) [hostOps1] c main_v42
    = shapeCast S2x128x14336 (rY (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) shapeCasts_S256x14336_S2x128x14336 := by
  unfold Pipeline.afterTail₀
  simp only [hostOps1, List.flatten_cons, List.flatten_nil, List.append_nil, StableHlo.after_cons, StableHlo.after_nil]
  rw [StableHlo.reshape_result_ne _ _ _ _ _ (by decide), StableHlo.reshape_result,
    Wx_v41_0, V_v36, V_v37, V_v38, V_v40, V_main_arg1]
  · rfl
  · decide
theorem W_v43 (c : Dev nD) : Pipeline.afterTail₀ cfgs (dats m) 0 (V0 m) [hostOps1] c main_v43
    = shapeCast S2x128x3072 (rCodes (m ((c : Thread nD τ).loc main_arg0))) shapeCasts_S256x3072_S2x128x3072 := by
  unfold Pipeline.afterTail₀
  simp only [hostOps1, List.flatten_cons, List.flatten_nil, List.append_nil, StableHlo.after_cons, StableHlo.after_nil]
  rw [StableHlo.reshape_result, StableHlo.reshape_result_ne _ _ _ _ _ (by decide),
    Wx_v41_1, V_v36]
  · rfl
  · decide
theorem W_v20 (c : Dev nD) : Pipeline.afterTail₀ cfgs (dats m) 0 (V0 m) [hostOps1] c main_v20 = rScale (m ((c : Thread nD τ).loc main_arg0)) := by
  unfold Pipeline.afterTail₀
  rw [StableHlo.after_of_forall_not_mem (b := Proc.devRef .tc main_v20) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_v20 (by exact (by decide : ∀ w, Pipeline.arrRef spec0 w ≠ main_v20))]
  exact V_v20 m c

/-- The reference's three results and its six arguments at every final state. -/
theorem run_main : θ_run defs (onTc (τ := τ) (main (F := F))) ⟨m, fun _ => 0, ρ⟩ (fun r => ∀ c : Dev nD,
      r.2.mem ((c.tc : Thread nD τ).loc main_v42)
        = shapeCast S2x128x14336 (rY (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))) shapeCasts_S256x14336_S2x128x14336
      ∧ r.2.mem ((c.tc : Thread nD τ).loc main_v43) = shapeCast S2x128x3072 (rCodes (m ((c : Thread nD τ).loc main_arg0))) shapeCasts_S256x3072_S2x128x3072
      ∧ r.2.mem ((c.tc : Thread nD τ).loc main_v20) = rScale (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      (((h c).2 main_v42 (Pipeline.mem_restRefs_of main_v42 (by decide) (by decide))).trans (W_v42 m c)),
      (((h c).2 main_v43 (Pipeline.mem_restRefs_of main_v43 (by decide) (by decide))).trans (W_v43 m c)),
      (((h c).2 main_v20 (Pipeline.mem_restRefs_of main_v20 (by decide) (by decide))).trans (W_v20 m c)),
      (((h c).2 main_arg0 (Pipeline.mem_restRefs_of main_arg0 (by decide) (by decide))).trans (W_main_arg0 m (dats m) c)),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩) (Cert.ReferenceIdeal.Gen.run_main m ρ)

end

end Cert.Proof.Reference

end
-- ==== Proof.Value.Quant.lean ====
/-
  The quantiser: the kernel's row scales and codes are the reference's, for an input whose entries are bounded by the format's largest number.
-/
module

public import proofs.«01_k».proof.Proof.Value.RefRun
public import Idealize.ShloMosaic.Lib.KernelVsHost

@[expose] public section

set_option maxRecDepth 16384

noncomputable section

namespace Cert.Proof.Value

open Cert.KernelIdeal Cert.KernelIdeal.Gen
open Idealize.ShloMosaic Idealize.ShloMosaic.TcCoe Idealize.ShloMosaic.ValueIdx
open Cert.Proof.Ideal (sclV xcV xsV xsBlk)
open Cert.Proof.Reference (rMax rM rE rScale rQ rConst rCodes)

/-! ## Indices -/

/-- Token `r` of the flattened rows is position `r % 128` of sequence `r / 128`. -/
def tok (r : Fin 256) : S2x128.Idx := ix2 (n0 := 2) (n1 := 128) ⟨r.val / 128, by omega⟩ ⟨r.val % 128, by omega⟩
def tok3 (r : Fin 256) (k : Fin 3072) : S2x128x3072.Idx :=
  ix3 (n0 := 2) (n1 := 128) (n2 := 3072) ⟨r.val / 128, by omega⟩ ⟨r.val % 128, by omega⟩ k

theorem flat_apply {α : Type} (x : S2x128x3072.Idx → α) (h : S2x128x3072.ShapeCasts S256x3072) (r : Fin 256) (k : Fin 3072) :
    shapeCast S256x3072 x h (ix2 (n0 := 256) (n1 := 3072) r k) = x (tok3 r k) := by
  refine shapeCast_apply x h _ _ ?_
  rw [Shape.rowMajor_val_three, Shape.rowMajor_val_two]
  show (r.val / 128 * 128 + r.val % 128) * 3072 + k.val = r.val * 3072 + k.val
  omega

/-! ## A row's greatest magnitude -/

def rowM (x : FVec Ideal S2x128x3072 .bf16) (r : Fin 256) : EReal :=
  (Finset.univ : Finset (Fin 3072)).fold max (Ideal.ofBits .f32 0xFF800000#32) (fun k => max (x (tok3 r k)) (-(x (tok3 r k))))

theorem pay47_eq (x : FVec Ideal S2x128x3072 .bf16) (h : S2x128x3072.ShapeCasts S256x3072) (r : Fin 256) :
    k0_pay47 (F := Ideal) (shapeCast S256x3072 x h) (ix2 (n0 := 256) (n1 := 1) r 0) = rowM x r := by
  unfold k0_pay47
  dsimp only
  refine (shapeCast_apply (s := S256) (t := S256x1) _ _ _ (ix1 r) ?_).trans ?_
  · rw [Shape.rowMajor_val_one, Shape.rowMajor_val_two]
    show r.val = r.val * 1 + 0
    omega
  refine (Ideal.multiReduction_maximumf_single (φ := .f32) _ _ reduces_S256x3072_S256 _ _ _).trans ?_
  unfold rowM
  refine Finset.fold_congr fun k _ => ?_
  show max (shapeCast S256x3072 x h _) (-(shapeCast S256x3072 x h _)) = _
  have e : reduces_S256x3072_S256.lift (ix1 r) k = ix2 (n0 := 256) (n1 := 3072) r k := by
    funext c; apply Fin.ext
    fin_cases c
    · rfl
    · rfl
  rw [e]
  have f : shapeCast S256x3072 x h (ix2 (n0 := 256) (n1 := 3072) r k) = x (tok3 r k) := flat_apply x h r k
  exact congrArg (fun z : EReal => max z (-z)) f

theorem reduces3 : S2x128x3072.Reduces [2] S2x128 := by decide

theorem rMax_eq (x : FVec Ideal S2x128x3072 .bf16) (r : Fin 256) : rMax (F := Ideal) x (tok r) = rowM x r := by
  unfold rMax
  refine (congrFun (hostReduce_maximumf_eq_multiReduction (φ := .f32) _ _ _ _ reduces3 (.inl rfl) rfl) _).trans ?_
  refine (Ideal.multiReduction_maximumf_single (φ := .f32) _ _ reduces3 _ _ _).trans ?_
  unfold rowM
  refine Finset.fold_congr fun k _ => ?_
  show max (x _) (-(x _)) = _
  have e : reduces3.lift (tok r) k = tok3 r k := by
    funext c; apply Fin.ext
    fin_cases c
    · rfl
    · rfl
    · rfl
  rw [e]

/-! ## The scale of a row -/

/-- The row maximum over the format's largest number. -/
def rowS (x : FVec Ideal S2x128x3072 .bf16) (r : Fin 256) : EReal := rowM x r * Ideal.ofBits .f32 0x3B124925#32

/-- One step of the search, at every row. -/
def vstep (V : FVec Ideal S256x1 .f32) (b : BitVec 32) (K : IVec S256x1 32) : IVec S256x1 32 :=
  select (cmpf .olt V (bitcastToFloat .f32 (shli (addi K (broadcast S256x1 b)) (broadcast S256x1 23#32)))) K (addi K (broadcast S256x1 b))

theorem vstep_apply (V : FVec Ideal S256x1 .f32) (b : BitVec 32) (K : IVec S256x1 32) (i : S256x1.Idx) : vstep V b K i = step (V i) b (K i) := rfl

theorem pay49_eq (v : FVec Ideal S256x1 .f32) : k0_pay49 (F := Ideal) v
    = vstep (k0_pay48 v) 16#32 (vstep (k0_pay48 v) 32#32 (vstep (k0_pay48 v) 64#32 (vstep (k0_pay48 v) 128#32 (broadcast S256x1 0#32)))) := by
  unfold k0_pay49
  generalize k0_pay48 (F := Ideal) v = V
  rfl
theorem pay51_eq (V : FVec Ideal S256x1 .f32) (K : IVec S256x1 32) :
    k0_pay51 (F := Ideal) V K (bitcastToFloat .f32 (shli (addi K (broadcast S256x1 8#32)) (broadcast S256x1 23#32)))
      = fun i => eOf (vstep V 1#32 (vstep V 2#32 (vstep V 4#32 (vstep V 8#32 K))) i) := by
  unfold k0_pay51
  rfl
theorem pay50_eq (v : FVec Ideal S256x1 .f32) :
    k0_pay50 (F := Ideal) v = bitcastToFloat .f32 (shli (addi (k0_pay49 (F := Ideal) v) (broadcast S256x1 8#32)) (broadcast S256x1 23#32)) := by
  unfold k0_pay50
  generalize k0_pay49 (F := Ideal) v = K
  rfl
theorem zero_apply (i : S256x1.Idx) : (broadcast S256x1 0#32 : IVec S256x1 32) i = 0#32 := rfl
/-- The exponent the kernel finds at a row. -/
theorem pay51_apply (v : FVec Ideal S256x1 .f32) (i : S256x1.Idx) : k0_pay51 (F := Ideal) (k0_pay48 v) (k0_pay49 v) (k0_pay50 v) i
    = eOf (expo (k0_pay48 (F := Ideal) v i)) := by
  rw [pay50_eq, pay49_eq]
  generalize k0_pay48 (F := Ideal) v = V
  rw [pay51_eq]
  simp only [vstep_apply, zero_apply]
  unfold expo
  rfl

theorem pay52_apply (V : FVec Ideal S256x1 .f32) (K : IVec S256x1 32) (B : FVec Ideal S256x1 .f32) (i : S256x1.Idx) :
    k0_pay52 (F := Ideal) V K B i = Ideal.ofBits .f32 (IntOp.shli .vector (k0_pay51 (F := Ideal) V K B i + 127#32) 23#32) := by
  unfold k0_pay52
  generalize k0_pay51 (F := Ideal) V K B = E
  rfl
theorem pay53_apply (V : FVec Ideal S256x1 .f32) (K : IVec S256x1 32) (B : FVec Ideal S256x1 .f32) (i : S256x1.Idx) :
    k0_pay53 (F := Ideal) V K B i = 127#32 - k0_pay51 (F := Ideal) V K B i := by
  unfold k0_pay53
  generalize k0_pay51 (F := Ideal) V K B = E
  rfl

theorem kconst_mul (v : FVec Ideal S256x1 .f32) (b : BitVec 32) (i : S256x1.Idx) :
    mulf v (broadcast S256x1 (Scalar.ofBits .f32 b : Ideal .f32)) i = v i * Ideal.ofBits .f32 b := rfl
theorem pay48_row (x : FVec Ideal S2x128x3072 .bf16) (h : S2x128x3072.ShapeCasts S256x3072) (r : Fin 256) :
    k0_pay48 (F := Ideal) (k0_pay47 (F := Ideal) (shapeCast S256x3072 x h)) (ix2 (n0 := 256) (n1 := 1) r 0) = rowS x r := by
  unfold k0_pay48 rowS
  rw [← pay47_eq x h r]
  exact kconst_mul _ _ _

theorem sclV_eq (x : FVec Ideal S2x128x3072 .bf16) (h : S2x128x3072.ShapeCasts S256x3072) (r : Fin 256) :
    sclV (F := Ideal) (shapeCast S256x3072 x h) (ix2 (n0 := 256) (n1 := 1) r 0) = kScale (rowS x r) := by
  unfold sclV kScale
  rw [pay52_apply, pay51_apply, pay48_row]

/-- The number the kernel multiplies row `r` with. -/
theorem inv_eq (x : FVec Ideal S2x128x3072 .bf16) (h : S2x128x3072.ShapeCasts S256x3072) (r : Fin 256) :
    Ideal.ofBits .f32 (IntOp.shli .vector (k0_pay53 (F := Ideal) (k0_pay48 (k0_pay47 (F := Ideal) (shapeCast S256x3072 x h))) (k0_pay49 (k0_pay47 (F := Ideal) (shapeCast S256x3072 x h)))
      (k0_pay50 (k0_pay47 (F := Ideal) (shapeCast S256x3072 x h))) (ix2 (n0 := 256) (n1 := 1) r 0)) 23#32) = kInv (rowS x r) := by
  unfold kInv
  rw [pay53_apply, pay51_apply, pay48_row]

theorem clip_eq (X : FVec Ideal S256x3072 .bf16) (K : IVec S256x1 32) (lo hi : BitVec 32) (r : Fin 256) (k : Fin 3072) :
    truncf .fp8e4m3 (minimumf (broadcast S256x3072 (Scalar.truncf .bf16 bitsLt_bf16_f32 (Scalar.ofBits .f32 hi : Ideal .f32)))
      (maximumf (broadcast S256x3072 (Scalar.truncf .bf16 bitsLt_bf16_f32 (Scalar.ofBits .f32 lo : Ideal .f32)))
        (mulf X (broadcastTo S256x3072 (truncf (F := Ideal) .bf16 (bitcastToFloat .f32 (shli K (broadcast S256x1 23#32))) bitsLt_bf16_f32) broadcasts_S256x1_S256x3072))))
      bitsLt_fp8e4m3_bf16 (ix2 (n0 := 256) (n1 := 3072) r k)
      = min (Ideal.ofBits .f32 hi) (max (Ideal.ofBits .f32 lo) (X (ix2 (n0 := 256) (n1 := 3072) r k)
          * Ideal.ofBits .f32 (IntOp.shli .vector (K (ix2 (n0 := 256) (n1 := 1) r 0)) 23#32))) := by
  refine (show _ = min (Ideal.ofBits .f32 hi) (max (Ideal.ofBits .f32 lo)
    (X (ix2 (n0 := 256) (n1 := 3072) r k) * broadcastTo S256x3072 (truncf (F := Ideal) .bf16 (bitcastToFloat .f32 (shli K (broadcast S256x1 23#32))) bitsLt_bf16_f32) broadcasts_S256x1_S256x3072 (ix2 (n0 := 256) (n1 := 3072) r k))) from rfl).trans ?_
  rw [broadcastTo_apply _ _ (ix2 (n0 := 256) (n1 := 3072) r k) (ix2 (n0 := 256) (n1 := 1) r 0) (by intro b; fin_cases b <;> rfl)]
  rfl

/-- A code of the kernel's, before the reference is looked at. -/
theorem xcV_eq (x : FVec Ideal S2x128x3072 .bf16) (h : S2x128x3072.ShapeCasts S256x3072) (r : Fin 256) (k : Fin 3072) :
    xcV (F := Ideal) (shapeCast S256x3072 x h) (ix2 (n0 := 256) (n1 := 3072) r k)
      = min (Ideal.ofBits .f32 0x43E00000#32) (max (Ideal.ofBits .f32 0xC3E00000#32) (x (tok3 r k) * kInv (rowS x r))) := by
  rw [← inv_eq x h r, ← flat_apply x h r k]
  unfold xcV
  generalize k0_pay53 (F := Ideal) (k0_pay48 (k0_pay47 (F := Ideal) (shapeCast S256x3072 x h))) (k0_pay49 (k0_pay47 (F := Ideal) (shapeCast S256x3072 x h)))
    (k0_pay50 (k0_pay47 (F := Ideal) (shapeCast S256x3072 x h))) = K
  generalize shapeCast S256x3072 x h = X
  unfold k0_pay54
  rw [shapeCast_self]
  exact clip_eq X K _ _ r k

/-! ## The reference's -/

theorem rconst_mul (v : FVec Ideal S2x128 .f32) (b : BitVec 32) (i : S2x128.Idx) : mulf v (rConst (F := Ideal) b) i = v i * Ideal.ofBits .f32 b := rfl
theorem rM_eq (x : FVec Ideal S2x128x3072 .bf16) (r : Fin 256) : rM (F := Ideal) x (tok r) = rowS x r := by
  unfold rM rowS
  rw [← rMax_eq]
  exact rconst_mul _ _ _
theorem rE_form (A M : FVec Ideal S2x128 .f32) (z n t o : BitVec 32) (i : S2x128.Idx) :
    select (cmpf .oeq A (rConst z)) (rConst z) (select (cmpf .olt M (rConst n)) (rConst z)
      (addf (Host.floor (Host.divf (Host.log M) (broadcastInDim S2x128 ![] Cert.ReferenceIdeal.Gen.bcast_S_S2x128 (Host.log (constant (F := Ideal) S_ .f32 t))))) (rConst o))) i
    = (Scalar.select (BitVec.ofBool (decide (A i = Ideal.ofBits .f32 z))) (Ideal.ofBits .f32 z)
        (Scalar.select (BitVec.ofBool (decide (M i < Ideal.ofBits .f32 n))) (Ideal.ofBits .f32 z)
          (Ideal.liftRound Int.floor (Ideal.div (Ideal.log (M i)) (Ideal.log (Ideal.ofBits .f32 t))) + Ideal.ofBits .f32 o)) : EReal) := rfl
theorem rE_eq (x : FVec Ideal S2x128x3072 .bf16) (r : Fin 256) : rE (F := Ideal) x (tok r) = rExp (rowM x r) (rowS x r) := by
  rw [← rM_eq, ← rMax_eq]
  unfold rE rExp
  exact rE_form _ _ _ _ _ _ _

end Cert.Proof.Value

end
-- ==== Proof.Value.Quant2.lean ====
/-
  The quantiser, second part: bounds of a row's maximum, and that both sides' scales and codes agree.
-/
module

public import proofs.«01_k».proof.Proof.Value.Quant

@[expose] public section

set_option maxRecDepth 16384

noncomputable section

namespace Cert.Proof.Value

open Cert.KernelIdeal Cert.KernelIdeal.Gen
open Idealize.ShloMosaic Idealize.ShloMosaic.TcCoe Idealize.ShloMosaic.ValueIdx
open Cert.Proof.Ideal (sclV xcV xsV xsBlk)
open Cert.Proof.Reference (rMax rM rE rScale rQ rConst rCodes)

/-! ## Bounds -/

/-- Every entry is at most the format's largest finite number in magnitude. -/
def Bounded (x : FVec Ideal S2x128x3072 .bf16) : Prop := ∀ i, max (x i) (-(x i)) ≤ Ideal.ofBits .bf16 0x7F7F#16

theorem ofBits_bot : Ideal.ofBits .f32 0xFF800000#32 = ⊥ := by
  simp [Ideal.ofBits, Ideal.ieee]
theorem ofBits_big : Ideal.ofBits .bf16 0x7F7F#16 = (((255 : ℝ) * 2 ^ (120 : ℕ) : ℝ) : EReal) := by
  simp [Ideal.ofBits, Ideal.ieee, -EReal.coe_mul]
theorem ofBits_recip : Ideal.ofBits .f32 0x3B124925#32 = (((9586981 : ℝ) / 2 ^ (32 : ℕ) : ℝ) : EReal) := by
  simp [Ideal.ofBits, Ideal.ieee, -EReal.coe_mul]; norm_num

theorem rowM_le {x : FVec Ideal S2x128x3072 .bf16} (hx : Bounded x) (r : Fin 256) : rowM x r ≤ Ideal.ofBits .bf16 0x7F7F#16 := by
  unfold rowM
  rw [Finset.fold_max_le]
  refine ⟨?_, fun k _ => hx _⟩
  rw [ofBits_bot]; exact bot_le

theorem rowM_nonneg (x : FVec Ideal S2x128x3072 .bf16) (r : Fin 256) : 0 ≤ rowM x r := by
  unfold rowM
  rw [Finset.le_fold_max]
  refine Or.inr ⟨0, Finset.mem_univ _, ?_⟩
  rcases le_total 0 (x (tok3 r 0)) with h | h
  · exact le_max_of_le_left h
  · exact le_max_of_le_right (EReal.neg_nonneg.mpr h)

theorem row_facts {x : FVec Ideal S2x128x3072 .bf16} (hx : Bounded x) (r : Fin 256) :
    ∃ e : ℤ, -125 ≤ e ∧ e ≤ 120 ∧ rExp (rowM x r) (rowS x r) = ((e : ℝ) : EReal) ∧ kScale (rowS x r) = (((2 : ℝ) ^ e : ℝ) : EReal)
      ∧ kInv (rowS x r) = (((2 : ℝ) ^ (-e) : ℝ) : EReal) := by
  have h0 := rowM_nonneg x r
  have h1 := rowM_le hx r
  rw [ofBits_big] at h1
  unfold rowS
  generalize rowM x r = a at h0 h1
  rw [ofBits_recip]
  have ht : a ≠ ⊤ := fun h => by rw [h, top_le_iff] at h1; exact EReal.coe_ne_top _ h1
  have hb : a ≠ ⊥ := fun h => by rw [h, le_bot_iff] at h0; exact EReal.zero_ne_bot h0
  lift a to ℝ using ⟨ht, hb⟩
  have h0' : (0 : ℝ) ≤ a := by exact_mod_cast h0
  have h1' : a ≤ (255 : ℝ) * 2 ^ (120 : ℕ) := EReal.coe_le_coe_iff.mp h1
  rw [← EReal.coe_mul]
  have hm0 : (0 : ℝ) ≤ a * (9586981 / 2 ^ (32 : ℕ)) := by positivity
  refine scale_facts _ _ ?_ ?_ ?_
  · intro h
    have h' : a = 0 := by exact_mod_cast h
    rw [h', zero_mul, EReal.coe_zero]
  · exact_mod_cast hm0
  · rw [P_coe (by norm_num) (by norm_num), EReal.coe_lt_coe_iff]
    have e : ((2 : ℝ) ^ (((247 : ℕ) : ℤ) - 127)) = 2 ^ (120 : ℕ) := by norm_num
    rw [e]
    have hp : (0 : ℝ) < 2 ^ (120 : ℕ) := by positivity
    calc a * (9586981 / 2 ^ (32 : ℕ)) ≤ (255 : ℝ) * 2 ^ (120 : ℕ) * (9586981 / 2 ^ (32 : ℕ)) := by gcongr
      _ < 2 ^ (120 : ℕ) := by norm_num

/-! ## The two sides -/

theorem pow_form (E : FVec Ideal S2x128 .f32) (t : BitVec 32) (i : S2x128.Idx) :
    Host.powf (rConst t) E i = (Ideal.pow (Ideal.ofBits .f32 t) (E i) : EReal) := rfl
theorem rScale_eq {x : FVec Ideal S2x128x3072 .bf16} (hx : Bounded x) (r : Fin 256) : rScale (F := Ideal) x (tok r) = kScale (rowS x r) := by
  obtain ⟨e, -, -, h1, h2, h3⟩ := row_facts hx r
  unfold rScale
  rw [pow_form, rE_eq, h1, h2, pow_int]

theorem neg_form (E : FVec Ideal S2x128 .f32) (t : BitVec 32) (i : S2x128.Idx) :
    Host.powf (rConst t) (Host.negf E) i = (Ideal.pow (Ideal.ofBits .f32 t) (-(E i)) : EReal) := rfl
theorem q_form (x : FVec Ideal S2x128x3072 .bf16) (E : FVec Ideal S2x128 .f32) (lo hi : BitVec 32) (r : Fin 256) (k : Fin 3072) :
    minimumf (broadcastInDim S2x128x3072 ![] Cert.ReferenceIdeal.Gen.bcast_S_S2x128x3072 (constant (F := Ideal) S_ .f32 hi))
      (maximumf (broadcastInDim S2x128x3072 ![] Cert.ReferenceIdeal.Gen.bcast_S_S2x128x3072 (constant S_ .f32 lo))
        (mulf (extf .f32 x Cert.ReferenceIdeal.Gen.bitsLt_bf16_f32)
          (broadcastInDim S2x128x3072 ![0, 1, 2] Cert.ReferenceIdeal.Gen.bcast_S2x128x1_S2x128x3072_0_1_2
            (broadcastInDim Cert.ReferenceIdeal.S2x128x1 ![0, 1] Cert.ReferenceIdeal.Gen.bcast_S2x128_S2x128x1_0_1 E)))) (tok3 r k)
      = min (Ideal.ofBits .f32 hi) (max (Ideal.ofBits .f32 lo) (x (tok3 r k) * E (tok r))) := by
  have e : broadcastInDim S2x128x3072 ![0, 1, 2] Cert.ReferenceIdeal.Gen.bcast_S2x128x1_S2x128x3072_0_1_2
            (broadcastInDim Cert.ReferenceIdeal.S2x128x1 ![0, 1] Cert.ReferenceIdeal.Gen.bcast_S2x128_S2x128x1_0_1 E) (tok3 r k) = E (tok r) := by
    rw [broadcastInDim_apply _ _ _ (tok3 r k) (ix3 (n0 := 2) (n1 := 128) (n2 := 1) ⟨r.val / 128, by omega⟩ ⟨r.val % 128, by omega⟩ 0) (by intro a; fin_cases a <;> rfl),
      broadcastInDim_apply _ _ _ _ (tok r) (by intro a; fin_cases a <;> rfl)]
  rw [← e]
  rfl
theorem rQ_eq {x : FVec Ideal S2x128x3072 .bf16} (hx : Bounded x) (r : Fin 256) (k : Fin 3072) : rQ (F := Ideal) x (tok3 r k)
    = min (Ideal.ofBits .f32 0x43E00000#32) (max (Ideal.ofBits .f32 0xC3E00000#32) (x (tok3 r k) * kInv (rowS x r))) := by
  obtain ⟨e, -, -, h1, h2, h3⟩ := row_facts hx r
  unfold rQ
  rw [q_form, neg_form, rE_eq, h1, h3]
  have en : -((e : ℝ) : EReal) = (((-e : ℤ) : ℝ) : EReal) := by push_cast; rfl
  rw [en, pow_int]

/-- The codes are the reference's. -/
theorem codes_eq {x : FVec Ideal S2x128x3072 .bf16} (hx : Bounded x) (h : S2x128x3072.ShapeCasts S256x3072) :
    xcV (F := Ideal) (shapeCast S256x3072 x h) = rCodes (F := Ideal) x := by
  funext i
  obtain ⟨r, k, rfl⟩ : ∃ (r : Fin 256) (k : Fin 3072), i = ix2 r k := ⟨i 0, i 1, eq_ix2 i⟩
  rw [xcV_eq, ← rQ_eq hx r k]
  unfold rCodes Cert.ReferenceIdeal.Gen.k0_pay1
  rw [shapeCast_self]
  exact (flat_apply (rQ (F := Ideal) x) _ r k).symm

theorem pay55_apply (S : FVec Ideal S256x1 .f32) (r : Fin 256) (j : Fin 128) :
    k0_pay55 (F := Ideal) S (ix2 (n0 := 256) (n1 := 128) r j) = S (ix2 (n0 := 256) (n1 := 1) r 0) := by
  unfold k0_pay55
  rw [shapeCast_self, shapeCast_self]
  exact broadcastTo_apply _ _ _ _ (by intro b; fin_cases b <;> rfl)

/-- The scales are the reference's. -/
theorem scales_eq {x : FVec Ideal S2x128x3072 .bf16} (hx : Bounded x) (h : S2x128x3072.ShapeCasts S256x3072) :
    xsV (F := Ideal) (shapeCast S256x3072 x h) = rScale (F := Ideal) x := by
  funext i
  obtain ⟨b, t, rfl⟩ : ∃ (b : Fin 2) (t : Fin 128), i = ix2 b t := ⟨i 0, i 1, eq_ix2 i⟩
  have hr : b.val * 128 + t.val < 256 := by omega
  have et : tok ⟨b.val * 128 + t.val, hr⟩ = ix2 (n0 := 2) (n1 := 128) b t := by
    funext a; apply Fin.ext
    fin_cases a
    · show (b.val * 128 + t.val) / 128 = b.val; omega
    · show (b.val * 128 + t.val) % 128 = t.val; omega
  rw [← et, rScale_eq hx, ← sclV_eq x h, et]
  unfold xsV k0_pay56
  rw [shapeCast_self]
  refine (extractStridedSlice_apply _ _ _ _ (ix2 (n0 := 128) (n1 := 128) 0 t) (by intro a; fin_cases a <;> first | rfl | exact (Nat.zero_add _).symm)).trans ?_
  refine (transpose_apply _ _ _ _ (ix2 (n0 := 128) (n1 := 128) t 0) (by intro a; fin_cases a <;> rfl)).trans ?_
  unfold xsBlk
  have er : (ix2 (n0 := 256) (n1 := 128) ⟨128 * (b.val % 2) + t.val, by omega⟩ 0 : S256x128.Idx) = ix2 (n0 := 256) (n1 := 128) ⟨b.val * 128 + t.val, hr⟩ 0 := by
    congr 1
    apply Fin.ext
    show 128 * (b.val % 2) + t.val = b.val * 128 + t.val
    omega
  exact (congrArg (k0_pay55 (F := Ideal) (sclV (F := Ideal) (shapeCast S256x3072 x h))) er).trans (pay55_apply _ _ _)

end Cert.Proof.Value

end
-- ==== Proof.Value.Entry.lean ====
/-
  What the kernel's region finds in its inputs, and what the precondition says.
-/
module

public import proofs.«01_k».proof.Proof.Value.Quant2
public import proofs.«01_k».proof.Proof.Gen.KernelIdeal.Frame
public import proofs.«01_k».proof.Pre_finite_x
public import Idealize.ShloMosaic.Lib.ReduceAll

@[expose] public section

set_option maxRecDepth 16384

noncomputable section

namespace Cert.Proof.Value

open Cert.KernelIdeal Cert.KernelIdeal.Gen
open Idealize.ShloMosaic Idealize.ShloMosaic.TcCoe Idealize.ShloMosaic.Tactic

section
variable (m : (ℓ : Loc nD τ sig) → Buf (Elt Ideal) ℓ)

theorem V_v0 (c : Dev nD) : V m c main_v0 = shapeCast S256x3072 (m ((c : Thread nD τ).loc main_arg0)) shapeCasts_S2x128x3072_S256x3072 := by
  show StableHlo.after _ _ _ = _
  simp only [hostOps0, List.flatten_cons, List.flatten_nil, List.append_nil, List.cons_append, List.nil_append]
  after_results_simp
  rfl
theorem V_v1 (c : Dev nD) : V m c main_v1 = shapeCast S1x14336 (m ((c : Thread nD τ).loc main_arg2)) shapeCasts_S14336_S1x14336 := by
  show StableHlo.after _ _ _ = _
  simp only [hostOps0, List.flatten_cons, List.flatten_nil, List.append_nil, List.cons_append, List.nil_append]
  after_results_simp
  rfl
theorem V_v2 (c : Dev nD) : V m c main_v2 = transpose S16x28 [1, 0] (m ((c : Thread nD τ).loc main_arg3)) transposes_S28x16_S16x28_1_0 := by
  show StableHlo.after _ _ _ = _
  simp only [hostOps0, List.flatten_cons, List.flatten_nil, List.append_nil, List.cons_append, List.nil_append]
  after_results_simp
theorem V_v3 (c : Dev nD) : V m c main_v3 = transpose S40x512 [1, 0] (m ((c : Thread nD τ).loc main_arg5)) transposes_S512x40_S40x512_1_0 := by
  show StableHlo.after _ _ _ = _
  simp only [hostOps0, List.flatten_cons, List.flatten_nil, List.append_nil, List.cons_append, List.nil_append]
  after_results_simp
end

/-- The precondition's side conditions. -/
theorem preFacts : Cert.Pre_finite_x.Facts where
  bcast_S_S2x128x3072 := by decide
  reducesTo_S2x128x3072_S_d0_1_2 := by decide
  h_S_ := by decide

/-- The precondition: every activation is finite. -/
theorem bounded_of_pre (x : FVec Ideal S2x128x3072 .bf16) (w : FVec Ideal S14336x3072 .fp8e4m3) (ws : FVec Ideal S14336 .f32) (cc : FVec Ideal S28x16 .bf16)
    (dd : FVec Ideal S40x192 .bf16) (du : FVec Ideal S512x40 .bf16)
    (h : @Cert.Pre_finite_x.fn preFacts Ideal _ x w ws cc dd du = (fun _ => 1#1)) : Bounded x := by
  intro i
  have h0 := congrFun h (fun a => a.elim0)
  dsimp only [Cert.Pre_finite_x.fn] at h0
  have h1 := Host.reduce_andi_all _ _ _ _ _ h0 i
  have h2 : BitVec.ofBool (decide (max (x i) (-(x i)) ≤ Ideal.ofBits .bf16 0x7F7F#16)) = 1#1 := h1
  by_contra hn
  rw [decide_eq_false hn] at h2
  exact absurd h2 (by decide)

end Cert.Proof.Value

end
-- ==== Proof.Value.Dots.lean ====
/-
  The remaining contractions read at an index: the mixing weights' spread and the reference's three einsums.
-/
module

public import proofs.«01_k».proof.Proof.Ideal.Names
public import proofs.«01_k».proof.Proof.Gen.ReferenceIdeal.Frame
public import Idealize.ShloMosaic.Lib.ValueIdx
import Idealize.ShloMosaic.Lib.Pointwise

@[expose] public section

set_option maxRecDepth 16384

noncomputable section

namespace Cert.Proof.Value

open Idealize.ShloMosaic Idealize.ShloMosaic.TcCoe

theorem dot_spread (a : FVec Ideal Cert.KernelIdeal.S16x28 .bf16) (b : FVec Ideal Cert.KernelIdeal.S16x256 .bf16) (i : Fin 28) (q : Fin 256) :
    FloatOps.matmul Cert.KernelIdeal.dot_S16x28_S16x256_S28x256_0_0_1_1_n_n none a b (constant Cert.KernelIdeal.S28x256 .f32 0x00000000#32) (ValueIdx.ix2 (n0 := 28) (n1 := 256) i q)
      = ∑ p : Fin 16, a (ValueIdx.ix2 (n0 := 16) (n1 := 28) p i) * b (ValueIdx.ix2 (n0 := 16) (n1 := 256) p q) := by
  refine (Ideal.matmul_apply₁ _ rfl rfl a b _ _).trans ?_
  show Ideal.ofBits .f32 0x00000000#32 + _ = _
  rw [Ideal.ofBits_zero_f32, zero_add]
  refine Finset.sum_congr rfl fun k _ => congrArg₂ (· * ·) (congrArg a (funext fun c => Fin.ext ?_)) (congrArg b (funext fun c => Fin.ext ?_))
  · fin_cases c <;> rfl
  · fin_cases c <;> rfl

theorem dot_first (a : FVec Ideal Cert.ReferenceIdeal.S2x128x16x192 .bf16) (b : FVec Ideal Cert.ReferenceIdeal.S40x192 .bf16)
    (s : Fin 2) (t : Fin 128) (p : Fin 16) (k : Fin 40) :
    Host.dotGeneral Cert.ReferenceIdeal.dot_S2x128x16x192_S40x192_S2x128x16x40_3_1_012_0_n_n none a b (ValueIdx.ix4 (n0 := 2) (n1 := 128) (n2 := 16) (n3 := 40) s t p k)
      = ∑ q : Fin 192, a (ValueIdx.ix4 (n0 := 2) (n1 := 128) (n2 := 16) (n3 := 192) s t p q) * b (ValueIdx.ix2 (n0 := 40) (n1 := 192) k q) := by
  refine (Ideal.matmul_apply₁ _ rfl rfl a b _ _).trans ?_
  refine (zero_add _).trans ?_
  refine Finset.sum_congr rfl fun k _ => congrArg₂ (· * ·) (congrArg a (funext fun c => Fin.ext ?_)) (congrArg b (funext fun c => Fin.ext ?_))
  · fin_cases c <;> rfl
  · fin_cases c <;> rfl

theorem dot_second (a : FVec Ideal Cert.ReferenceIdeal.S2x128x16x40 .bf16) (b : FVec Ideal Cert.ReferenceIdeal.S512x40 .bf16)
    (s : Fin 2) (t : Fin 128) (p : Fin 16) (o : Fin 512) :
    Host.dotGeneral Cert.ReferenceIdeal.dot_S2x128x16x40_S512x40_S2x128x16x512_3_1_012_0_n_n none a b (ValueIdx.ix4 (n0 := 2) (n1 := 128) (n2 := 16) (n3 := 512) s t p o)
      = ∑ k : Fin 40, a (ValueIdx.ix4 (n0 := 2) (n1 := 128) (n2 := 16) (n3 := 40) s t p k) * b (ValueIdx.ix2 (n0 := 512) (n1 := 40) o k) := by
  refine (Ideal.matmul_apply₁ _ rfl rfl a b _ _).trans ?_
  refine (zero_add _).trans ?_
  refine Finset.sum_congr rfl fun k _ => congrArg₂ (· * ·) (congrArg a (funext fun c => Fin.ext ?_)) (congrArg b (funext fun c => Fin.ext ?_))
  · fin_cases c <;> rfl
  · fin_cases c <;> rfl

theorem dot_third (a : FVec Ideal Cert.ReferenceIdeal.S2x128x16x512 .bf16) (b : FVec Ideal Cert.ReferenceIdeal.S28x16 .bf16)
    (s : Fin 2) (t : Fin 128) (o : Fin 512) (i : Fin 28) :
    Host.dotGeneral Cert.ReferenceIdeal.dot_S2x128x16x512_S28x16_S2x128x512x28_2_1_013_0_n_n none a b (ValueIdx.ix4 (n0 := 2) (n1 := 128) (n2 := 512) (n3 := 28) s t o i)
      = ∑ p : Fin 16, a (ValueIdx.ix4 (n0 := 2) (n1 := 128) (n2 := 16) (n3 := 512) s t p o) * b (ValueIdx.ix2 (n0 := 28) (n1 := 16) i p) := by
  refine (Ideal.matmul_apply₁ _ rfl rfl a b _ _).trans ?_
  refine (zero_add _).trans ?_
  refine Finset.sum_congr rfl fun k _ => congrArg₂ (· * ·) (congrArg a (funext fun c => Fin.ext ?_)) (congrArg b (funext fun c => Fin.ext ?_))
  · fin_cases c <;> rfl
  · fin_cases c <;> rfl

end Cert.Proof.Value

end
-- ==== Proof.Value.Sums.lean ====
/-
  The kernel's low-rank correction as plain sums: the zeros of its spread-out factors drop out.
-/
module

public import proofs.«01_k».proof.Proof.Ideal.Vals
public import Idealize.ShloMosaic.Lib.MatmulPlain
public import proofs.«01_k».proof.Proof.Value.Dots

@[expose] public section

set_option maxRecDepth 16384

noncomputable section

namespace Cert.Proof.Value

open Cert.KernelIdeal Cert.KernelIdeal.Gen
open Idealize.ShloMosaic Idealize.ShloMosaic.TcCoe Idealize.ShloMosaic.ValueIdx
open Cert.Proof.Ideal

theorem zero16 : Ideal.ofBits .bf16 0x0000#16 = 0 := by
  simp [Ideal.ofBits, Ideal.ieee]

/-- A sum whose terms vanish off the image of `e` is the sum over `e`. -/
theorem sum_pick {N M : ℕ} (e : Fin M → Fin N) (he : Function.Injective e) (f : Fin N → EReal) (h0 : ∀ k, (∀ q, e q ≠ k) → f k = 0) :
    ∑ k : Fin N, f k = ∑ q : Fin M, f (e q) :=
  (Fintype.sum_of_injective e he (fun q => f (e q)) f (fun k hk => h0 k fun q hq => hk ⟨q, hq⟩) (fun _ => rfl)).symm

/-! ## The products -/

theorem pay58_apply (a b : FVec Ideal S256x768 .bf16) (r j : Fin 256) :
    k0_pay58 (F := Ideal) a b (ix2 (n0 := 256) (n1 := 256) r j)
      = ∑ k : Fin 768, a (ix2 (n0 := 256) (n1 := 768) r k) * b (ix2 (n0 := 256) (n1 := 768) j k) := by
  unfold k0_pay58
  rw [shapeCast_self]
  refine (Ideal.matmul_transposedRhs_apply (M := 256) (K := 768) (N := 256) none a b (constant S256x256 .f32 0x00000000#32) r j).trans ?_
  show Ideal.ofBits .f32 0x00000000#32 + _ = _
  rw [Ideal.ofBits_zero_f32, zero_add]

theorem pay62_apply (a : FVec Ideal S256x128 .bf16) (b : FVec Ideal S1x128x512 .bf16) (r : Fin 256) (o : Fin 512) :
    k0_pay62 (F := Ideal) a b (ix3 (n0 := 1) (n1 := 256) (n2 := 512) 0 r o)
      = ∑ k : Fin 128, a (ix2 (n0 := 256) (n1 := 128) r k) * b (ix3 (n0 := 1) (n1 := 128) (n2 := 512) 0 k o) := by
  unfold k0_pay62
  refine (shapeCast_apply (s := S256x512) (t := S1x256x512) _ _ _ (ix2 (n0 := 256) (n1 := 512) r o) ?_).trans ?_
  · rw [Shape.rowMajor_val_two, Shape.rowMajor_val_three]
    show r.val * 512 + o.val = (0 * 256 + r.val) * 512 + o.val
    omega
  refine (Ideal.matmul_plain_apply (M := 256) (K := 128) (N := 512) none a _ (constant S256x512 .f32 0x00000000#32) r o).trans ?_
  show Ideal.ofBits .f32 0x00000000#32 + _ = _
  rw [Ideal.ofBits_zero_f32, zero_add]
  refine Finset.sum_congr rfl fun k _ => congrArg _ ?_
  refine shapeCast_apply (s := S1x128x512) (t := S128x512) _ _ _ _ ?_
  rw [Shape.rowMajor_val_two, Shape.rowMajor_val_three]
  show (0 * 128 + k.val) * 512 + o.val = k.val * 512 + o.val
  omega

theorem pay79_apply (t : FVec Ideal S16x16x512 .bf16) (kv : FVec Ideal S448x256 .bf16) (a : Fin 28) (g : Fin 16) (o : Fin 512) :
    k0_pay79 (F := Ideal) t kv (ix3 (n0 := 28) (n1 := 16) (n2 := 512) a g o)
      = Ideal.ofBits .f32 0x3ECCCCCD#32 * ∑ q : Fin 256, kv (ix2 (n0 := 448) (n1 := 256) ⟨16 * a.val + g.val, by omega⟩ q)
          * t (ix3 (n0 := 16) (n1 := 16) (n2 := 512) ⟨q.val / 16, by omega⟩ ⟨q.val % 16, by omega⟩ o) := by
  unfold k0_pay79
  rw [shapeCast_self]
  show Ideal.ofBits .f32 0x3ECCCCCD#32 * shapeCast S28x16x512 _ _ _ = _
  refine congrArg _ ?_
  refine (shapeCast_apply (s := S448x512) (t := S28x16x512) _ _ _ (ix2 (n0 := 448) (n1 := 512) ⟨16 * a.val + g.val, by omega⟩ o) ?_).trans ?_
  · rw [Shape.rowMajor_val_two, Shape.rowMajor_val_three]
    show (16 * a.val + g.val) * 512 + o.val = (a.val * 16 + g.val) * 512 + o.val
    omega
  refine (Ideal.matmul_plain_apply (M := 448) (K := 256) (N := 512) none kv _ (constant S448x512 .f32 0x00000000#32) _ o).trans ?_
  show Ideal.ofBits .f32 0x00000000#32 + _ = _
  rw [Ideal.ofBits_zero_f32, zero_add]
  refine Finset.sum_congr rfl fun q _ => congrArg _ ?_
  refine shapeCast_apply (s := S16x16x512) (t := S256x512) _ _ _ _ ?_
  rw [Shape.rowMajor_val_two, Shape.rowMajor_val_three]
  show (q.val / 16 * 16 + q.val % 16) * 512 + o.val = q.val * 512 + o.val
  omega

/-! ## The first factor -/

/-- Token `r`'s input group `p` against row `k` of the first factor. -/
def T1 (x : FVec Ideal S256x3072 .bf16) (dd : FVec Ideal S40x192 .bf16) (r : Fin 256) (p : Fin 16) (k : Fin 40) : EReal :=
  ∑ q : Fin 192, x (ix2 (n0 := 256) (n1 := 3072) r ⟨192 * p.val + q.val, by omega⟩) * dd (ix2 (n0 := 40) (n1 := 192) k q)

theorem t1V_eq (x : FVec Ideal S256x3072 .bf16) (dd : FVec Ideal S40x192 .bf16) (r : Fin 256) (p : Fin 16) (k : Fin 40) :
    t1V (F := Ideal) x (rdV dd) (ix2 (n0 := 256) (n1 := 1024) r ⟨64 * p.val + k.val, by omega⟩) = T1 x dd r p k := by
  refine (pay58_apply _ _ _ _).trans ?_
  refine (sum_pick (N := 768) (M := 192) (fun q => ⟨192 * (p.val % 4) + q.val, by omega⟩)
    (fun q q' h => Fin.ext (by have := congrArg Fin.val h; dsimp only at this; omega)) _ ?_).trans ?_
  · intro l hl
    have hne : ¬ (l.val / 192 = p.val % 4) := fun h => hl ⟨l.val - 192 * (p.val % 4), by omega⟩ (Fin.ext (by dsimp only; omega))
    have hz : rdV (F := Ideal) dd (ix2 (n0 := 256) (n1 := 768) ⟨(64 * p.val + k.val) % 256, Nat.mod_lt _ (by decide)⟩ l) = 0 := by
      unfold rdV
      rw [dif_neg]
      · exact zero16
      · show ¬ (l.val / 192 = (64 * p.val + k.val) % 256 / 64 ∧ (64 * p.val + k.val) % 256 % 64 < 40)
        omega
    exact (congrArg _ hz).trans (mul_zero _)
  · refine Finset.sum_congr rfl fun q _ => congrArg₂ (· * ·) ?_ ?_
    · refine congrArg x (funext fun a => Fin.ext ?_)
      fin_cases a
      · rfl
      · show 768 * ((64 * p.val + k.val) / 256 % 4) + (192 * (p.val % 4) + q.val) = 192 * p.val + q.val
        omega
    · unfold rdV
      rw [dif_pos]
      · refine congrArg dd (funext fun a => Fin.ext ?_)
        fin_cases a
        · show (64 * p.val + k.val) % 256 % 64 = k.val
          omega
        · show (192 * (p.val % 4) + q.val) % 192 = q.val
          omega
      · show (192 * (p.val % 4) + q.val) / 192 = (64 * p.val + k.val) % 256 / 64 ∧ (64 * p.val + k.val) % 256 % 64 < 40
        omega

/-! ## The second factor -/

/-- The same, through the second factor. -/
def T2 (x : FVec Ideal S256x3072 .bf16) (dd : FVec Ideal S40x192 .bf16) (du : FVec Ideal S40x512 .bf16) (r : Fin 256) (p : Fin 16) (o : Fin 512) : EReal :=
  ∑ k : Fin 40, T1 x dd r p k * du (ix2 (n0 := 40) (n1 := 512) k o)

theorem tV_eq (x : FVec Ideal S256x3072 .bf16) (dd : FVec Ideal S40x192 .bf16) (du : FVec Ideal S40x512 .bf16) (r : Fin 256) (p : Fin 16) (o : Fin 512) :
    tV (F := Ideal) (t1V x (rdV dd)) (ruV du) (ix3 (n0 := 16) (n1 := 256) (n2 := 512) p r o) = T2 x dd du r p o := by
  refine (pay62_apply _ _ _ _).trans ?_
  refine (sum_pick (N := 128) (M := 40) (fun k => ⟨64 * (p.val % 2) + k.val, by omega⟩)
    (fun q q' h => Fin.ext (by have := congrArg Fin.val h; dsimp only at this; omega)) _ ?_).trans ?_
  · intro l hl
    have hne : ¬ (l.val / 64 = p.val % 2 ∧ l.val % 64 < 40) := fun h =>
      hl ⟨l.val % 64, h.2⟩ (Fin.ext (by dsimp only; omega))
    have hz : ruBlk (ruV (F := Ideal) du) (p.val % 2) (ix3 (n0 := 1) (n1 := 128) (n2 := 512) 0 l o) = 0 := by
      unfold ruBlk ruV
      rw [dif_neg]
      · exact zero16
      · show ¬ (l.val / 64 = p.val % 2 % 2 ∧ l.val % 64 < 40)
        omega
    exact (congrArg _ hz).trans (mul_zero _)
  · refine Finset.sum_congr rfl fun k _ => congrArg₂ (· * ·) ?_ ?_
    · rw [← t1V_eq]
      refine congrArg (t1V (F := Ideal) x (rdV dd)) (funext fun a => Fin.ext ?_)
      fin_cases a
      · rfl
      · show 128 * (p.val / 2 % 8) + (64 * (p.val % 2) + k.val) = 64 * p.val + k.val
        omega
    · unfold ruBlk ruV
      rw [dif_pos]
      · refine congrArg du (funext fun a => Fin.ext ?_)
        fin_cases a
        · show (64 * (p.val % 2) + k.val) % 64 = k.val
          omega
        · rfl
      · show (64 * (p.val % 2) + k.val) / 64 = p.val % 2 % 2 ∧ (64 * (p.val % 2) + k.val) % 64 < 40
        omega

/-! ## The mixing matrix -/

/-- Where column `q` belongs to input group `p`. -/
def selMask : IVec S16x256 1 :=
  cmpi .eq
    (select (andi (cmpi .ne k0_pay11 (broadcast S16x256 1#32))
        (cmpi .ne (remsi (iota .tc S16x256 32 [1] iota_S16x256_d1_w32) (broadcast S16x256 16#32)) (broadcast S16x256 0#32)))
      (subi k0_pay10 (broadcast S16x256 1#32)) k0_pay10)
    (iota .tc S16x256 32 [0] iota_S16x256_d0_w32)

theorem selMask_eq : ∀ (p : Fin 16) (q : Fin 256), selMask (ix2 (n0 := 16) (n1 := 256) p q) = if q.val / 16 = p.val then 1#1 else 0#1 := by
  decide +kernel
theorem pay13_eq : ∀ (g : Fin 16) (q : Fin 256), k0_pay13 (ix2 (n0 := 16) (n1 := 256) g q) = if q.val % 16 = g.val then 1#1 else 0#1 := by
  decide +kernel

/-- The mask as numbers. -/
def selNum : FVec Ideal S16x256 .bf16 := truncf .bf16 (sitofp (F := Ideal) .f32 (extui 32 selMask natLt_1_32)) bitsLt_bf16_f32

theorem selNum_eq (p : Fin 16) (q : Fin 256) : selNum (ix2 (n0 := 16) (n1 := 256) p q) = if q.val / 16 = p.val then 1 else 0 := by
  show ((((selMask (ix2 (n0 := 16) (n1 := 256) p q)).setWidth 32).toInt : ℝ) : EReal) = _
  rw [selMask_eq]
  split <;> simp

theorem k76V_form (cv : FVec Ideal S16x28 .bf16) : k76V (F := Ideal) cv
    = FloatOps.matmul dot_S16x28_S16x256_S28x256_0_0_1_1_n_n none cv selNum (constant S28x256 .f32 0x00000000#32) := rfl

theorem k76V_eq (cv : FVec Ideal S16x28 .bf16) (a : Fin 28) (q : Fin 256) :
    k76V (F := Ideal) cv (ix2 (n0 := 28) (n1 := 256) a q) = cv (ix2 (n0 := 16) (n1 := 28) ⟨q.val / 16, by omega⟩ a) := by
  rw [k76V_form]
  rw [dot_spread, Finset.sum_eq_single (⟨q.val / 16, by omega⟩ : Fin 16)]
  · rw [selNum_eq, if_pos rfl, mul_one]
  · intro p _ hp
    rw [selNum_eq, if_neg (fun h => hp (Fin.ext h.symm)), mul_zero]
  · intro h; exact absurd (Finset.mem_univ _) h

theorem kcV_eq (cv : FVec Ideal S16x28 .bf16) (a : Fin 28) (g : Fin 16) (q : Fin 256) :
    kcV (F := Ideal) (k76V cv) (ix2 (n0 := 448) (n1 := 256) ⟨16 * a.val + g.val, by omega⟩ q)
      = if q.val % 16 = g.val then cv (ix2 (n0 := 16) (n1 := 28) ⟨q.val / 16, by omega⟩ a) else 0 := by
  have ea : (⟨(16 * a.val + g.val) / 16 % 28, Nat.mod_lt _ (by decide)⟩ : Fin 28) = a := Fin.ext (by dsimp only; omega)
  have eg : (⟨(16 * a.val + g.val) % 16, Nat.mod_lt _ (by decide)⟩ : Fin 16) = g := Fin.ext (by dsimp only; omega)
  show Scalar.select (k0_pay13 (ix2 (n0 := 16) (n1 := 256) ⟨(16 * a.val + g.val) % 16, Nat.mod_lt _ (by decide)⟩ q))
    (k76V (F := Ideal) cv (ix2 (n0 := 28) (n1 := 256) ⟨(16 * a.val + g.val) / 16 % 28, Nat.mod_lt _ (by decide)⟩ q))
    (Ideal.ofBits .f32 0x00000000#32) = _
  rw [ea, eg, pay13_eq, k76V_eq, Ideal.ofBits_zero_f32]
  split <;> rfl

/-! ## The correction -/

theorem uV_eq (x : FVec Ideal S256x3072 .bf16) (cv : FVec Ideal S16x28 .bf16) (dd : FVec Ideal S40x192 .bf16) (du : FVec Ideal S40x512 .bf16)
    (a : Fin 28) (r : Fin 256) (o : Fin 512) :
    uV (F := Ideal) x cv dd du (ix3 (n0 := 28) (n1 := 256) (n2 := 512) a r o)
      = Ideal.ofBits .f32 0x3ECCCCCD#32 * ∑ p : Fin 16, cv (ix2 (n0 := 16) (n1 := 28) p a) * T2 x dd du r p o := by
  refine (pay79_apply _ _ a ⟨r.val % 16, by omega⟩ o).trans (congrArg _ ?_)
  refine (sum_pick (N := 256) (M := 16) (fun p => ⟨16 * p.val + r.val % 16, by omega⟩)
    (fun q q' h => Fin.ext (by have := congrArg Fin.val h; dsimp only at this; omega)) _ ?_).trans ?_
  · intro q hq
    have hne : ¬ q.val % 16 = r.val % 16 := fun h => hq ⟨q.val / 16, by omega⟩ (Fin.ext (by dsimp only; omega))
    rw [kcV_eq, if_neg hne, zero_mul]
  · refine Finset.sum_congr rfl fun p _ => congrArg₂ (· * ·) ?_ ?_
    · rw [kcV_eq, if_pos (by dsimp only; omega)]
      refine congrArg cv (funext fun b => Fin.ext ?_)
      fin_cases b
      · show (16 * p.val + r.val % 16) / 16 = p.val
        omega
      · rfl
    · rw [← tV_eq]
      refine congrArg (tV (F := Ideal) (t1V x (rdV dd)) (ruV du)) (funext fun b => Fin.ext ?_)
      fin_cases b
      · show (16 * p.val + r.val % 16) / 16 = p.val
        omega
      · show 16 * (r.val / 16 % 16) + (16 * p.val + r.val % 16) % 16 = r.val
        omega
      · rfl

end Cert.Proof.Value

end
-- ==== Proof.Value.Tile.lean ====
/-
  The first result: the reference's correction as the kernel's sums, and the scaled product tile by tile.
-/
module

public import proofs.«01_k».proof.Proof.Value.Sums
public import proofs.«01_k».proof.Proof.Value.Quant2
public import proofs.«01_k».proof.Proof.Ideal.Split

@[expose] public section

set_option maxRecDepth 16384

noncomputable section

namespace Cert.Proof.Value

open Cert.KernelIdeal Cert.KernelIdeal.Gen
open Idealize.ShloMosaic Idealize.ShloMosaic.TcCoe Idealize.ShloMosaic.ValueIdx
open Cert.Proof.Ideal
open Cert.Proof.Reference (rScale rCodes rT1 rT rU rY)

/-! ## The reference's correction -/

section
variable (x : FVec Ideal S2x128x3072 .bf16) (h : S2x128x3072.ShapeCasts S256x3072) (cc : FVec Ideal S28x16 .bf16) (dd : FVec Ideal S40x192 .bf16)
  (du : FVec Ideal S512x40 .bf16) (hc : S28x16.Transposes [1, 0] S16x28) (hu : S512x40.Transposes [1, 0] S40x512)

theorem rT1_eq (r : Fin 256) (p : Fin 16) (k : Fin 40) :
    rT1 (F := Ideal) x dd (ix4 (n0 := 2) (n1 := 128) (n2 := 16) (n3 := 40) ⟨r.val / 128, by omega⟩ ⟨r.val % 128, by omega⟩ p k)
      = T1 (shapeCast S256x3072 x h) dd r p k := by
  refine (dot_first _ _ _ _ _ _).trans ?_
  unfold T1
  refine Finset.sum_congr rfl fun q _ => congrArg (· * _) ?_
  rw [flat_apply]
  refine shapeCast_apply (s := S2x128x3072) _ _ _ _ ?_
  rw [Shape.rowMajor_val_three, Shape.rowMajor_val_four]
  show (r.val / 128 * 128 + r.val % 128) * 3072 + (192 * p.val + q.val) = ((r.val / 128 * 128 + r.val % 128) * 16 + p.val) * 192 + q.val
  omega

theorem rT_eq (r : Fin 256) (p : Fin 16) (o : Fin 512) :
    rT (F := Ideal) x dd du (ix4 (n0 := 2) (n1 := 128) (n2 := 16) (n3 := 512) ⟨r.val / 128, by omega⟩ ⟨r.val % 128, by omega⟩ p o)
      = T2 (shapeCast S256x3072 x h) dd (transpose S40x512 [1, 0] du hu) r p o := by
  refine (dot_second _ _ _ _ _ _).trans ?_
  unfold T2
  refine Finset.sum_congr rfl fun k _ => congrArg₂ (· * ·) (rT1_eq x h dd r p k) ?_
  exact (transpose_apply _ du hu _ _ (by intro b; fin_cases b <;> rfl)).symm

theorem rU_eq (r : Fin 256) (a : Fin 28) (o : Fin 512) :
    rU (F := Ideal) x cc dd du (ix2 (n0 := 256) (n1 := 14336) r ⟨512 * a.val + o.val, by omega⟩)
      = uV (F := Ideal) (shapeCast S256x3072 x h) (transpose S16x28 [1, 0] cc hc) dd (transpose S40x512 [1, 0] du hu)
          (ix3 (n0 := 28) (n1 := 256) (n2 := 512) a r o) := by
  rw [uV_eq]
  show Ideal.ofBits .f32 0x3ECCCCCD#32 * shapeCast _ _ _ _ = _
  refine congrArg _ ?_
  refine (shapeCast_apply _ _ _ (ix4 (n0 := 2) (n1 := 128) (n2 := 28) (n3 := 512) ⟨r.val / 128, by omega⟩ ⟨r.val % 128, by omega⟩ a o) ?_).trans ?_
  · rw [Shape.rowMajor_val_four, Shape.rowMajor_val_two]
    show ((r.val / 128 * 128 + r.val % 128) * 28 + a.val) * 512 + o.val = r.val * 14336 + (512 * a.val + o.val)
    omega
  refine (transpose_apply _ _ _ _ (ix4 (n0 := 2) (n1 := 128) (n2 := 512) (n3 := 28) ⟨r.val / 128, by omega⟩ ⟨r.val % 128, by omega⟩ o a)
    (by intro b; fin_cases b <;> rfl)).trans ?_
  refine (dot_third _ _ _ _ _ _).trans ?_
  refine Finset.sum_congr rfl fun p _ => ?_
  rw [rT_eq x h dd du hu r p o, mul_comm]
  refine congrArg (· * _) ?_
  exact (transpose_apply _ cc hc _ _ (by intro b; fin_cases b <;> rfl)).symm
end

/-! ## The scaled product -/

theorem scaled_congr {a a' b b' c c' d d' : EReal} (ha : a = a') (hb : b = b') (hc : c = c') (hd : d = d') : a * b * c + d = a' * b' * c' + d' := by
  rw [ha, hb, hc, hd]

/-- The reference's row and column: product, two scales, correction. -/
theorem rpay2_apply (xq : FVec Ideal S256x3072 .fp8e4m3) (w : FVec Ideal S14336x3072 .fp8e4m3) (xs : FVec Ideal S256x1 .f32) (ws : FVec Ideal S1x14336 .f32)
    (u : FVec Ideal S256x14336 .f32) (r : Fin 256) (n : Fin 14336) :
    Cert.ReferenceIdeal.Gen.k0_pay2 (F := Ideal) xq w xs ws u (ix2 (n0 := 256) (n1 := 14336) r n)
      = (∑ k : Fin 3072, xq (ix2 (n0 := 256) (n1 := 3072) r k) * w (ix2 (n0 := 14336) (n1 := 3072) n k)) * xs (ix2 (n0 := 256) (n1 := 1) r 0)
          * ws (ix2 (n0 := 1) (n1 := 14336) 0 n) + u (ix2 (n0 := 256) (n1 := 14336) r n) := by
  unfold Cert.ReferenceIdeal.Gen.k0_pay2
  simp only [shapeCast_self]
  refine scaled_congr ?_ ?_ ?_ rfl
  · refine (Ideal.matmul_transposedRhs_apply (M := 256) (K := 3072) (N := 14336) none xq w (constant S256x14336 .f32 0x00000000#32) r n).trans ?_
    show Ideal.ofBits .f32 0x00000000#32 + _ = _
    rw [Ideal.ofBits_zero_f32, zero_add]
  · exact broadcastTo_apply _ _ _ _ (by intro b; fin_cases b <;> rfl)
  · exact broadcastTo_apply _ _ _ _ (by intro b; fin_cases b <;> rfl)

/-- The kernel's tile likewise. -/
theorem kpay1_apply (xq : FVec Ideal S256x3072 .fp8e4m3) (w : FVec Ideal S1x512x3072 .fp8e4m3) (v : FVec Ideal S256x512 .f32) (ws : FVec Ideal S1x512 .f32)
    (u : FVec Ideal S1x256x512 .f32) (r : Fin 256) (o : Fin 512) :
    k0_pay1 (F := Ideal) v xq w ws u (ix3 (n0 := 1) (n1 := 256) (n2 := 512) 0 r o)
      = (∑ k : Fin 3072, xq (ix2 (n0 := 256) (n1 := 3072) r k) * w (ix3 (n0 := 1) (n1 := 512) (n2 := 3072) 0 o k)) * v (ix2 (n0 := 256) (n1 := 512) r o)
          * ws (ix2 (n0 := 1) (n1 := 512) 0 o) + u (ix3 (n0 := 1) (n1 := 256) (n2 := 512) 0 r o) := by
  unfold k0_pay1
  refine (shapeCast_apply (s := S256x512) (t := S1x256x512) _ _ _ (ix2 (n0 := 256) (n1 := 512) r o) ?_).trans ?_
  · rw [Shape.rowMajor_val_two, Shape.rowMajor_val_three]
    show r.val * 512 + o.val = (0 * 256 + r.val) * 512 + o.val
    omega
  refine scaled_congr ?_ rfl ?_ ?_
  · refine (Ideal.matmul_transposedRhs_apply (M := 256) (K := 3072) (N := 512) none xq _ (constant S256x512 .f32 0x00000000#32) r o).trans ?_
    show Ideal.ofBits .f32 0x00000000#32 + _ = _
    rw [Ideal.ofBits_zero_f32, zero_add]
    refine Finset.sum_congr rfl fun k _ => congrArg _ ?_
    refine shapeCast_apply (s := S1x512x3072) (t := S512x3072) _ _ _ _ ?_
    rw [Shape.rowMajor_val_two, Shape.rowMajor_val_three]
    show (0 * 512 + o.val) * 3072 + k.val = o.val * 3072 + k.val
    omega
  · exact broadcastTo_apply _ _ _ _ (by intro b; fin_cases b <;> rfl)
  · refine shapeCast_apply (s := S1x256x512) (t := S256x512) _ _ _ _ ?_
    rw [Shape.rowMajor_val_two, Shape.rowMajor_val_three]
    show (0 * 256 + r.val) * 512 + o.val = r.val * 512 + o.val
    omega

/-- Four copies side by side: column `o` is column `o % 128`. -/
theorem pay80_apply (v : FVec Ideal S256x128 .f32) (r : Fin 256) (o : Fin 512) :
    k0_pay80 (F := Ideal) v (ix2 (n0 := 256) (n1 := 512) r o) = v (ix2 (n0 := 256) (n1 := 128) r ⟨o.val % 128, by omega⟩) := by
  unfold k0_pay80
  exact concatenate_replicate_apply (t := S256x512) (s₁ := S256x128) 1 4 v _ rfl _ _ rfl (by
    intro b hb
    fin_cases b
    · rfl
    · exact absurd rfl hb)

/-! ## The first result -/

theorem y_eq {x : FVec Ideal S2x128x3072 .bf16} (hx : Bounded x) (h : S2x128x3072.ShapeCasts S256x3072) (w : FVec Ideal S14336x3072 .fp8e4m3)
    (ws : FVec Ideal S14336 .f32) (hw : S14336.ShapeCasts S1x14336) (cc : FVec Ideal S28x16 .bf16) (dd : FVec Ideal S40x192 .bf16)
    (du : FVec Ideal S512x40 .bf16) (hc : S28x16.Transposes [1, 0] S16x28) (hu : S512x40.Transposes [1, 0] S40x512) :
    yAll (yV (F := Ideal) (shapeCast S256x3072 x h) w (shapeCast S1x14336 ws hw) (transpose S16x28 [1, 0] cc hc) dd (transpose S40x512 [1, 0] du hu))
      = rY (F := Ideal) x w ws cc dd du := by
  funext i
  obtain ⟨r, n, rfl⟩ : ∃ (r : Fin 256) (n : Fin 14336), i = ix2 r n := ⟨i 0, i 1, eq_ix2 i⟩
  obtain ⟨a, o, rfl⟩ : ∃ (a : Fin 28) (o : Fin 512), n = ⟨512 * a.val + o.val, by omega⟩ :=
    ⟨⟨n.val / 512, by omega⟩, ⟨n.val % 512, by omega⟩, Fin.ext (by dsimp only; omega)⟩
  have ea : (512 * a.val + o.val) / 512 = a.val := by omega
  have ea2 : 512 * (a.val % 28) + o.val = 512 * a.val + o.val := by omega
  have eo : (⟨(512 * a.val + o.val) % 512, Nat.mod_lt _ (by decide)⟩ : Fin 512) = o := Fin.ext (by dsimp only; omega)
  have en : (⟨512 * (a.val % 28) + o.val, by omega⟩ : Fin 14336) = ⟨512 * a.val + o.val, by omega⟩ := Fin.ext ea2
  have ef : (⟨a.val % 28, Nat.mod_lt _ (by decide)⟩ : Fin 28) = a := Fin.ext (by dsimp only; omega)
  show yV (F := Ideal) _ _ _ _ _ _ ((512 * a.val + o.val) / 512) (ix2 (n0 := 256) (n1 := 512) r ⟨(512 * a.val + o.val) % 512, Nat.mod_lt _ (by decide)⟩) = _
  rw [ea, eo]
  refine (kpay1_apply _ _ _ _ _ r o).trans ?_
  unfold rY
  refine Eq.trans ?_ (rpay2_apply _ _ _ _ _ r _).symm
  refine scaled_congr ?_ ?_ ?_ ?_
  · rw [codes_eq hx h]
    refine Finset.sum_congr rfl fun k _ => congrArg _ ?_
    show w (ix2 (n0 := 14336) (n1 := 3072) ⟨512 * (a.val % 28) + o.val, _⟩ k) = _
    rw [en]
  · rw [pay80_apply, pay55_apply, sclV_eq, ← rScale_eq hx]
    refine (shapeCast_apply _ _ _ (tok r) ?_).symm
    rw [Shape.rowMajor_val_two, Shape.rowMajor_val_two]
    show r.val / 128 * 128 + r.val % 128 = r.val * 1 + 0
    omega
  · show shapeCast S1x14336 ws hw (ix2 (n0 := 1) (n1 := 14336) 0 ⟨512 * (a.val % 28) + o.val, _⟩) = _
    rw [en]
  · show uV (F := Ideal) _ _ _ _ (ix3 (n0 := 28) (n1 := 256) (n2 := 512) ⟨a.val % 28, _⟩ r o) = _
    rw [ef]
    exact (rU_eq x h cc dd du hc hu r a o).symm

end Cert.Proof.Value

end
-- ==== Proof.lean ====
/-
  The claim: the kernel runs, as printed and at exact numbers, and so does the reference; and at exact numbers, on finite
  activations, the kernel's three results are the reference's.
-/
module

public import proofs.«01_k».proof.Defs
public import proofs.«01_k».proof.Proof.Printed.Run
public import proofs.«01_k».proof.Proof.Gen.ReferenceIdeal
public import proofs.«01_k».proof.Proof.Gen.ReferenceIdeal.Frame
public import proofs.«01_k».proof.Proof.Value.Entry
public import proofs.«01_k».proof.Proof.Value.Tile
public import Idealize.ShloMosaic.Adequacy
public import Idealize.ShloMosaic.Init

@[expose] public section

set_option maxRecDepth 16384

noncomputable section

namespace Cert.Proof

open Idealize.ShloMosaic Idealize.ShloMosaic.TcCoe Idealize.SL.Sem

section
open Cert.KernelIdeal Cert.KernelIdeal.Gen
variable (m : (ℓ : Loc nD τ sig) → Buf (Elt Ideal) ℓ) (c : Dev nD) (hx : Cert.Proof.Value.Bounded (m ((c : Thread nD τ).loc main_arg0)))
include hx

theorem y_out : Cert.Proof.Ideal.yOut m c
    = Cert.Proof.Reference.rY (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  unfold Cert.Proof.Ideal.yOut
  rw [Cert.Proof.Value.V_v0, Cert.Proof.Value.V_v1, Cert.Proof.Value.V_v2, Cert.Proof.Value.V_v3, V_main_arg1, V_main_arg4]
  exact Cert.Proof.Value.y_eq hx _ _ _ _ _ _ _ _ _

theorem xc_out : Cert.Proof.Ideal.xcOut m c = Cert.Proof.Reference.rCodes (F := Ideal) (m ((c : Thread nD τ).loc main_arg0)) := by
  unfold Cert.Proof.Ideal.xcOut
  rw [Cert.Proof.Value.V_v0]
  exact Cert.Proof.Value.codes_eq hx _

theorem xs_out : Cert.Proof.Ideal.xsOut m c = Cert.Proof.Reference.rScale (F := Ideal) (m ((c : Thread nD τ).loc main_arg0)) := by
  unfold Cert.Proof.Ideal.xsOut
  rw [Cert.Proof.Value.V_v0]
  exact Cert.Proof.Value.scales_eq hx _
end

/-- At exact numbers and on finite activations the kernel's three results are the reference's. -/
theorem value : Cert.algebraic_KernelIdeal_ReferenceIdeal_pre_finite_x (hKernelIdeal := Cert.KernelIdeal.Gen.facts)
    (hReferenceIdeal := Cert.ReferenceIdeal.Gen.facts) (hPre_finite_x := Cert.Proof.Value.preFacts) := by
  intro m g m' g' hpre hargs
  refine ⟨_, _, _, (θ_run _ _ _).mono (fun r h c => h.1 c) (Cert.Proof.Ideal.run_main (F := Ideal) m g),
    (θ_run _ _ _).mono (fun r h c => ?_) (Cert.Proof.Reference.run_main (F := Ideal) m' g')⟩
  obtain ⟨a0, a1, a2, a3, a4, a5⟩ := hargs c
  have hx := Cert.Proof.Value.bounded_of_pre _ _ _ _ _ _ (hpre c)
  obtain ⟨h0, h1, h2, hr⟩ := h c
  refine ⟨h0.trans ?_, h1.trans ?_, h2.trans ?_, hr⟩
  · rw [y_out m c hx]
    exact congrArg (fun z => shapeCast Cert.ReferenceIdeal.S2x128x14336 z _) (by rw [a0, a1, a2, a3, a4, a5])
  · rw [xc_out m c hx]
    exact congrArg (fun z => shapeCast Cert.ReferenceIdeal.S2x128x3072 z _) (congrArg (Cert.Proof.Reference.rCodes (F := Ideal)) a0)
  · rw [xs_out m c hx]
    exact congrArg (Cert.Proof.Reference.rScale (F := Ideal)) a0

theorem claim : Cert.Claim := ⟨Cert.Kernel.Gen.facts, Cert.KernelIdeal.Gen.facts, Cert.ReferenceIdeal.Gen.facts, Cert.Proof.Value.preFacts,
  fun m g _ => Cert.Proof.Printed.frame_run m g, fun m g _ => Cert.Proof.Ideal.frame_run m g, fun m g _ => Cert.Proof.Ideal.frame_run m g,
  fun m g _ => Cert.ReferenceIdeal.Gen.frame m g, fun m g _ => Cert.ReferenceIdeal.Gen.frame m g, trivial, value⟩

end Cert.Proof

end
